-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxRefIdeal (m : (ℓ : Loc Cert.FfnCtxRefIdeal.nD Cert.FfnCtxRefIdeal.τ Cert.FfnCtxRefIdeal.sig) → Buf (Elt Ideal) ℓ) : Prop :=
  True

def Pre_ConvCtx (m : (ℓ : Loc Cert.ConvCtx.nD Cert.ConvCtx.τ Cert.ConvCtx.sig) → Buf (Elt Bits) ℓ) : Prop :=
  True

def Pre_ConvCtxIdeal (m : (ℓ : Loc Cert.ConvCtxIdeal.nD Cert.ConvCtxIdeal.τ Cert.ConvCtxIdeal.sig) → Buf (Elt Ideal) ℓ) : Prop :=
  True

def Pre_ConvCtxRefIdeal (m : (ℓ : Loc Cert.ConvCtxRefIdeal.nD Cert.ConvCtxRefIdeal.τ Cert.ConvCtxRefIdeal.sig) → Buf (Elt Ideal) ℓ) : Prop :=
  True

def Pre_QkvCtx (m : (ℓ : Loc Cert.QkvCtx.nD Cert.QkvCtx.τ Cert.QkvCtx.sig) → Buf (Elt Bits) ℓ) : Prop :=
  True

def Pre_QkvCtxIdeal (m : (ℓ : Loc Cert.QkvCtxIdeal.nD Cert.QkvCtxIdeal.τ Cert.QkvCtxIdeal.sig) → Buf (Elt Ideal) ℓ) : Prop :=
  True

def Pre_QkvCtxRefIdeal (m : (ℓ : Loc Cert.QkvCtxRefIdeal.nD Cert.QkvCtxRefIdeal.τ Cert.QkvCtxRefIdeal.sig) → Buf (Elt Ideal) ℓ) : Prop :=
  True

def Pre_OprojCtx (m : (ℓ : Loc Cert.OprojCtx.nD Cert.OprojCtx.τ Cert.OprojCtx.sig) → Buf (Elt Bits) ℓ) : Prop :=
  True

def Pre_OprojCtxIdeal (m : (ℓ : Loc Cert.OprojCtxIdeal.nD Cert.OprojCtxIdeal.τ Cert.OprojCtxIdeal.sig) → Buf (Elt Ideal) ℓ) : Prop :=
  True

def Pre_OprojCtxRefIdeal (m : (ℓ : Loc Cert.OprojCtxRefIdeal.nD Cert.OprojCtxRefIdeal.τ Cert.OprojCtxRefIdeal.sig) → Buf (Elt Ideal) ℓ) : Prop :=
  True

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_finite_ctx [hPre_finite_ctx : Cert.Pre_finite_ctx.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_finite_ctx.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2))).1 = (fun _ => 1#1)
    ∧ (Cert.Pre_finite_ctx.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2))).2 = (fun _ => 1#1)

def Pre_AttnCtxRefIdeal (m : (ℓ : Loc Cert.AttnCtxRefIdeal.nD Cert.AttnCtxRefIdeal.τ Cert.AttnCtxRefIdeal.sig) → Buf (Elt Ideal) ℓ) : Prop :=
  True

def Pre_AttnCtxRefIdeal_finite_ctx [hPre_finite_ctx : Cert.Pre_finite_ctx.Facts] (m : (ℓ : Loc Cert.AttnCtxRefIdeal.nD Cert.AttnCtxRefIdeal.τ Cert.AttnCtxRefIdeal.sig) → Buf (Elt Ideal) ℓ) : Prop :=
  ∀ c : Dev Cert.AttnCtxRefIdeal.nD,
    (Cert.Pre_finite_ctx.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2))).1 = (fun _ => 1#1)
    ∧ (Cert.Pre_finite_ctx.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4))
      ∧ r.2.sem = fun _ => 0)

def quiescent_ConvCtx [hConvCtx : Cert.ConvCtx.Facts] : Prop :=
  ∀ (m : (ℓ : Loc Cert.ConvCtx.nD Cert.ConvCtx.τ Cert.ConvCtx.sig) → Buf (Elt Bits) ℓ) (g : Dev Cert.ConvCtx.nD → PrngReg), Pre_ConvCtx m →
    θ_run (Cert.ConvCtx.defs (F := Bits)) (onTc (τ := Cert.ConvCtx.τ) (Cert.ConvCtx.main (F := Bits))) ⟨m, fun _ => 0, g⟩ (fun r => (∀ c : Dev Cert.ConvCtx.nD,
      r.2.mem ((c.tc : Thread Cert.ConvCtx.nD Cert.ConvCtx.τ).loc Cert.ConvCtx.main_arg0) = m ((c.tc : Thread Cert.ConvCtx.nD Cert.ConvCtx.τ).loc Cert.ConvCtx.main_arg0)
      ∧ r.2.mem ((c.tc : Thread Cert.ConvCtx.nD Cert.ConvCtx.τ).loc Cert.ConvCtx.main_arg1) = m ((c.tc : Thread Cert.ConvCtx.nD Cert.ConvCtx.τ).loc Cert.ConvCtx.main_arg1)
      ∧ r.2.mem ((c.tc : Thread Cert.ConvCtx.nD Cert.ConvCtx.τ).loc Cert.ConvCtx.main_arg2) = m ((c.tc : Thread Cert.ConvCtx.nD Cert.ConvCtx.τ).loc Cert.ConvCtx.main_arg2)
      ∧ r.2.mem ((c.tc : Thread Cert.ConvCtx.nD Cert.ConvCtx.τ).loc Cert.ConvCtx.main_arg3) = m ((c.tc : Thread Cert.ConvCtx.nD Cert.ConvCtx.τ).loc Cert.ConvCtx.main_arg3)
      ∧ r.2.mem ((c.tc : Thread Cert.ConvCtx.nD Cert.ConvCtx.τ).loc Cert.ConvCtx.main_arg4) = m ((c.tc : Thread Cert.ConvCtx.nD Cert.ConvCtx.τ).loc Cert.ConvCtx.main_arg4)
      ∧ r.2.mem ((c.tc : Thread Cert.ConvCtx.nD Cert.ConvCtx.τ).loc Cert.ConvCtx.main_arg5) = m ((c.tc : Thread Cert.ConvCtx.nD Cert.ConvCtx.τ).loc Cert.ConvCtx.main_arg5))
      ∧ r.2.sem = fun _ => 0)

def quiescent_ConvCtxIdeal [hConvCtxIdeal : Cert.ConvCtxIdeal.Facts] : Prop :=
  ∀ (m : (ℓ : Loc Cert.ConvCtxIdeal.nD Cert.ConvCtxIdeal.τ Cert.ConvCtxIdeal.sig) → Buf (Elt Ideal) ℓ) (g : Dev Cert.ConvCtxIdeal.nD → PrngReg), Pre_ConvCtxIdeal m →
    θ_run (Cert.ConvCtxIdeal.defs (F := Ideal)) (onTc (τ := Cert.ConvCtxIdeal.τ) (Cert.ConvCtxIdeal.main (F := Ideal))) ⟨m, fun _ => 0, g⟩ (fun r => (∀ c : Dev Cert.ConvCtxIdeal.nD,
      r.2.mem ((c.tc : Thread Cert.ConvCtxIdeal.nD Cert.ConvCtxIdeal.τ).loc Cert.ConvCtxIdeal.main_arg0) = m ((c.tc : Thread Cert.ConvCtxIdeal.nD Cert.ConvCtxIdeal.τ).loc Cert.ConvCtxIdeal.main_arg0)
      ∧ r.2.mem ((c.tc : Thread Cert.ConvCtxIdeal.nD Cert.ConvCtxIdeal.τ).loc Cert.ConvCtxIdeal.main_arg1) = m ((c.tc : Thread Cert.ConvCtxIdeal.nD Cert.ConvCtxIdeal.τ).loc Cert.ConvCtxIdeal.main_arg1)
      ∧ r.2.mem ((c.tc : Thread Cert.ConvCtxIdeal.nD Cert.ConvCtxIdeal.τ).loc Cert.ConvCtxIdeal.main_arg2) = m ((c.tc : Thread Cert.ConvCtxIdeal.nD Cert.ConvCtxIdeal.τ).loc Cert.ConvCtxIdeal.main_arg2)
      ∧ r.2.mem ((c.tc : Thread Cert.ConvCtxIdeal.nD Cert.ConvCtxIdeal.τ).loc Cert.ConvCtxIdeal.main_arg3) = m ((c.tc : Thread Cert.ConvCtxIdeal.nD Cert.ConvCtxIdeal.τ).loc Cert.ConvCtxIdeal.main_arg3)
      ∧ r.2.mem ((c.tc : Thread Cert.ConvCtxIdeal.nD Cert.ConvCtxIdeal.τ).loc Cert.ConvCtxIdeal.main_arg4) = m ((c.tc : Thread Cert.ConvCtxIdeal.nD Cert.ConvCtxIdeal.τ).loc Cert.ConvCtxIdeal.main_arg4)
      ∧ r.2.mem ((c.tc : Thread Cert.ConvCtxIdeal.nD Cert.ConvCtxIdeal.τ).loc Cert.ConvCtxIdeal.main_arg5) = m ((c.tc : Thread Cert.ConvCtxIdeal.nD Cert.ConvCtxIdeal.τ).loc Cert.ConvCtxIdeal.main_arg5))
      ∧ r.2.sem = fun _ => 0)

def quiescent_ConvCtxRefIdeal [hConvCtxRefIdeal : Cert.ConvCtxRefIdeal.Facts] : Prop :=
  ∀ (m : (ℓ : Loc Cert.ConvCtxRefIdeal.nD Cert.ConvCtxRefIdeal.τ Cert.ConvCtxRefIdeal.sig) → Buf (Elt Ideal) ℓ) (g : Dev Cert.ConvCtxRefIdeal.nD → PrngReg), Pre_ConvCtxRefIdeal m →
    θ_run (Cert.ConvCtxRefIdeal.defs (F := Ideal)) (onTc (τ := Cert.ConvCtxRefIdeal.τ) (Cert.ConvCtxRefIdeal.main (F := Ideal))) ⟨m, fun _ => 0, g⟩ (fun r => (∀ c : Dev Cert.ConvCtxRefIdeal.nD,
      r.2.mem ((c.tc : Thread Cert.ConvCtxRefIdeal.nD Cert.ConvCtxRefIdeal.τ).loc Cert.ConvCtxRefIdeal.main_arg0) = m ((c.tc : Thread Cert.ConvCtxRefIdeal.nD Cert.ConvCtxRefIdeal.τ).loc Cert.ConvCtxRefIdeal.main_arg0)
      ∧ r.2.mem ((c.tc : Thread Cert.ConvCtxRefIdeal.nD Cert.ConvCtxRefIdeal.τ).loc Cert.ConvCtxRefIdeal.main_arg1) = m ((c.tc : Thread Cert.ConvCtxRefIdeal.nD Cert.ConvCtxRefIdeal.τ).loc Cert.ConvCtxRefIdeal.main_arg1)
      ∧ r.2.mem ((c.tc : Thread Cert.ConvCtxRefIdeal.nD Cert.ConvCtxRefIdeal.τ).loc Cert.ConvCtxRefIdeal.main_arg2) = m ((c.tc : Thread Cert.ConvCtxRefIdeal.nD Cert.ConvCtxRefIdeal.τ).loc Cert.ConvCtxRefIdeal.main_arg2)
      ∧ r.2.mem ((c.tc : Thread Cert.ConvCtxRefIdeal.nD Cert.ConvCtxRefIdeal.τ).loc Cert.ConvCtxRefIdeal.main_arg3) = m ((c.tc : Thread Cert.ConvCtxRefIdeal.nD Cert.ConvCtxRefIdeal.τ).loc Cert.ConvCtxRefIdeal.main_arg3)
      ∧ r.2.mem ((c.tc : Thread Cert.ConvCtxRefIdeal.nD Cert.ConvCtxRefIdeal.τ).loc Cert.ConvCtxRefIdeal.main_arg4) = m ((c.tc : Thread Cert.ConvCtxRefIdeal.nD Cert.ConvCtxRefIdeal.τ).loc Cert.ConvCtxRefIdeal.main_arg4)
      ∧ r.2.mem ((c.tc : Thread Cert.ConvCtxRefIdeal.nD Cert.ConvCtxRefIdeal.τ).loc Cert.ConvCtxRefIdeal.main_arg5) = m ((c.tc : Thread Cert.ConvCtxRefIdeal.nD Cert.ConvCtxRefIdeal.τ).loc Cert.ConvCtxRefIdeal.main_arg5))
      ∧ r.2.sem = fun _ => 0)

def quiescent_QkvCtx [hQkvCtx : Cert.QkvCtx.Facts] : Prop :=
  ∀ (m : (ℓ : Loc Cert.QkvCtx.nD Cert.QkvCtx.τ Cert.QkvCtx.sig) → Buf (Elt Bits) ℓ) (g : Dev Cert.QkvCtx.nD → PrngReg), Pre_QkvCtx m →
    θ_run (Cert.QkvCtx.defs (F := Bits)) (onTc (τ := Cert.QkvCtx.τ) (Cert.QkvCtx.main (F := Bits))) ⟨m, fun _ => 0, g⟩ (fun r => (∀ c : Dev Cert.QkvCtx.nD,
      r.2.mem ((c.tc : Thread Cert.QkvCtx.nD Cert.QkvCtx.τ).loc Cert.QkvCtx.main_arg0) = m ((c.tc : Thread Cert.QkvCtx.nD Cert.QkvCtx.τ).loc Cert.QkvCtx.main_arg0)
      ∧ r.2.mem ((c.tc : Thread Cert.QkvCtx.nD Cert.QkvCtx.τ).loc Cert.QkvCtx.main_arg1) = m ((c.tc : Thread Cert.QkvCtx.nD Cert.QkvCtx.τ).loc Cert.QkvCtx.main_arg1)
      ∧ r.2.mem ((c.tc : Thread Cert.QkvCtx.nD Cert.QkvCtx.τ).loc Cert.QkvCtx.main_arg2) = m ((c.tc : Thread Cert.QkvCtx.nD Cert.QkvCtx.τ).loc Cert.QkvCtx.main_arg2)
      ∧ r.2.mem ((c.tc : Thread Cert.QkvCtx.nD Cert.QkvCtx.τ).loc Cert.QkvCtx.main_arg3) = m ((c.tc : Thread Cert.QkvCtx.nD Cert.QkvCtx.τ).loc Cert.QkvCtx.main_arg3)
      ∧ r.2.mem ((c.tc : Thread Cert.QkvCtx.nD Cert.QkvCtx.τ).loc Cert.QkvCtx.main_arg4) = m ((c.tc : Thread Cert.QkvCtx.nD Cert.QkvCtx.τ).loc Cert.QkvCtx.main_arg4)
      ∧ r.2.mem ((c.tc : Thread Cert.QkvCtx.nD Cert.QkvCtx.τ).loc Cert.QkvCtx.main_arg5) = m ((c.tc : Thread Cert.QkvCtx.nD Cert.QkvCtx.τ).loc Cert.QkvCtx.main_arg5))
      ∧ r.2.sem = fun _ => 0)

def quiescent_QkvCtxIdeal [hQkvCtxIdeal : Cert.QkvCtxIdeal.Facts] : Prop :=
  ∀ (m : (ℓ : Loc Cert.QkvCtxIdeal.nD Cert.QkvCtxIdeal.τ Cert.QkvCtxIdeal.sig) → Buf (Elt Ideal) ℓ) (g : Dev Cert.QkvCtxIdeal.nD → PrngReg), Pre_QkvCtxIdeal m →
    θ_run (Cert.QkvCtxIdeal.defs (F := Ideal)) (onTc (τ := Cert.QkvCtxIdeal.τ) (Cert.QkvCtxIdeal.main (F := Ideal))) ⟨m, fun _ => 0, g⟩ (fun r => (∀ c : Dev Cert.QkvCtxIdeal.nD,
      r.2.mem ((c.tc : Thread Cert.QkvCtxIdeal.nD Cert.QkvCtxIdeal.τ).loc Cert.QkvCtxIdeal.main_arg0) = m ((c.tc : Thread Cert.QkvCtxIdeal.nD Cert.QkvCtxIdeal.τ).loc Cert.QkvCtxIdeal.main_arg0)
      ∧ r.2.mem ((c.tc : Thread Cert.QkvCtxIdeal.nD Cert.QkvCtxIdeal.τ).loc Cert.QkvCtxIdeal.main_arg1) = m ((c.tc : Thread Cert.QkvCtxIdeal.nD Cert.QkvCtxIdeal.τ).loc Cert.QkvCtxIdeal.main_arg1)
      ∧ r.2.mem ((c.tc : Thread Cert.QkvCtxIdeal.nD Cert.QkvCtxIdeal.τ).loc Cert.QkvCtxIdeal.main_arg2) = m ((c.tc : Thread Cert.QkvCtxIdeal.nD Cert.QkvCtxIdeal.τ).loc Cert.QkvCtxIdeal.main_arg2)
      ∧ r.2.mem ((c.tc : Thread Cert.QkvCtxIdeal.nD Cert.QkvCtxIdeal.τ).loc Cert.QkvCtxIdeal.main_arg3) = m ((c.tc : Thread Cert.QkvCtxIdeal.nD Cert.QkvCtxIdeal.τ).loc Cert.QkvCtxIdeal.main_arg3)
      ∧ r.2.mem ((c.tc : Thread Cert.QkvCtxIdeal.nD Cert.QkvCtxIdeal.τ).loc Cert.QkvCtxIdeal.main_arg4) = m ((c.tc : Thread Cert.QkvCtxIdeal.nD Cert.QkvCtxIdeal.τ).loc Cert.QkvCtxIdeal.main_arg4)
      ∧ r.2.mem ((c.tc : Thread Cert.QkvCtxIdeal.nD Cert.QkvCtxIdeal.τ).loc Cert.QkvCtxIdeal.main_arg5) = m ((c.tc : Thread Cert.QkvCtxIdeal.nD Cert.QkvCtxIdeal.τ).loc Cert.QkvCtxIdeal.main_arg5))
      ∧ r.2.sem = fun _ => 0)

def quiescent_QkvCtxRefIdeal [hQkvCtxRefIdeal : Cert.QkvCtxRefIdeal.Facts] : Prop :=
  ∀ (m : (ℓ : Loc Cert.QkvCtxRefIdeal.nD Cert.QkvCtxRefIdeal.τ Cert.QkvCtxRefIdeal.sig) → Buf (Elt Ideal) ℓ) (g : Dev Cert.QkvCtxRefIdeal.nD → PrngReg), Pre_QkvCtxRefIdeal m →
    θ_run (Cert.QkvCtxRefIdeal.defs (F := Ideal)) (onTc (τ := Cert.QkvCtxRefIdeal.τ) (Cert.QkvCtxRefIdeal.main (F := Ideal))) ⟨m, fun _ => 0, g⟩ (fun r => (∀ c : Dev Cert.QkvCtxRefIdeal.nD,
      r.2.mem ((c.tc : Thread Cert.QkvCtxRefIdeal.nD Cert.QkvCtxRefIdeal.τ).loc Cert.QkvCtxRefIdeal.main_arg0) = m ((c.tc : Thread Cert.QkvCtxRefIdeal.nD Cert.QkvCtxRefIdeal.τ).loc Cert.QkvCtxRefIdeal.main_arg0)
      ∧ r.2.mem ((c.tc : Thread Cert.QkvCtxRefIdeal.nD Cert.QkvCtxRefIdeal.τ).loc Cert.QkvCtxRefIdeal.main_arg1) = m ((c.tc : Thread Cert.QkvCtxRefIdeal.nD Cert.QkvCtxRefIdeal.τ).loc Cert.QkvCtxRefIdeal.main_arg1)
      ∧ r.2.mem ((c.tc : Thread Cert.QkvCtxRefIdeal.nD Cert.QkvCtxRefIdeal.τ).loc Cert.QkvCtxRefIdeal.main_arg2) = m ((c.tc : Thread Cert.QkvCtxRefIdeal.nD Cert.QkvCtxRefIdeal.τ).loc Cert.QkvCtxRefIdeal.main_arg2)
      ∧ r.2.mem ((c.tc : Thread Cert.QkvCtxRefIdeal.nD Cert.QkvCtxRefIdeal.τ).loc Cert.QkvCtxRefIdeal.main_arg3) = m ((c.tc : Thread Cert.QkvCtxRefIdeal.nD Cert.QkvCtxRefIdeal.τ).loc Cert.QkvCtxRefIdeal.main_arg3)
      ∧ r.2.mem ((c.tc : Thread Cert.QkvCtxRefIdeal.nD Cert.QkvCtxRefIdeal.τ).loc Cert.QkvCtxRefIdeal.main_arg4) = m ((c.tc : Thread Cert.QkvCtxRefIdeal.nD Cert.QkvCtxRefIdeal.τ).loc Cert.QkvCtxRefIdeal.main_arg4)
      ∧ r.2.mem ((c.tc : Thread Cert.QkvCtxRefIdeal.nD Cert.QkvCtxRefIdeal.τ).loc Cert.QkvCtxRefIdeal.main_arg5) = m ((c.tc : Thread Cert.QkvCtxRefIdeal.nD Cert.QkvCtxRefIdeal.τ).loc Cert.QkvCtxRefIdeal.main_arg5))
      ∧ r.2.sem = fun _ => 0)

def quiescent_OprojCtx [hOprojCtx : Cert.OprojCtx.Facts] : Prop :=
  ∀ (m : (ℓ : Loc Cert.OprojCtx.nD Cert.OprojCtx.τ Cert.OprojCtx.sig) → Buf (Elt Bits) ℓ) (g : Dev Cert.OprojCtx.nD → PrngReg), Pre_OprojCtx m →
    θ_run (Cert.OprojCtx.defs (F := Bits)) (onTc (τ := Cert.OprojCtx.τ) (Cert.OprojCtx.main (F := Bits))) ⟨m, fun _ => 0, g⟩ (fun r => (∀ c : Dev Cert.OprojCtx.nD,
      r.2.mem ((c.tc : Thread Cert.OprojCtx.nD Cert.OprojCtx.τ).loc Cert.OprojCtx.main_arg0) = m ((c.tc : Thread Cert.OprojCtx.nD Cert.OprojCtx.τ).loc Cert.OprojCtx.main_arg0)
      ∧ r.2.mem ((c.tc : Thread Cert.OprojCtx.nD Cert.OprojCtx.τ).loc Cert.OprojCtx.main_arg1) = m ((c.tc : Thread Cert.OprojCtx.nD Cert.OprojCtx.τ).loc Cert.OprojCtx.main_arg1)
      ∧ r.2.mem ((c.tc : Thread Cert.OprojCtx.nD Cert.OprojCtx.τ).loc Cert.OprojCtx.main_arg2) = m ((c.tc : Thread Cert.OprojCtx.nD Cert.OprojCtx.τ).loc Cert.OprojCtx.main_arg2)
      ∧ r.2.mem ((c.tc : Thread Cert.OprojCtx.nD Cert.OprojCtx.τ).loc Cert.OprojCtx.main_arg3) = m ((c.tc : Thread Cert.OprojCtx.nD Cert.OprojCtx.τ).loc Cert.OprojCtx.main_arg3))
      ∧ r.2.sem = fun _ => 0)

def quiescent_OprojCtxIdeal [hOprojCtxIdeal : Cert.OprojCtxIdeal.Facts] : Prop :=
  ∀ (m : (ℓ : Loc Cert.OprojCtxIdeal.nD Cert.OprojCtxIdeal.τ Cert.OprojCtxIdeal.sig) → Buf (Elt Ideal) ℓ) (g : Dev Cert.OprojCtxIdeal.nD → PrngReg), Pre_OprojCtxIdeal m →
    θ_run (Cert.OprojCtxIdeal.defs (F := Ideal)) (onTc (τ := Cert.OprojCtxIdeal.τ) (Cert.OprojCtxIdeal.main (F := Ideal))) ⟨m, fun _ => 0, g⟩ (fun r => (∀ c : Dev Cert.OprojCtxIdeal.nD,
      r.2.mem ((c.tc : Thread Cert.OprojCtxIdeal.nD Cert.OprojCtxIdeal.τ).loc Cert.OprojCtxIdeal.main_arg0) = m ((c.tc : Thread Cert.OprojCtxIdeal.nD Cert.OprojCtxIdeal.τ).loc Cert.OprojCtxIdeal.main_arg0)
      ∧ r.2.mem ((c.tc : Thread Cert.OprojCtxIdeal.nD Cert.OprojCtxIdeal.τ).loc Cert.OprojCtxIdeal.main_arg1) = m ((c.tc : Thread Cert.OprojCtxIdeal.nD Cert.OprojCtxIdeal.τ).loc Cert.OprojCtxIdeal.main_arg1)
      ∧ r.2.mem ((c.tc : Thread Cert.OprojCtxIdeal.nD Cert.OprojCtxIdeal.τ).loc Cert.OprojCtxIdeal.main_arg2) = m ((c.tc : Thread Cert.OprojCtxIdeal.nD Cert.OprojCtxIdeal.τ).loc Cert.OprojCtxIdeal.main_arg2)
      ∧ r.2.mem ((c.tc : Thread Cert.OprojCtxIdeal.nD Cert.OprojCtxIdeal.τ).loc Cert.OprojCtxIdeal.main_arg3) = m ((c.tc : Thread Cert.OprojCtxIdeal.nD Cert.OprojCtxIdeal.τ).loc Cert.OprojCtxIdeal.main_arg3))
      ∧ r.2.sem = fun _ => 0)

def quiescent_OprojCtxRefIdeal [hOprojCtxRefIdeal : Cert.OprojCtxRefIdeal.Facts] : Prop :=
  ∀ (m : (ℓ : Loc Cert.OprojCtxRefIdeal.nD Cert.OprojCtxRefIdeal.τ Cert.OprojCtxRefIdeal.sig) → Buf (Elt Ideal) ℓ) (g : Dev Cert.OprojCtxRefIdeal.nD → PrngReg), Pre_OprojCtxRefIdeal m →
    θ_run (Cert.OprojCtxRefIdeal.defs (F := Ideal)) (onTc (τ := Cert.OprojCtxRefIdeal.τ) (Cert.OprojCtxRefIdeal.main (F := Ideal))) ⟨m, fun _ => 0, g⟩ (fun r => (∀ c : Dev Cert.OprojCtxRefIdeal.nD,
      r.2.mem ((c.tc : Thread Cert.OprojCtxRefIdeal.nD Cert.OprojCtxRefIdeal.τ).loc Cert.OprojCtxRefIdeal.main_arg0) = m ((c.tc : Thread Cert.OprojCtxRefIdeal.nD Cert.OprojCtxRefIdeal.τ).loc Cert.OprojCtxRefIdeal.main_arg0)
      ∧ r.2.mem ((c.tc : Thread Cert.OprojCtxRefIdeal.nD Cert.OprojCtxRefIdeal.τ).loc Cert.OprojCtxRefIdeal.main_arg1) = m ((c.tc : Thread Cert.OprojCtxRefIdeal.nD Cert.OprojCtxRefIdeal.τ).loc Cert.OprojCtxRefIdeal.main_arg1)
      ∧ r.2.mem ((c.tc : Thread Cert.OprojCtxRefIdeal.nD Cert.OprojCtxRefIdeal.τ).loc Cert.OprojCtxRefIdeal.main_arg2) = m ((c.tc : Thread Cert.OprojCtxRefIdeal.nD Cert.OprojCtxRefIdeal.τ).loc Cert.OprojCtxRefIdeal.main_arg2)
      ∧ r.2.mem ((c.tc : Thread Cert.OprojCtxRefIdeal.nD Cert.OprojCtxRefIdeal.τ).loc Cert.OprojCtxRefIdeal.main_arg3) = m ((c.tc : Thread Cert.OprojCtxRefIdeal.nD Cert.OprojCtxRefIdeal.τ).loc Cert.OprojCtxRefIdeal.main_arg3))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxIdeal_pre_finite_ctx [hAttnCtxIdeal : Cert.AttnCtxIdeal.Facts] [hPre_finite_ctx : Cert.Pre_finite_ctx.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_finite_ctx m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0)

def quiescent_AttnCtxRefIdeal_pre_finite_ctx [hAttnCtxRefIdeal : Cert.AttnCtxRefIdeal.Facts] [hPre_finite_ctx : Cert.Pre_finite_ctx.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal_finite_ctx m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v54) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v38_0)) (v1 : (c : Dev Cert.QkvIdeal.nD) → Buf (Elt Ideal) ((c.tc : Thread Cert.QkvIdeal.nD Cert.QkvIdeal.τ).loc Cert.QkvIdeal.main_v38_1)) (v2 : (c : Dev Cert.QkvIdeal.nD) → Buf (Elt Ideal) ((c.tc : Thread Cert.QkvIdeal.nD Cert.QkvIdeal.τ).loc Cert.QkvIdeal.main_v38_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v38_0) = v0 c
          ∧ r.2.mem ((c.tc : Thread Cert.QkvIdeal.nD Cert.QkvIdeal.τ).loc Cert.QkvIdeal.main_v38_1) = v1 c
          ∧ r.2.mem ((c.tc : Thread Cert.QkvIdeal.nD Cert.QkvIdeal.τ).loc Cert.QkvIdeal.main_v38_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v135) = v0 c
          ∧ r.2.mem ((c.tc : Thread Cert.QkvRefIdeal.nD Cert.QkvRefIdeal.τ).loc Cert.QkvRefIdeal.main_v137) = v1 c
          ∧ r.2.mem ((c.tc : Thread Cert.QkvRefIdeal.nD Cert.QkvRefIdeal.τ).loc Cert.QkvRefIdeal.main_v138) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v0)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v6) = v0 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v1)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v1) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v34) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4))

def preserves_FfnCtx_FfnCtxIdeal : Prop :=
  True

def algebraic_FfnCtxIdeal_FfnCtxRefIdeal [hFfnCtxIdeal : Cert.FfnCtxIdeal.Facts] [hFfnCtxRefIdeal : Cert.FfnCtxRefIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)
      ∧ m' ((c.tc : Thread Cert.FfnCtxRefIdeal.nD Cert.FfnCtxRefIdeal.τ).loc Cert.FfnCtxRefIdeal.main_arg2) = m ((c.tc : Thread Cert.FfnCtxIdeal.nD Cert.FfnCtxIdeal.τ).loc Cert.FfnCtxIdeal.main_arg2)
      ∧ m' ((c.tc : Thread Cert.FfnCtxRefIdeal.nD Cert.FfnCtxRefIdeal.τ).loc Cert.FfnCtxRefIdeal.main_arg3) = m ((c.tc : Thread Cert.FfnCtxIdeal.nD Cert.FfnCtxIdeal.τ).loc Cert.FfnCtxIdeal.main_arg3)
      ∧ m' ((c.tc : Thread Cert.FfnCtxRefIdeal.nD Cert.FfnCtxRefIdeal.τ).loc Cert.FfnCtxRefIdeal.main_arg4) = m ((c.tc : Thread Cert.FfnCtxIdeal.nD Cert.FfnCtxIdeal.τ).loc Cert.FfnCtxIdeal.main_arg4)) →
    ∃ (v0 : (c : Dev Cert.FfnCtxIdeal.nD) → Buf (Elt Ideal) ((c.tc : Thread Cert.FfnCtxIdeal.nD Cert.FfnCtxIdeal.τ).loc Cert.FfnCtxIdeal.main_v1)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v1) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v34) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1)
          ∧ r.2.mem ((c.tc : Thread Cert.FfnCtxRefIdeal.nD Cert.FfnCtxRefIdeal.τ).loc Cert.FfnCtxRefIdeal.main_arg2) = m' ((c.tc : Thread Cert.FfnCtxRefIdeal.nD Cert.FfnCtxRefIdeal.τ).loc Cert.FfnCtxRefIdeal.main_arg2)
          ∧ r.2.mem ((c.tc : Thread Cert.FfnCtxRefIdeal.nD Cert.FfnCtxRefIdeal.τ).loc Cert.FfnCtxRefIdeal.main_arg3) = m' ((c.tc : Thread Cert.FfnCtxRefIdeal.nD Cert.FfnCtxRefIdeal.τ).loc Cert.FfnCtxRefIdeal.main_arg3)
          ∧ r.2.mem ((c.tc : Thread Cert.FfnCtxRefIdeal.nD Cert.FfnCtxRefIdeal.τ).loc Cert.FfnCtxRefIdeal.main_arg4) = m' ((c.tc : Thread Cert.FfnCtxRefIdeal.nD Cert.FfnCtxRefIdeal.τ).loc Cert.FfnCtxRefIdeal.main_arg4))

def preserves_ConvCtx_ConvCtxIdeal : Prop :=
  True

def algebraic_ConvCtxIdeal_ConvCtxRefIdeal [hConvCtxIdeal : Cert.ConvCtxIdeal.Facts] [hConvCtxRefIdeal : Cert.ConvCtxRefIdeal.Facts] : Prop :=
  ∀ (m : (ℓ : Loc Cert.ConvCtxIdeal.nD Cert.ConvCtxIdeal.τ Cert.ConvCtxIdeal.sig) → Buf (Elt Ideal) ℓ) (g : Dev Cert.ConvCtxIdeal.nD → PrngReg)
    (m' : (ℓ : Loc Cert.ConvCtxRefIdeal.nD Cert.ConvCtxRefIdeal.τ Cert.ConvCtxRefIdeal.sig) → Buf (Elt Ideal) ℓ) (g' : Dev Cert.ConvCtxRefIdeal.nD → PrngReg), Pre_ConvCtxIdeal m →
    (∀ c : Dev Cert.ConvCtxIdeal.nD,
      m' ((c.tc : Thread Cert.ConvCtxRefIdeal.nD Cert.ConvCtxRefIdeal.τ).loc Cert.ConvCtxRefIdeal.main_arg0) = m ((c.tc : Thread Cert.ConvCtxIdeal.nD Cert.ConvCtxIdeal.τ).loc Cert.ConvCtxIdeal.main_arg0)
      ∧ m' ((c.tc : Thread Cert.ConvCtxRefIdeal.nD Cert.ConvCtxRefIdeal.τ).loc Cert.ConvCtxRefIdeal.main_arg1) = m ((c.tc : Thread Cert.ConvCtxIdeal.nD Cert.ConvCtxIdeal.τ).loc Cert.ConvCtxIdeal.main_arg1)
      ∧ m' ((c.tc : Thread Cert.ConvCtxRefIdeal.nD Cert.ConvCtxRefIdeal.τ).loc Cert.ConvCtxRefIdeal.main_arg2) = m ((c.tc : Thread Cert.ConvCtxIdeal.nD Cert.ConvCtxIdeal.τ).loc Cert.ConvCtxIdeal.main_arg2)
      ∧ m' ((c.tc : Thread Cert.ConvCtxRefIdeal.nD Cert.ConvCtxRefIdeal.τ).loc Cert.ConvCtxRefIdeal.main_arg3) = m ((c.tc : Thread Cert.ConvCtxIdeal.nD Cert.ConvCtxIdeal.τ).loc Cert.ConvCtxIdeal.main_arg3)
      ∧ m' ((c.tc : Thread Cert.ConvCtxRefIdeal.nD Cert.ConvCtxRefIdeal.τ).loc Cert.ConvCtxRefIdeal.main_arg4) = m ((c.tc : Thread Cert.ConvCtxIdeal.nD Cert.ConvCtxIdeal.τ).loc Cert.ConvCtxIdeal.main_arg4)
      ∧ m' ((c.tc : Thread Cert.ConvCtxRefIdeal.nD Cert.ConvCtxRefIdeal.τ).loc Cert.ConvCtxRefIdeal.main_arg5) = m ((c.tc : Thread Cert.ConvCtxIdeal.nD Cert.ConvCtxIdeal.τ).loc Cert.ConvCtxIdeal.main_arg5)) →
    ∃ (v0 : (c : Dev Cert.ConvCtxIdeal.nD) → Buf (Elt Ideal) ((c.tc : Thread Cert.ConvCtxIdeal.nD Cert.ConvCtxIdeal.τ).loc Cert.ConvCtxIdeal.main_v1)),
      θ_run (Cert.ConvCtxIdeal.defs (F := Ideal)) (onTc (τ := Cert.ConvCtxIdeal.τ) (Cert.ConvCtxIdeal.main (F := Ideal))) ⟨m, fun _ => 0, g⟩ (fun r => ∀ c : Dev Cert.ConvCtxIdeal.nD,
          r.2.mem ((c.tc : Thread Cert.ConvCtxIdeal.nD Cert.ConvCtxIdeal.τ).loc Cert.ConvCtxIdeal.main_v1) = v0 c
          ∧ r.2.mem ((c.tc : Thread Cert.ConvCtxIdeal.nD Cert.ConvCtxIdeal.τ).loc Cert.ConvCtxIdeal.main_arg0) = m ((c.tc : Thread Cert.ConvCtxIdeal.nD Cert.ConvCtxIdeal.τ).loc Cert.ConvCtxIdeal.main_arg0)
          ∧ r.2.mem ((c.tc : Thread Cert.ConvCtxIdeal.nD Cert.ConvCtxIdeal.τ).loc Cert.ConvCtxIdeal.main_arg1) = m ((c.tc : Thread Cert.ConvCtxIdeal.nD Cert.ConvCtxIdeal.τ).loc Cert.ConvCtxIdeal.main_arg1)
          ∧ r.2.mem ((c.tc : Thread Cert.ConvCtxIdeal.nD Cert.ConvCtxIdeal.τ).loc Cert.ConvCtxIdeal.main_arg2) = m ((c.tc : Thread Cert.ConvCtxIdeal.nD Cert.ConvCtxIdeal.τ).loc Cert.ConvCtxIdeal.main_arg2)
          ∧ r.2.mem ((c.tc : Thread Cert.ConvCtxIdeal.nD Cert.ConvCtxIdeal.τ).loc Cert.ConvCtxIdeal.main_arg3) = m ((c.tc : Thread Cert.ConvCtxIdeal.nD Cert.ConvCtxIdeal.τ).loc Cert.ConvCtxIdeal.main_arg3)
          ∧ r.2.mem ((c.tc : Thread Cert.ConvCtxIdeal.nD Cert.ConvCtxIdeal.τ).loc Cert.ConvCtxIdeal.main_arg4) = m ((c.tc : Thread Cert.ConvCtxIdeal.nD Cert.ConvCtxIdeal.τ).loc Cert.ConvCtxIdeal.main_arg4)
          ∧ r.2.mem ((c.tc : Thread Cert.ConvCtxIdeal.nD Cert.ConvCtxIdeal.τ).loc Cert.ConvCtxIdeal.main_arg5) = m ((c.tc : Thread Cert.ConvCtxIdeal.nD Cert.ConvCtxIdeal.τ).loc Cert.ConvCtxIdeal.main_arg5))
      ∧ θ_run (Cert.ConvCtxRefIdeal.defs (F := Ideal)) (onTc (τ := Cert.ConvCtxRefIdeal.τ) (Cert.ConvCtxRefIdeal.main (F := Ideal))) ⟨m', fun _ => 0, g'⟩ (fun r => ∀ c : Dev Cert.ConvCtxRefIdeal.nD,
          r.2.mem ((c.tc : Thread Cert.ConvCtxRefIdeal.nD Cert.ConvCtxRefIdeal.τ).loc Cert.ConvCtxRefIdeal.main_v54) = v0 c
          ∧ r.2.mem ((c.tc : Thread Cert.ConvCtxRefIdeal.nD Cert.ConvCtxRefIdeal.τ).loc Cert.ConvCtxRefIdeal.main_arg0) = m' ((c.tc : Thread Cert.ConvCtxRefIdeal.nD Cert.ConvCtxRefIdeal.τ).loc Cert.ConvCtxRefIdeal.main_arg0)
          ∧ r.2.mem ((c.tc : Thread Cert.ConvCtxRefIdeal.nD Cert.ConvCtxRefIdeal.τ).loc Cert.ConvCtxRefIdeal.main_arg1) = m' ((c.tc : Thread Cert.ConvCtxRefIdeal.nD Cert.ConvCtxRefIdeal.τ).loc Cert.ConvCtxRefIdeal.main_arg1)
          ∧ r.2.mem ((c.tc : Thread Cert.ConvCtxRefIdeal.nD Cert.ConvCtxRefIdeal.τ).loc Cert.ConvCtxRefIdeal.main_arg2) = m' ((c.tc : Thread Cert.ConvCtxRefIdeal.nD Cert.ConvCtxRefIdeal.τ).loc Cert.ConvCtxRefIdeal.main_arg2)
          ∧ r.2.mem ((c.tc : Thread Cert.ConvCtxRefIdeal.nD Cert.ConvCtxRefIdeal.τ).loc Cert.ConvCtxRefIdeal.main_arg3) = m' ((c.tc : Thread Cert.ConvCtxRefIdeal.nD Cert.ConvCtxRefIdeal.τ).loc Cert.ConvCtxRefIdeal.main_arg3)
          ∧ r.2.mem ((c.tc : Thread Cert.ConvCtxRefIdeal.nD Cert.ConvCtxRefIdeal.τ).loc Cert.ConvCtxRefIdeal.main_arg4) = m' ((c.tc : Thread Cert.ConvCtxRefIdeal.nD Cert.ConvCtxRefIdeal.τ).loc Cert.ConvCtxRefIdeal.main_arg4)
          ∧ r.2.mem ((c.tc : Thread Cert.ConvCtxRefIdeal.nD Cert.ConvCtxRefIdeal.τ).loc Cert.ConvCtxRefIdeal.main_arg5) = m' ((c.tc : Thread Cert.ConvCtxRefIdeal.nD Cert.ConvCtxRefIdeal.τ).loc Cert.ConvCtxRefIdeal.main_arg5))

def preserves_QkvCtx_QkvCtxIdeal : Prop :=
  True

def algebraic_QkvCtxIdeal_QkvCtxRefIdeal [hQkvCtxIdeal : Cert.QkvCtxIdeal.Facts] [hQkvCtxRefIdeal : Cert.QkvCtxRefIdeal.Facts] : Prop :=
  ∀ (m : (ℓ : Loc Cert.QkvCtxIdeal.nD Cert.QkvCtxIdeal.τ Cert.QkvCtxIdeal.sig) → Buf (Elt Ideal) ℓ) (g : Dev Cert.QkvCtxIdeal.nD → PrngReg)
    (m' : (ℓ : Loc Cert.QkvCtxRefIdeal.nD Cert.QkvCtxRefIdeal.τ Cert.QkvCtxRefIdeal.sig) → Buf (Elt Ideal) ℓ) (g' : Dev Cert.QkvCtxRefIdeal.nD → PrngReg), Pre_QkvCtxIdeal m →
    (∀ c : Dev Cert.QkvCtxIdeal.nD,
      m' ((c.tc : Thread Cert.QkvCtxRefIdeal.nD Cert.QkvCtxRefIdeal.τ).loc Cert.QkvCtxRefIdeal.main_arg0) = m ((c.tc : Thread Cert.QkvCtxIdeal.nD Cert.QkvCtxIdeal.τ).loc Cert.QkvCtxIdeal.main_arg0)
      ∧ m' ((c.tc : Thread Cert.QkvCtxRefIdeal.nD Cert.QkvCtxRefIdeal.τ).loc Cert.QkvCtxRefIdeal.main_arg1) = m ((c.tc : Thread Cert.QkvCtxIdeal.nD Cert.QkvCtxIdeal.τ).loc Cert.QkvCtxIdeal.main_arg1)
      ∧ m' ((c.tc : Thread Cert.QkvCtxRefIdeal.nD Cert.QkvCtxRefIdeal.τ).loc Cert.QkvCtxRefIdeal.main_arg2) = m ((c.tc : Thread Cert.QkvCtxIdeal.nD Cert.QkvCtxIdeal.τ).loc Cert.QkvCtxIdeal.main_arg2)
      ∧ m' ((c.tc : Thread Cert.QkvCtxRefIdeal.nD Cert.QkvCtxRefIdeal.τ).loc Cert.QkvCtxRefIdeal.main_arg3) = m ((c.tc : Thread Cert.QkvCtxIdeal.nD Cert.QkvCtxIdeal.τ).loc Cert.QkvCtxIdeal.main_arg3)
      ∧ m' ((c.tc : Thread Cert.QkvCtxRefIdeal.nD Cert.QkvCtxRefIdeal.τ).loc Cert.QkvCtxRefIdeal.main_arg4) = m ((c.tc : Thread Cert.QkvCtxIdeal.nD Cert.QkvCtxIdeal.τ).loc Cert.QkvCtxIdeal.main_arg4)
      ∧ m' ((c.tc : Thread Cert.QkvCtxRefIdeal.nD Cert.QkvCtxRefIdeal.τ).loc Cert.QkvCtxRefIdeal.main_arg5) = m ((c.tc : Thread Cert.QkvCtxIdeal.nD Cert.QkvCtxIdeal.τ).loc Cert.QkvCtxIdeal.main_arg5)) →
    ∃ (v0 : (c : Dev Cert.QkvCtxIdeal.nD) → Buf (Elt Ideal) ((c.tc : Thread Cert.QkvCtxIdeal.nD Cert.QkvCtxIdeal.τ).loc Cert.QkvCtxIdeal.main_v3_0)) (v1 : (c : Dev Cert.QkvCtxIdeal.nD) → Buf (Elt Ideal) ((c.tc : Thread Cert.QkvCtxIdeal.nD Cert.QkvCtxIdeal.τ).loc Cert.QkvCtxIdeal.main_v3_1)) (v2 : (c : Dev Cert.QkvCtxIdeal.nD) → Buf (Elt Ideal) ((c.tc : Thread Cert.QkvCtxIdeal.nD Cert.QkvCtxIdeal.τ).loc Cert.QkvCtxIdeal.main_v3_2)),
      θ_run (Cert.QkvCtxIdeal.defs (F := Ideal)) (onTc (τ := Cert.QkvCtxIdeal.τ) (Cert.QkvCtxIdeal.main (F := Ideal))) ⟨m, fun _ => 0, g⟩ (fun r => ∀ c : Dev Cert.QkvCtxIdeal.nD,
          r.2.mem ((c.tc : Thread Cert.QkvCtxIdeal.nD Cert.QkvCtxIdeal.τ).loc Cert.QkvCtxIdeal.main_v3_0) = v0 c
          ∧ r.2.mem ((c.tc : Thread Cert.QkvCtxIdeal.nD Cert.QkvCtxIdeal.τ).loc Cert.QkvCtxIdeal.main_v3_1) = v1 c
          ∧ r.2.mem ((c.tc : Thread Cert.QkvCtxIdeal.nD Cert.QkvCtxIdeal.τ).loc Cert.QkvCtxIdeal.main_v3_2) = v2 c
          ∧ r.2.mem ((c.tc : Thread Cert.QkvCtxIdeal.nD Cert.QkvCtxIdeal.τ).loc Cert.QkvCtxIdeal.main_arg0) = m ((c.tc : Thread Cert.QkvCtxIdeal.nD Cert.QkvCtxIdeal.τ).loc Cert.QkvCtxIdeal.main_arg0)
          ∧ r.2.mem ((c.tc : Thread Cert.QkvCtxIdeal.nD Cert.QkvCtxIdeal.τ).loc Cert.QkvCtxIdeal.main_arg1) = m ((c.tc : Thread Cert.QkvCtxIdeal.nD Cert.QkvCtxIdeal.τ).loc Cert.QkvCtxIdeal.main_arg1)
          ∧ r.2.mem ((c.tc : Thread Cert.QkvCtxIdeal.nD Cert.QkvCtxIdeal.τ).loc Cert.QkvCtxIdeal.main_arg2) = m ((c.tc : Thread Cert.QkvCtxIdeal.nD Cert.QkvCtxIdeal.τ).loc Cert.QkvCtxIdeal.main_arg2)
          ∧ r.2.mem ((c.tc : Thread Cert.QkvCtxIdeal.nD Cert.QkvCtxIdeal.τ).loc Cert.QkvCtxIdeal.main_arg3) = m ((c.tc : Thread Cert.QkvCtxIdeal.nD Cert.QkvCtxIdeal.τ).loc Cert.QkvCtxIdeal.main_arg3)
          ∧ r.2.mem ((c.tc : Thread Cert.QkvCtxIdeal.nD Cert.QkvCtxIdeal.τ).loc Cert.QkvCtxIdeal.main_arg4) = m ((c.tc : Thread Cert.QkvCtxIdeal.nD Cert.QkvCtxIdeal.τ).loc Cert.QkvCtxIdeal.main_arg4)
          ∧ r.2.mem ((c.tc : Thread Cert.QkvCtxIdeal.nD Cert.QkvCtxIdeal.τ).loc Cert.QkvCtxIdeal.main_arg5) = m ((c.tc : Thread Cert.QkvCtxIdeal.nD Cert.QkvCtxIdeal.τ).loc Cert.QkvCtxIdeal.main_arg5))
      ∧ θ_run (Cert.QkvCtxRefIdeal.defs (F := Ideal)) (onTc (τ := Cert.QkvCtxRefIdeal.τ) (Cert.QkvCtxRefIdeal.main (F := Ideal))) ⟨m', fun _ => 0, g'⟩ (fun r => ∀ c : Dev Cert.QkvCtxRefIdeal.nD,
          r.2.mem ((c.tc : Thread Cert.QkvCtxRefIdeal.nD Cert.QkvCtxRefIdeal.τ).loc Cert.QkvCtxRefIdeal.main_v57) = v0 c
          ∧ r.2.mem ((c.tc : Thread Cert.QkvCtxRefIdeal.nD Cert.QkvCtxRefIdeal.τ).loc Cert.QkvCtxRefIdeal.main_v59) = v1 c
          ∧ r.2.mem ((c.tc : Thread Cert.QkvCtxRefIdeal.nD Cert.QkvCtxRefIdeal.τ).loc Cert.QkvCtxRefIdeal.main_v60) = v2 c
          ∧ r.2.mem ((c.tc : Thread Cert.QkvCtxRefIdeal.nD Cert.QkvCtxRefIdeal.τ).loc Cert.QkvCtxRefIdeal.main_arg0) = m' ((c.tc : Thread Cert.QkvCtxRefIdeal.nD Cert.QkvCtxRefIdeal.τ).loc Cert.QkvCtxRefIdeal.main_arg0)
          ∧ r.2.mem ((c.tc : Thread Cert.QkvCtxRefIdeal.nD Cert.QkvCtxRefIdeal.τ).loc Cert.QkvCtxRefIdeal.main_arg1) = m' ((c.tc : Thread Cert.QkvCtxRefIdeal.nD Cert.QkvCtxRefIdeal.τ).loc Cert.QkvCtxRefIdeal.main_arg1)
          ∧ r.2.mem ((c.tc : Thread Cert.QkvCtxRefIdeal.nD Cert.QkvCtxRefIdeal.τ).loc Cert.QkvCtxRefIdeal.main_arg2) = m' ((c.tc : Thread Cert.QkvCtxRefIdeal.nD Cert.QkvCtxRefIdeal.τ).loc Cert.QkvCtxRefIdeal.main_arg2)
          ∧ r.2.mem ((c.tc : Thread Cert.QkvCtxRefIdeal.nD Cert.QkvCtxRefIdeal.τ).loc Cert.QkvCtxRefIdeal.main_arg3) = m' ((c.tc : Thread Cert.QkvCtxRefIdeal.nD Cert.QkvCtxRefIdeal.τ).loc Cert.QkvCtxRefIdeal.main_arg3)
          ∧ r.2.mem ((c.tc : Thread Cert.QkvCtxRefIdeal.nD Cert.QkvCtxRefIdeal.τ).loc Cert.QkvCtxRefIdeal.main_arg4) = m' ((c.tc : Thread Cert.QkvCtxRefIdeal.nD Cert.QkvCtxRefIdeal.τ).loc Cert.QkvCtxRefIdeal.main_arg4)
          ∧ r.2.mem ((c.tc : Thread Cert.QkvCtxRefIdeal.nD Cert.QkvCtxRefIdeal.τ).loc Cert.QkvCtxRefIdeal.main_arg5) = m' ((c.tc : Thread Cert.QkvCtxRefIdeal.nD Cert.QkvCtxRefIdeal.τ).loc Cert.QkvCtxRefIdeal.main_arg5))

def preserves_OprojCtx_OprojCtxIdeal : Prop :=
  True

def algebraic_OprojCtxIdeal_OprojCtxRefIdeal [hOprojCtxIdeal : Cert.OprojCtxIdeal.Facts] [hOprojCtxRefIdeal : Cert.OprojCtxRefIdeal.Facts] : Prop :=
  ∀ (m : (ℓ : Loc Cert.OprojCtxIdeal.nD Cert.OprojCtxIdeal.τ Cert.OprojCtxIdeal.sig) → Buf (Elt Ideal) ℓ) (g : Dev Cert.OprojCtxIdeal.nD → PrngReg)
    (m' : (ℓ : Loc Cert.OprojCtxRefIdeal.nD Cert.OprojCtxRefIdeal.τ Cert.OprojCtxRefIdeal.sig) → Buf (Elt Ideal) ℓ) (g' : Dev Cert.OprojCtxRefIdeal.nD → PrngReg), Pre_OprojCtxIdeal m →
    (∀ c : Dev Cert.OprojCtxIdeal.nD,
      m' ((c.tc : Thread Cert.OprojCtxRefIdeal.nD Cert.OprojCtxRefIdeal.τ).loc Cert.OprojCtxRefIdeal.main_arg0) = m ((c.tc : Thread Cert.OprojCtxIdeal.nD Cert.OprojCtxIdeal.τ).loc Cert.OprojCtxIdeal.main_arg0)
      ∧ m' ((c.tc : Thread Cert.OprojCtxRefIdeal.nD Cert.OprojCtxRefIdeal.τ).loc Cert.OprojCtxRefIdeal.main_arg1) = m ((c.tc : Thread Cert.OprojCtxIdeal.nD Cert.OprojCtxIdeal.τ).loc Cert.OprojCtxIdeal.main_arg1)
      ∧ m' ((c.tc : Thread Cert.OprojCtxRefIdeal.nD Cert.OprojCtxRefIdeal.τ).loc Cert.OprojCtxRefIdeal.main_arg2) = m ((c.tc : Thread Cert.OprojCtxIdeal.nD Cert.OprojCtxIdeal.τ).loc Cert.OprojCtxIdeal.main_arg2)
      ∧ m' ((c.tc : Thread Cert.OprojCtxRefIdeal.nD Cert.OprojCtxRefIdeal.τ).loc Cert.OprojCtxRefIdeal.main_arg3) = m ((c.tc : Thread Cert.OprojCtxIdeal.nD Cert.OprojCtxIdeal.τ).loc Cert.OprojCtxIdeal.main_arg3)) →
    ∃ (v0 : (c : Dev Cert.OprojCtxIdeal.nD) → Buf (Elt Ideal) ((c.tc : Thread Cert.OprojCtxIdeal.nD Cert.OprojCtxIdeal.τ).loc Cert.OprojCtxIdeal.main_v0)),
      θ_run (Cert.OprojCtxIdeal.defs (F := Ideal)) (onTc (τ := Cert.OprojCtxIdeal.τ) (Cert.OprojCtxIdeal.main (F := Ideal))) ⟨m, fun _ => 0, g⟩ (fun r => ∀ c : Dev Cert.OprojCtxIdeal.nD,
          r.2.mem ((c.tc : Thread Cert.OprojCtxIdeal.nD Cert.OprojCtxIdeal.τ).loc Cert.OprojCtxIdeal.main_v0) = v0 c
          ∧ r.2.mem ((c.tc : Thread Cert.OprojCtxIdeal.nD Cert.OprojCtxIdeal.τ).loc Cert.OprojCtxIdeal.main_arg0) = m ((c.tc : Thread Cert.OprojCtxIdeal.nD Cert.OprojCtxIdeal.τ).loc Cert.OprojCtxIdeal.main_arg0)
          ∧ r.2.mem ((c.tc : Thread Cert.OprojCtxIdeal.nD Cert.OprojCtxIdeal.τ).loc Cert.OprojCtxIdeal.main_arg1) = m ((c.tc : Thread Cert.OprojCtxIdeal.nD Cert.OprojCtxIdeal.τ).loc Cert.OprojCtxIdeal.main_arg1)
          ∧ r.2.mem ((c.tc : Thread Cert.OprojCtxIdeal.nD Cert.OprojCtxIdeal.τ).loc Cert.OprojCtxIdeal.main_arg2) = m ((c.tc : Thread Cert.OprojCtxIdeal.nD Cert.OprojCtxIdeal.τ).loc Cert.OprojCtxIdeal.main_arg2)
          ∧ r.2.mem ((c.tc : Thread Cert.OprojCtxIdeal.nD Cert.OprojCtxIdeal.τ).loc Cert.OprojCtxIdeal.main_arg3) = m ((c.tc : Thread Cert.OprojCtxIdeal.nD Cert.OprojCtxIdeal.τ).loc Cert.OprojCtxIdeal.main_arg3))
      ∧ θ_run (Cert.OprojCtxRefIdeal.defs (F := Ideal)) (onTc (τ := Cert.OprojCtxRefIdeal.τ) (Cert.OprojCtxRefIdeal.main (F := Ideal))) ⟨m', fun _ => 0, g'⟩ (fun r => ∀ c : Dev Cert.OprojCtxRefIdeal.nD,
          r.2.mem ((c.tc : Thread Cert.OprojCtxRefIdeal.nD Cert.OprojCtxRefIdeal.τ).loc Cert.OprojCtxRefIdeal.main_v6) = v0 c
          ∧ r.2.mem ((c.tc : Thread Cert.OprojCtxRefIdeal.nD Cert.OprojCtxRefIdeal.τ).loc Cert.OprojCtxRefIdeal.main_arg0) = m' ((c.tc : Thread Cert.OprojCtxRefIdeal.nD Cert.OprojCtxRefIdeal.τ).loc Cert.OprojCtxRefIdeal.main_arg0)
          ∧ r.2.mem ((c.tc : Thread Cert.OprojCtxRefIdeal.nD Cert.OprojCtxRefIdeal.τ).loc Cert.OprojCtxRefIdeal.main_arg1) = m' ((c.tc : Thread Cert.OprojCtxRefIdeal.nD Cert.OprojCtxRefIdeal.τ).loc Cert.OprojCtxRefIdeal.main_arg1)
          ∧ r.2.mem ((c.tc : Thread Cert.OprojCtxRefIdeal.nD Cert.OprojCtxRefIdeal.τ).loc Cert.OprojCtxRefIdeal.main_arg2) = m' ((c.tc : Thread Cert.OprojCtxRefIdeal.nD Cert.OprojCtxRefIdeal.τ).loc Cert.OprojCtxRefIdeal.main_arg2)
          ∧ r.2.mem ((c.tc : Thread Cert.OprojCtxRefIdeal.nD Cert.OprojCtxRefIdeal.τ).loc Cert.OprojCtxRefIdeal.main_arg3) = m' ((c.tc : Thread Cert.OprojCtxRefIdeal.nD Cert.OprojCtxRefIdeal.τ).loc Cert.OprojCtxRefIdeal.main_arg3))

def preserves_AttnCtx_AttnCtxIdeal : Prop :=
  True

def algebraic_AttnCtxIdeal_AttnCtxRefIdeal_pre_finite_ctx [hAttnCtxIdeal : Cert.AttnCtxIdeal.Facts] [hAttnCtxRefIdeal : Cert.AttnCtxRefIdeal.Facts] [hPre_finite_ctx : Cert.Pre_finite_ctx.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal_finite_ctx m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)
      ∧ m' ((c.tc : Thread Cert.AttnCtxRefIdeal.nD Cert.AttnCtxRefIdeal.τ).loc Cert.AttnCtxRefIdeal.main_arg1) = m ((c.tc : Thread Cert.AttnCtxIdeal.nD Cert.AttnCtxIdeal.τ).loc Cert.AttnCtxIdeal.main_arg1)
      ∧ m' ((c.tc : Thread Cert.AttnCtxRefIdeal.nD Cert.AttnCtxRefIdeal.τ).loc Cert.AttnCtxRefIdeal.main_arg2) = m ((c.tc : Thread Cert.AttnCtxIdeal.nD Cert.AttnCtxIdeal.τ).loc Cert.AttnCtxIdeal.main_arg2)) →
    ∃ (v0 : (c : Dev Cert.AttnCtxIdeal.nD) → Buf (Elt Ideal) ((c.tc : Thread Cert.AttnCtxIdeal.nD Cert.AttnCtxIdeal.τ).loc Cert.AttnCtxIdeal.main_v0)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v0) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v25) = v0 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0)
          ∧ r.2.mem ((c.tc : Thread Cert.AttnCtxRefIdeal.nD Cert.AttnCtxRefIdeal.τ).loc Cert.AttnCtxRefIdeal.main_arg1) = m' ((c.tc : Thread Cert.AttnCtxRefIdeal.nD Cert.AttnCtxRefIdeal.τ).loc Cert.AttnCtxRefIdeal.main_arg1)
          ∧ r.2.mem ((c.tc : Thread Cert.AttnCtxRefIdeal.nD Cert.AttnCtxRefIdeal.τ).loc Cert.AttnCtxRefIdeal.main_arg2) = m' ((c.tc : Thread Cert.AttnCtxRefIdeal.nD Cert.AttnCtxRefIdeal.τ).loc Cert.AttnCtxRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hAda : Cert.Ada.Facts) (hAdaIdeal : Cert.AdaIdeal.Facts) (hAdaRefIdeal : Cert.AdaRefIdeal.Facts) (hFfnMid : Cert.FfnMid.Facts) (hFfnMidIdeal : Cert.FfnMidIdeal.Facts) (hFfnMidRefIdeal : Cert.FfnMidRefIdeal.Facts) (hFfnCtx : Cert.FfnCtx.Facts) (hFfnCtxIdeal : Cert.FfnCtxIdeal.Facts) (hFfnCtxRefIdeal : Cert.FfnCtxRefIdeal.Facts) (hConvCtx : Cert.ConvCtx.Facts) (hConvCtxIdeal : Cert.ConvCtxIdeal.Facts) (hConvCtxRefIdeal : Cert.ConvCtxRefIdeal.Facts) (hQkvCtx : Cert.QkvCtx.Facts) (hQkvCtxIdeal : Cert.QkvCtxIdeal.Facts) (hQkvCtxRefIdeal : Cert.QkvCtxRefIdeal.Facts) (hOprojCtx : Cert.OprojCtx.Facts) (hOprojCtxIdeal : Cert.OprojCtxIdeal.Facts) (hOprojCtxRefIdeal : Cert.OprojCtxRefIdeal.Facts) (hAttnCtx : Cert.AttnCtx.Facts) (hAttnCtxIdeal : Cert.AttnCtxIdeal.Facts) (hAttnCtxRefIdeal : Cert.AttnCtxRefIdeal.Facts) (hPre_finite : Cert.Pre_finite.Facts) (hPre_finite_ctx : Cert.Pre_finite_ctx.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Ada (hAda := hAda)
    ∧ quiescent_AdaIdeal (hAdaIdeal := hAdaIdeal)
    ∧ quiescent_AdaRefIdeal (hAdaRefIdeal := hAdaRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_FfnCtx (hFfnCtx := hFfnCtx)
    ∧ quiescent_FfnCtxIdeal (hFfnCtxIdeal := hFfnCtxIdeal)
    ∧ quiescent_FfnCtxRefIdeal (hFfnCtxRefIdeal := hFfnCtxRefIdeal)
    ∧ quiescent_ConvCtx (hConvCtx := hConvCtx)
    ∧ quiescent_ConvCtxIdeal (hConvCtxIdeal := hConvCtxIdeal)
    ∧ quiescent_ConvCtxRefIdeal (hConvCtxRefIdeal := hConvCtxRefIdeal)
    ∧ quiescent_QkvCtx (hQkvCtx := hQkvCtx)
    ∧ quiescent_QkvCtxIdeal (hQkvCtxIdeal := hQkvCtxIdeal)
    ∧ quiescent_QkvCtxRefIdeal (hQkvCtxRefIdeal := hQkvCtxRefIdeal)
    ∧ quiescent_OprojCtx (hOprojCtx := hOprojCtx)
    ∧ quiescent_OprojCtxIdeal (hOprojCtxIdeal := hOprojCtxIdeal)
    ∧ quiescent_OprojCtxRefIdeal (hOprojCtxRefIdeal := hOprojCtxRefIdeal)
    ∧ quiescent_AttnCtx (hAttnCtx := hAttnCtx)
    ∧ quiescent_AttnCtxIdeal (hAttnCtxIdeal := hAttnCtxIdeal)
    ∧ quiescent_AttnCtxIdeal_pre_finite_ctx (hAttnCtxIdeal := hAttnCtxIdeal) (hPre_finite_ctx := hPre_finite_ctx)
    ∧ quiescent_AttnCtxRefIdeal (hAttnCtxRefIdeal := hAttnCtxRefIdeal)
    ∧ quiescent_AttnCtxRefIdeal_pre_finite_ctx (hAttnCtxRefIdeal := hAttnCtxRefIdeal) (hPre_finite_ctx := hPre_finite_ctx)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
    ∧ preserves_Qkv_QkvIdeal
    ∧ algebraic_QkvIdeal_QkvRefIdeal (hQkvIdeal := hQkvIdeal) (hQkvRefIdeal := hQkvRefIdeal)
    ∧ preserves_Oproj_OprojIdeal
    ∧ algebraic_OprojIdeal_OprojRefIdeal (hOprojIdeal := hOprojIdeal) (hOprojRefIdeal := hOprojRefIdeal)
    ∧ preserves_Ada_AdaIdeal
    ∧ algebraic_AdaIdeal_AdaRefIdeal (hAdaIdeal := hAdaIdeal) (hAdaRefIdeal := hAdaRefIdeal)
    ∧ preserves_FfnMid_FfnMidIdeal
    ∧ algebraic_FfnMidIdeal_FfnMidRefIdeal (hFfnMidIdeal := hFfnMidIdeal) (hFfnMidRefIdeal := hFfnMidRefIdeal)
    ∧ preserves_FfnCtx_FfnCtxIdeal
    ∧ algebraic_FfnCtxIdeal_FfnCtxRefIdeal (hFfnCtxIdeal := hFfnCtxIdeal) (hFfnCtxRefIdeal := hFfnCtxRefIdeal)
    ∧ preserves_ConvCtx_ConvCtxIdeal
    ∧ algebraic_ConvCtxIdeal_ConvCtxRefIdeal (hConvCtxIdeal := hConvCtxIdeal) (hConvCtxRefIdeal := hConvCtxRefIdeal)
    ∧ preserves_QkvCtx_QkvCtxIdeal
    ∧ algebraic_QkvCtxIdeal_QkvCtxRefIdeal (hQkvCtxIdeal := hQkvCtxIdeal) (hQkvCtxRefIdeal := hQkvCtxRefIdeal)
    ∧ preserves_OprojCtx_OprojCtxIdeal
    ∧ algebraic_OprojCtxIdeal_OprojCtxRefIdeal (hOprojCtxIdeal := hOprojCtxIdeal) (hOprojCtxRefIdeal := hOprojCtxRefIdeal)
    ∧ preserves_AttnCtx_AttnCtxIdeal
    ∧ algebraic_AttnCtxIdeal_AttnCtxRefIdeal_pre_finite_ctx (hAttnCtxIdeal := hAttnCtxIdeal) (hAttnCtxRefIdeal := hAttnCtxRefIdeal) (hPre_finite_ctx := hPre_finite_ctx)
-- ==== Pre_finite.lean ====
abbrev S8x4096x1024 : Shape := ⟨3, ![8, 4096, 1024]⟩
abbrev S8x4352x256 : Shape := ⟨3, ![8, 4352, 256]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  bcast_S_S8x4352x256 : S_.BroadcastsInDim S8x4352x256 (![] : Fin 0 → Fin S8x4352x256.rank)

variable [Facts]

def fn {F : FTy → Type} [FloatOps F] (main_arg0 : FVec F S8x4096x1024 .bf16) (main_arg1 : FVec F S8x4352x256 .bf16) (main_arg2 : FVec F S8x4352x256 .bf16) : IVec S8x4096x1024 1 × IVec S8x4352x256 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4352x256 .f32 := (extf .f32 · bitsLt_bf16_f32) main_arg1
  let main_v5 : FVec F S8x4352x256 .f32 := Host.absf main_v4
  let main_cst_0 : FVec F S_ .f32 := constant S_ .f32 0x7F800000#32
  let main_v6 : FVec F S8x4352x256 .f32 := broadcastInDim S8x4352x256 ![] bcast_S_S8x4352x256 main_cst_0
  let main_v7 : IVec S8x4352x256 1 := cmpf .olt main_v5 main_v6
  (main_v3, main_v7)
-- ==== Pre_finite_ctx.lean ====
abbrev S8x256x1024 : Shape := ⟨3, ![8, 256, 1024]⟩
abbrev S8x256x256 : Shape := ⟨3, ![8, 256, 256]⟩
abbrev S_ : Shape := ⟨0, ![]⟩

class Facts : Prop where
  bitsLt_bf16_f32 : FTy.bits .bf16 < FTy.bits .f32
  bcast_S_S8x256x1024 : S_.BroadcastsInDim S8x256x1024 (![] : Fin 0 → Fin S8x256x1024.rank)
  bcast_S_S8x256x256 : S_.BroadcastsInDim S8x256x256 (![] : Fin 0 → Fin S8x256x256.rank)

variable [Facts]

def fn {F : FTy → Type} [FloatOps F] (main_arg0 : FVec F S8x256x1024 .bf16) (main_arg1 : FVec F S8x256x256 .bf16) (main_arg2 : FVec F S8x256x256 .bf16) : IVec S8x256x1024 1 × IVec S8x256x256 1 :=
  let main_v0 : FVec F S8x256x1024 .f32 := (extf .f32 · bitsLt_bf16_f32) main_arg0
  let main_v1 : FVec F S8x256x1024 .f32 := Host.absf main_v0
  let main_cst : FVec F S_ .f32 := constant S_ .f32 0x7F800000#32
  let main_v2 : FVec F S8x256x1024 .f32 := broadcastInDim S8x256x1024 ![] bcast_S_S8x256x1024 main_cst
  let main_v3 : IVec S8x256x1024 1 := cmpf .olt main_v1 main_v2
  let main_v4 : FVec F S8x256x256 .f32 := (extf .f32 · bitsLt_bf16_f32) main_arg1
  let main_v5 : FVec F S8x256x256 .f32 := Host.absf main_v4
  let main_cst_0 : FVec F S_ .f32 := constant S_ .f32 0x7F800000#32
  let main_v6 : FVec F S8x256x256 .f32 := broadcastInDim S8x256x256 ![] bcast_S_S8x256x256 main_cst_0
  let main_v7 : IVec S8x256x256 1 := cmpf .olt main_v5 main_v6
  (main_v3, main_v7)
-- ==== Attn.lean ====
abbrev S8x4096x1024 : Shape := ⟨3, ![8, 4096, 1024]⟩
abbrev S8x4352x256 : Shape := ⟨3, ![8, 4352, 256]⟩
abbrev S1x128x512 : Shape := ⟨3, ![1, 128, 512]⟩
abbrev S1x4352x128 : Shape := ⟨3, ![1, 4352, 128]⟩
abbrev S1x128x128 : Shape := ⟨3, ![1, 128, 128]⟩
abbrev S128x128 : Shape := ⟨2, ![128, 128]⟩
abbrev S512x128 : Shape := ⟨2, ![512, 128]⟩
abbrev S4352x128 : Shape := ⟨2, ![4352, 128]⟩
abbrev S512x4352 : Shape := ⟨2, ![512, 4352]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x4352x256, .bf16⟩
  | .hbm, ⟨2, _⟩ => ⟨S8x4352x256, .bf16⟩
  | .hbm, ⟨3, _⟩ => ⟨S8x4096x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x128x512, .bf16⟩
  | .local _ .vmem, ⟨7, _⟩ => ⟨S1x128x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
abbrev S8x4096x1024 : Shape := ⟨3, ![8, 4096, 1024]⟩
abbrev S8x4352x256 : Shape := ⟨3, ![8, 4352, 256]⟩
abbrev S1x128x512 : Shape := ⟨3, ![1, 128, 512]⟩
abbrev S1x4352x128 : Shape := ⟨3, ![1, 4352, 128]⟩
abbrev S1x128x128 : Shape := ⟨3, ![1, 128, 128]⟩
abbrev S128x128 : Shape := ⟨2, ![128, 128]⟩
abbrev S512x128 : Shape := ⟨2, ![512, 128]⟩
abbrev S4352x128 : Shape := ⟨2, ![4352, 128]⟩
abbrev S512x4352 : Shape := ⟨2, ![512, 4352]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x4352x256, .bf16⟩
  | .hbm, ⟨2, _⟩ => ⟨S8x4352x256, .bf16⟩
  | .hbm, ⟨3, _⟩ => ⟨S8x4096x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x128x512, .bf16⟩
  | .local _ .vmem, ⟨7, _⟩ => ⟨S1x128x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x4096x1024 : Shape := ⟨3, ![8, 4096, 1024]⟩
abbrev S8x4352x256 : Shape := ⟨3, ![8, 4352, 256]⟩
abbrev S8x4096x2x4x128 : Shape := ⟨5, ![8, 4096, 2, 4, 128]⟩
abbrev S8x4352x2x128 : Shape := ⟨4, ![8, 4352, 2, 128]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4352x256, .bf16⟩
  | .hbm, ⟨2, _⟩ => ⟨S8x4352x256, .bf16⟩
  | .hbm, ⟨3, _⟩ => ⟨S8x4096x1024, .f32⟩
  | .hbm, ⟨4, _⟩ => ⟨S8x4096x2x4x128, .f32⟩
  | .hbm, ⟨5, _⟩ => ⟨S8x4352x256, .f32⟩
  | .hbm, ⟨6, _⟩ => ⟨S8x4352x2x128, .f32⟩
  | .hbm, ⟨7, _⟩ => ⟨S8x4352x256, .f32⟩
  | .hbm, ⟨8, _⟩ => ⟨S8x4352x2x128, .f32⟩
  | .hbm, ⟨9, _⟩ => ⟨S8x2x4352x4096x4, .f32⟩
  | .hbm, ⟨10, _⟩ => ⟨S8x2x4x4096x4352, .f32⟩
  | .hbm, ⟨11, _⟩ => ⟨S_, .f32⟩
  | .hbm, ⟨12, _⟩ => ⟨S_, .f32⟩
  | .hbm, ⟨13, _⟩ => ⟨S8x2x4x4096x4352, .f32⟩
  | .hbm, ⟨14, _⟩ => ⟨S8x2x4x4096x4352, .f32⟩
  | .hbm, ⟨15, _⟩ => ⟨S_, .f32⟩
  | .hbm, ⟨16, _⟩ => ⟨S8x2x4x4096, .f32⟩
  | .hbm, ⟨17, _⟩ => ⟨S_, .f32⟩
  | .hbm, ⟨18, _⟩ => ⟨S8x2x4x4096, .f32⟩
  | .hbm, ⟨19, _⟩ => ⟨S8x2x4x4096, .f32⟩
  | .hbm, ⟨20, _⟩ => ⟨S8x2x4x4096x1, .f32⟩
  | .hbm, ⟨21, _⟩ => ⟨S8x2x4x4096x4352, .f32⟩
  | .hbm, ⟨22, _⟩ => ⟨S8x2x4x4096x4352, .f32⟩
  | .hbm, ⟨23, _⟩ => ⟨S8x2x4x4096x4352, .f32⟩
  | .hbm, ⟨24, _⟩ => ⟨S_, .f32⟩
  | .hbm, ⟨25, _⟩ => ⟨S8x2x4x4096, .f32⟩
  | .hbm, ⟨26, _⟩ => ⟨S8x2x4x4096x1, .f32⟩
  | .hbm, ⟨27, _⟩ => ⟨S8x2x4x4096x4352, .f32⟩
  | .hbm, ⟨28, _⟩ => ⟨S8x2x4x4096x4352, .f32⟩
  | .hbm, ⟨29, _⟩ => ⟨S8x2x128x4x4096, .f32⟩
  | .hbm, ⟨30, _⟩ => ⟨S8x4096x2x4x128, .f32⟩
  | .hbm, ⟨31, _⟩ => ⟨S8x4096x1024, .f32⟩
  | .hbm, ⟨32, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Ffn.lean ====
abbrev S8x4096x1024 : Shape := ⟨3, ![8, 4096, 1024]⟩
abbrev S8x3x1024 : Shape := ⟨3, ![8, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x3x1024 : Shape := ⟨3, ![1, 3, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S8x4096x1024 : Shape := ⟨3, ![8, 4096, 1024]⟩
abbrev S8x3x1024 : Shape := ⟨3, ![8, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x5632 : Shape := ⟨3, ![8, 4096, 5632]⟩
abbrev S8x4096x2816 : Shape := ⟨3, ![8, 4096, 2816]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S1024x5632, .f32⟩
  | .hbm, ⟨36, _⟩ => ⟨S2816x1024, .f32⟩
  | .hbm, ⟨37, _⟩ => ⟨S8x4096x5632, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S_, .f32⟩
  | .hbm, ⟨43, _⟩ => ⟨S8x4096x2816, .f32⟩
  | .hbm, ⟨44, _⟩ => ⟨S8x4096x2816, .f32⟩
  | .hbm, ⟨45, _⟩ => ⟨S_, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Conv.lean ====
abbrev S8x4096x1024 : Shape := ⟨3, ![8, 4096, 1024]⟩
abbrev S8x3x1024 : Shape := ⟨3, ![8, 3, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1x512x1024 : Shape := ⟨3, ![1, 512, 1024]⟩
abbrev S1x8x1024 : Shape := ⟨3, ![1, 8, 1024]⟩
abbrev S1x3x1024 : Shape := ⟨3, ![1, 3, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x3072 : Shape := ⟨2, ![512, 3072]⟩
abbrev S8x1024 : Shape := ⟨2, ![8, 1024]⟩
abbrev S8 : Shape := ⟨1, ![8]⟩
abbrev S8x1 : Shape := ⟨2, ![8, 1]⟩
abbrev S1024x2048 : Shape := ⟨2, ![1024, 2048]⟩
abbrev S8x2048 : Shape := ⟨2, ![8, 2048]⟩

abbrev nBuf : Space → Nat
  | .hbm => 8
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x3072, .bf16⟩
  | .hbm, ⟨4, _⟩ => ⟨S3x1024, .f32⟩
  | .hbm, ⟨5, _⟩ => ⟨S1024x1024, .bf16⟩
  | .hbm, ⟨6, _⟩ => ⟨S1x1024, .f32⟩
  | .hbm, ⟨7, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x3x1024, .f32⟩
  | .local _ .vmem, ⟨7, _⟩ => ⟨S1x3x1024, .f32⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvRefIdeal.lean ====
abbrev S8x4096x1024 : Shape := ⟨3, ![8, 4096, 1024]⟩
abbrev S8x3x1024 : Shape := ⟨3, ![8, 3, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x3072 : Shape := ⟨3, ![8, 4096, 3072]⟩
abbrev S8x4098x1024 : Shape := ⟨3, ![8, 4098, 1024]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x3072, .bf16⟩
  | .hbm, ⟨4, _⟩ => ⟨S3x1024, .f32⟩
  | .hbm, ⟨5, _⟩ => ⟨S1024x1024, .bf16⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S1024x3072, .f32⟩
  | .hbm, ⟨32, _⟩ => ⟨S1024x1024, .f32⟩
  | .hbm, ⟨33, _⟩ => ⟨S8x4096x3072, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S_, .i32⟩
  | .hbm, ⟨39, _⟩ => ⟨S_, .f32⟩
  | .hbm, ⟨40, _⟩ => ⟨S8x4098x1024, .f32⟩
  | .hbm, ⟨41, _⟩ => ⟨S1x1024, .f32⟩
  | .hbm, ⟨42, _⟩ => ⟨S1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | .hbm, ⟨47, _⟩ => ⟨S1x1024, .f32⟩
  | .hbm, ⟨48, _⟩ => ⟨S1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S1x1024, .f32⟩
  | .hbm, ⟨55, _⟩ => ⟨S1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x1x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Qkv.lean ====
abbrev S8x4096x1024 : Shape := ⟨3, ![8, 4096, 1024]⟩
abbrev S8x3x1024 : Shape := ⟨3, ![8, 3, 1024]⟩
abbrev S1024 : Shape := ⟨1, ![1024]⟩
abbrev S1024x1536 : Shape := ⟨2, ![1024, 1536]⟩
abbrev S128 : Shape := ⟨1, ![128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x1024 : Shape := ⟨2, ![1, 1024]⟩
abbrev S1x128 : Shape := ⟨2, ![1, 128]⟩
abbrev S8x4096x256 : Shape := ⟨3, ![8, 4096, 256]⟩
abbrev S1x512x1024 : Shape := ⟨3, ![1, 512, 1024]⟩
abbrev S1x3x1024 : Shape := ⟨3, ![1, 3, 1024]⟩
abbrev S512x128 : Shape := ⟨2, ![512, 128]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x1536 : Shape := ⟨2, ![512, 1536]⟩
abbrev S1x512x128 : Shape := ⟨3, ![1, 512, 128]⟩
abbrev S512x256 : Shape := ⟨2, ![512, 256]⟩

abbrev nBuf : Space → Nat
  | .hbm => 88
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x1536, .bf16⟩
  | .hbm, ⟨4, _⟩ => ⟨S128, .f32⟩
  | .hbm, ⟨5, _⟩ => ⟨S128, .f32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S_, .i1⟩
  | .hbm, ⟨42, _⟩ => ⟨S4096, .i1⟩
  | .hbm, ⟨43, _⟩ => ⟨S4096, .i1⟩
  | .hbm, ⟨44, _⟩ => ⟨S4096, .i1⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S4096x1, .f32⟩
  | .hbm, ⟨58, _⟩ => ⟨S1x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x1, .f32⟩
  | .hbm, ⟨63, _⟩ => ⟨S1x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S_, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x128, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x128, .f32⟩
  | .hbm, ⟨79, _⟩ => ⟨S4096x32, .f32⟩
  | .hbm, ⟨80, _⟩ => ⟨S4096x32, .f32⟩
  | .hbm, ⟨81, _⟩ => ⟨S4096x128, .f32⟩
  | .hbm, ⟨82, _⟩ => ⟨S1x1024, .f32⟩
  | .hbm, ⟨83, _⟩ => ⟨S1x128, .f32⟩
  | .hbm, ⟨84, _⟩ => ⟨S1x128, .f32⟩
  | .hbm, ⟨85, _⟩ => ⟨S8x4096x1024, .bf16⟩
  | .hbm, ⟨86, _⟩ => ⟨S8x4096x256, .bf16⟩
  | .hbm, ⟨87, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_2 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38_0 : Ref sig .tc := ⟨.hbm, 85, rfl⟩
abbrev main_v38_1 : Ref sig .tc := ⟨.hbm, 86, rfl⟩
abbrev main_v38_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvRefIdeal.lean ====
abbrev S8x4096x1024 : Shape := ⟨3, ![8, 4096, 1024]⟩
abbrev S8x3x1024 : Shape := ⟨3, ![8, 3, 1024]⟩
abbrev S1024 : Shape := ⟨1, ![1024]⟩
abbrev S1024x1536 : Shape := ⟨2, ![1024, 1536]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x1536 : Shape := ⟨3, ![8, 4096, 1536]⟩
abbrev S8x4096x8x128 : Shape := ⟨4, ![8, 4096, 8, 128]⟩
abbrev S8x4096x256 : Shape := ⟨3, ![8, 4096, 256]⟩
abbrev S8x4096x2x128 : Shape := ⟨4, ![8, 4096, 2, 128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x2x32 : Shape := ⟨3, ![4096, 2, 32]⟩
abbrev S4096x1x2x32 : Shape := ⟨4, ![4096, 1, 2, 32]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x8x2x2x32 : Shape := ⟨6, ![8, 4096, 8, 2, 2, 32]⟩
abbrev S8x4096x8x2x1x32 : Shape := ⟨6, ![8, 4096, 8, 2, 1, 32]⟩
abbrev S8x4096x8x2x32 : Shape := ⟨5, ![8, 4096, 8, 2, 32]⟩
abbrev S1x4096x1x2x32 : Shape := ⟨5, ![1, 4096, 1, 2, 32]⟩
abbrev S8x4096x2 : Shape := ⟨3, ![8, 4096, 2]⟩
abbrev S8x4096x2x1 : Shape := ⟨4, ![8, 4096, 2, 1]⟩
abbrev S8x4096x2x2x2x32 : Shape := ⟨6, ![8, 4096, 2, 2, 2, 32]⟩
abbrev S8x4096x2x2x1x32 : Shape := ⟨6, ![8, 4096, 2, 2, 1, 32]⟩
abbrev S8x4096x2x2x32 : Shape := ⟨5, ![8, 4096, 2, 2, 32]⟩

abbrev nBuf : Space → Nat
  | .hbm => 158
  | .vmem => 0
  | .smem => 0
  | _ => 0

abbrev hbmTy0_0 (i : Nat) : BufTy := match i % 128 with
  | 0 => ⟨S8x4096x1024, .f32⟩
  | 1 => ⟨S8x3x1024, .f32⟩
  | 2 => ⟨S1024, .f32⟩
  | 3 => ⟨S1024x1536, .bf16⟩
  | 4 => ⟨S128, .f32⟩
  | 5 => ⟨S128, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S8x1x1024, .f32⟩
  | 23 => ⟨S_, .f32⟩
  | 24 => ⟨S8x1x1024, .f32⟩
  | 25 => ⟨S8x1x1024, .f32⟩
  | 26 => ⟨S8x4096x1024, .f32⟩
  | 27 => ⟨S8x4096x1024, .f32⟩
  | 28 => ⟨S8x1x1024, .f32⟩
  | 29 => ⟨S8x4096x1024, .f32⟩
  | 30 => ⟨S8x4096x1024, .f32⟩
  | 31 => ⟨S1024x1536, .f32⟩
  | 32 => ⟨S8x4096x1536, .f32⟩
  | 33 => ⟨S8x4096x1024, .f32⟩
  | 34 => ⟨S8x4096x8x128, .f32⟩
  | 35 => ⟨S8x4096x256, .f32⟩
  | 36 => ⟨S8x4096x2x128, .f32⟩
  | 37 => ⟨S8x4096x256, .f32⟩
  | 38 => ⟨S64, .i32⟩
  | 39 => ⟨S64x1, .i32⟩
  | 40 => ⟨S64x64, .i32⟩
  | 41 => ⟨S4096, .i32⟩
  | 42 => ⟨S64, .i32⟩
  | 43 => ⟨S1x64, .i32⟩
  | 44 => ⟨S64x64, .i32⟩
  | 45 => ⟨S4096, .i32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S4096, .f32⟩
  | 55 => ⟨S4096x1, .f32⟩
  | 56 => ⟨S1x32, .f32⟩
  | 57 => ⟨S4096x32, .f32⟩
  | 58 => ⟨S4096x32, .f32⟩
  | 59 => ⟨S4096x32, .f32⟩
  | 60 => ⟨S4096, .f32⟩
  | 61 => ⟨S4096x1, .f32⟩
  | 62 => ⟨S1x32, .f32⟩
  | 63 => ⟨S4096x32, .f32⟩
  | 64 => ⟨S4096x32, .f32⟩
  | 65 => ⟨S4096x32, .f32⟩
  | 66 => ⟨S4096x1x32, .f32⟩
  | 67 => ⟨S4096x1x32, .f32⟩
  | 68 => ⟨S4096x2x32, .f32⟩
  | 69 => ⟨S4096x1x2x32, .f32⟩
  | 70 => ⟨S4096x1x2x32, .f32⟩
  | 71 => ⟨S4096x1x2x32, .f32⟩
  | 72 => ⟨S8x4096x8x128, .f32⟩
  | 73 => ⟨S_, .f32⟩
  | 74 => ⟨S8x4096x8, .f32⟩
  | 75 => ⟨S8x4096x8x1, .f32⟩
  | 76 => ⟨S_, .f32⟩
  | 77 => ⟨S8x4096x8x1, .f32⟩
  | 78 => ⟨S8x4096x8x1, .f32⟩
  | 79 => ⟨S_, .f32⟩
  | 80 => ⟨S8x4096x8x1, .f32⟩
  | 81 => ⟨S8x4096x8x1, .f32⟩
  | 82 => ⟨S8x4096x8x1, .f32⟩
  | 83 => ⟨S8x4096x8x128, .f32⟩
  | 84 => ⟨S8x4096x8x128, .f32⟩
  | 85 => ⟨S1x1x1x128, .f32⟩
  | 86 => ⟨S8x4096x8x128, .f32⟩
  | 87 => ⟨S8x4096x8x128, .f32⟩
  | 88 => ⟨S8x4096x8x2x2x32, .f32⟩
  | 89 => ⟨S8x4096x8x2x1x32, .f32⟩
  | 90 => ⟨S8x4096x8x2x32, .f32⟩
  | 91 => ⟨S8x4096x8x2x1x32, .f32⟩
  | 92 => ⟨S8x4096x8x2x32, .f32⟩
  | 93 => ⟨S1x4096x1x2x32, .f32⟩
  | 94 => ⟨S8x4096x8x2x32, .f32⟩
  | 95 => ⟨S8x4096x8x2x32, .f32⟩
  | 96 => ⟨S1x4096x1x2x32, .f32⟩
  | 97 => ⟨S8x4096x8x2x32, .f32⟩
  | 98 => ⟨S8x4096x8x2x32, .f32⟩
  | 99 => ⟨S8x4096x8x2x32, .f32⟩
  | 100 => ⟨S1x4096x1x2x32, .f32⟩
  | 101 => ⟨S8x4096x8x2x32, .f32⟩
  | 102 => ⟨S8x4096x8x2x32, .f32⟩
  | 103 => ⟨S1x4096x1x2x32, .f32⟩
  | 104 => ⟨S8x4096x8x2x32, .f32⟩
  | 105 => ⟨S8x4096x8x2x32, .f32⟩
  | 106 => ⟨S8x4096x8x2x32, .f32⟩
  | 107 => ⟨S8x4096x8x2x1x32, .f32⟩
  | 108 => ⟨S8x4096x8x2x1x32, .f32⟩
  | 109 => ⟨S8x4096x8x2x2x32, .f32⟩
  | 110 => ⟨S8x4096x8x128, .f32⟩
  | 111 => ⟨S_, .f32⟩
  | 112 => ⟨S8x4096x8x128, .f32⟩
  | 113 => ⟨S8x4096x8x128, .f32⟩
  | 114 => ⟨S8x4096x2x128, .f32⟩
  | 115 => ⟨S_, .f32⟩
  | 116 => ⟨S8x4096x2, .f32⟩
  | 117 => ⟨S8x4096x2x1, .f32⟩
  | 118 => ⟨S_, .f32⟩
  | 119 => ⟨S8x4096x2x1, .f32⟩
  | 120 => ⟨S8x4096x2x1, .f32⟩
  | 121 => ⟨S_, .f32⟩
  | 122 => ⟨S8x4096x2x1, .f32⟩
  | 123 => ⟨S8x4096x2x1, .f32⟩
  | 124 => ⟨S8x4096x2x1, .f32⟩
  | 125 => ⟨S8x4096x2x128, .f32⟩
  | 126 => ⟨S8x4096x2x128, .f32⟩
  | 127 => ⟨S1x1x1x128, .f32⟩
  | _ => ⟨S8x4096x1024, .f32⟩

abbrev hbmTy0_1 (i : Nat) : BufTy := match i % 128 with
  | 0 => ⟨S8x4096x2x128, .f32⟩
  | 1 => ⟨S8x4096x2x128, .f32⟩
  | 2 => ⟨S8x4096x2x2x2x32, .f32⟩
  | 3 => ⟨S8x4096x2x2x1x32, .f32⟩
  | 4 => ⟨S8x4096x2x2x32, .f32⟩
  | 5 => ⟨S8x4096x2x2x1x32, .f32⟩
  | 6 => ⟨S8x4096x2x2x32, .f32⟩
  | 7 => ⟨S1x4096x1x2x32, .f32⟩
  | 8 => ⟨S8x4096x2x2x32, .f32⟩
  | 9 => ⟨S8x4096x2x2x32, .f32⟩
  | 10 => ⟨S1x4096x1x2x32, .f32⟩
  | 11 => ⟨S8x4096x2x2x32, .f32⟩
  | 12 => ⟨S8x4096x2x2x32, .f32⟩
  | 13 => ⟨S8x4096x2x2x32, .f32⟩
  | 14 => ⟨S1x4096x1x2x32, .f32⟩
  | 15 => ⟨S8x4096x2x2x32, .f32⟩
  | 16 => ⟨S8x4096x2x2x32, .f32⟩
  | 17 => ⟨S1x4096x1x2x32, .f32⟩
  | 18 => ⟨S8x4096x2x2x32, .f32⟩
  | 19 => ⟨S8x4096x2x2x32, .f32⟩
  | 20 => ⟨S8x4096x2x2x32, .f32⟩
  | 21 => ⟨S8x4096x2x2x1x32, .f32⟩
  | 22 => ⟨S8x4096x2x2x1x32, .f32⟩
  | 23 => ⟨S8x4096x2x2x2x32, .f32⟩
  | 24 => ⟨S8x4096x2x128, .f32⟩
  | 25 => ⟨S8x4096x1024, .f32⟩
  | 26 => ⟨S8x4096x1024, .bf16⟩
  | 27 => ⟨S8x4096x256, .f32⟩
  | 28 => ⟨S8x4096x256, .bf16⟩
  | 29 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_8 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_cst_11 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩

abbrev nD : Nat := 1
abbrev τ : Topo := Topo.v7x

variable {F : FTy → Type} [FloatOps F]
-- ==== Oproj.lean ====
abbrev S8x4096x1024 : Shape := ⟨3, ![8, 4096, 1024]⟩
abbrev S8x3x1024 : Shape := ⟨3, ![8, 3, 1024]⟩
abbrev S1024x1024 : Shape := ⟨2, ![1024, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x3x1024, .f32⟩
  | .hbm, ⟨3, _⟩ => ⟨S1024x1024, .bf16⟩
  | .hbm, ⟨4, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x3x1024, .f32⟩
  | .local _ .vmem, ⟨5, _⟩ => ⟨S1x3x1024, .f32⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OprojRefIdeal.lean ====
abbrev S8x4096x1024 : Shape := ⟨3, ![8, 4096, 1024]⟩
abbrev S8x3x1024 : Shape := ⟨3, ![8, 3, 1024]⟩
abbrev S1024x1024 : Shape := ⟨2, ![1024, 1024]⟩
abbrev S8x1x1024 : Shape := ⟨3, ![8, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x3x1024, .f32⟩
  | .hbm, ⟨3, _⟩ => ⟨S1024x1024, .bf16⟩
  | .hbm, ⟨4, _⟩ => ⟨S8x1x1024, .f32⟩
  | .hbm, ⟨5, _⟩ => ⟨S8x4096x1024, .f32⟩
  | .hbm, ⟨6, _⟩ => ⟨S1024x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ada.lean ====
abbrev S16x1024 : Shape := ⟨2, ![16, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x16x9216 : Shape := ⟨3, ![4, 16, 9216]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x16x9216, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x9216 : Shape := ⟨3, ![4, 1024, 9216]⟩
abbrev S4x9216 : Shape := ⟨2, ![4, 9216]⟩
abbrev S_ : Shape := ⟨0, ![]⟩
abbrev S4x9216x16 : Shape := ⟨3, ![4, 9216, 16]⟩
abbrev S4x16x9216 : Shape := ⟨3, ![4, 16, 9216]⟩
abbrev S4x1x9216 : Shape := ⟨3, ![4, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x9216, .f32⟩
  | .hbm, ⟨2, _⟩ => ⟨S4x9216, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x9216x16, .f32⟩
  | .hbm, ⟨13, _⟩ => ⟨S4x16x9216, .f32⟩
  | .hbm, ⟨14, _⟩ => ⟨S4x1x9216, .f32⟩
  | .hbm, ⟨15, _⟩ => ⟨S4x16x9216, .f32⟩
  | .hbm, ⟨16, _⟩ => ⟨S4x16x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnMid.lean ====
abbrev S8x4096x1024 : Shape := ⟨3, ![8, 4096, 1024]⟩
abbrev S8x3x1024 : Shape := ⟨3, ![8, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x3x1024 : Shape := ⟨3, ![1, 3, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnMidRefIdeal.lean ====
abbrev S8x4096x1024 : Shape := ⟨3, ![8, 4096, 1024]⟩
abbrev S8x3x1024 : Shape := ⟨3, ![8, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x5632 : Shape := ⟨3, ![8, 4096, 5632]⟩
abbrev S8x4096x2816 : Shape := ⟨3, ![8, 4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S1024x5632, .f32⟩
  | .hbm, ⟨35, _⟩ => ⟨S2816x1024, .f32⟩
  | .hbm, ⟨36, _⟩ => ⟨S8x4096x5632, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== FfnCtx.lean ====
abbrev S8x256x1024 : Shape := ⟨3, ![8, 256, 1024]⟩
abbrev S1x3x1024 : Shape := ⟨3, ![1, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x3x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x3x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x256x1024, .f32⟩
  | .local _ .vmem, ⟨7, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnCtxRefIdeal.lean ====
abbrev S8x256x1024 : Shape := ⟨3, ![8, 256, 1024]⟩
abbrev S1x3x1024 : Shape := ⟨3, ![1, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x5632 : Shape := ⟨3, ![8, 256, 5632]⟩
abbrev S8x256x2816 : Shape := ⟨3, ![8, 256, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x3x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S8x256x1024, .f32⟩
  | .hbm, ⟨26, _⟩ => ⟨S8x256x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S1x1x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1024x5632, .f32⟩
  | .hbm, ⟨35, _⟩ => ⟨S2816x1024, .f32⟩
  | .hbm, ⟨36, _⟩ => ⟨S8x256x5632, .f32⟩
  | .hbm, ⟨37, _⟩ => ⟨S8x256x2816, .f32⟩
  | .hbm, ⟨38, _⟩ => ⟨S8x256x2816, .f32⟩
  | .hbm, ⟨39, _⟩ => ⟨S8x256x2816, .f32⟩
  | .hbm, ⟨40, _⟩ => ⟨S8x256x2816, .f32⟩
  | .hbm, ⟨41, _⟩ => ⟨S_, .f32⟩
  | .hbm, ⟨42, _⟩ => ⟨S8x256x2816, .f32⟩
  | .hbm, ⟨43, _⟩ => ⟨S8x256x2816, .f32⟩
  | .hbm, ⟨44, _⟩ => ⟨S_, .f32⟩
  | .hbm, ⟨45, _⟩ => ⟨S8x256x2816, .f32⟩
  | .hbm, ⟨46, _⟩ => ⟨S8x256x2816, .f32⟩
  | .hbm, ⟨47, _⟩ => ⟨S8x256x2816, .f32⟩
  | .hbm, ⟨48, _⟩ => ⟨S8x256x2816, .f32⟩
  | .hbm, ⟨49, _⟩ => ⟨S8x256x1024, .f32⟩
  | .hbm, ⟨50, _⟩ => ⟨S8x256x1024, .f32⟩
  | .hbm, ⟨51, _⟩ => ⟨S8x256x1024, .f32⟩
  | .hbm, ⟨52, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== ConvCtx.lean ====
abbrev S8x256x1024 : Shape := ⟨3, ![8, 256, 1024]⟩
abbrev S1x3x1024 : Shape := ⟨3, ![1, 3, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1x256x1024 : Shape := ⟨3, ![1, 256, 1024]⟩
abbrev S1x8x1024 : Shape := ⟨3, ![1, 8, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x3072 : Shape := ⟨2, ![256, 3072]⟩
abbrev S8x1024 : Shape := ⟨2, ![8, 1024]⟩
abbrev S8 : Shape := ⟨1, ![8]⟩
abbrev S8x1 : Shape := ⟨2, ![8, 1]⟩
abbrev S1024x2048 : Shape := ⟨2, ![1024, 2048]⟩
abbrev S8x2048 : Shape := ⟨2, ![8, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1x3x1024, .f32⟩
  | .hbm, ⟨2, _⟩ => ⟨S1024, .f32⟩
  | .hbm, ⟨3, _⟩ => ⟨S1024x3072, .bf16⟩
  | .hbm, ⟨4, _⟩ => ⟨S3x1024, .f32⟩
  | .hbm, ⟨5, _⟩ => ⟨S1024x1024, .bf16⟩
  | .hbm, ⟨6, _⟩ => ⟨S1x1024, .f32⟩
  | .hbm, ⟨7, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x3x1024, .f32⟩
  | .local _ .vmem, ⟨7, _⟩ => ⟨S1x1024, .f32⟩
  | .local _ .vmem, ⟨8, _⟩ => ⟨S1024x3072, .bf16⟩
  | .local _ .vmem, ⟨9, _⟩ => ⟨S3x1024, .f32⟩
  | .local _ .vmem, ⟨10, _⟩ => ⟨S1024x1024, .bf16⟩
  | .local _ .vmem, ⟨11, _⟩ => ⟨S1x256x1024, .f32⟩
  | .local _ .vmem, ⟨12, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvCtxRefIdeal.lean ====
abbrev S8x256x1024 : Shape := ⟨3, ![8, 256, 1024]⟩
abbrev S1x3x1024 : Shape := ⟨3, ![1, 3, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x3072 : Shape := ⟨3, ![8, 256, 3072]⟩
abbrev S8x258x1024 : Shape := ⟨3, ![8, 258, 1024]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x3x1024, .f32⟩
  | .hbm, ⟨2, _⟩ => ⟨S1024, .f32⟩
  | .hbm, ⟨3, _⟩ => ⟨S1024x3072, .bf16⟩
  | .hbm, ⟨4, _⟩ => ⟨S3x1024, .f32⟩
  | .hbm, ⟨5, _⟩ => ⟨S1024x1024, .bf16⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S8x256x1024, .f32⟩
  | .hbm, ⟨27, _⟩ => ⟨S8x256x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1024x3072, .f32⟩
  | .hbm, ⟨32, _⟩ => ⟨S1024x1024, .f32⟩
  | .hbm, ⟨33, _⟩ => ⟨S8x256x3072, .f32⟩
  | .hbm, ⟨34, _⟩ => ⟨S8x256x1024, .f32⟩
  | .hbm, ⟨35, _⟩ => ⟨S8x256x1024, .f32⟩
  | .hbm, ⟨36, _⟩ => ⟨S8x256x1024, .f32⟩
  | .hbm, ⟨37, _⟩ => ⟨S8x256x1024, .f32⟩
  | .hbm, ⟨38, _⟩ => ⟨S_, .i32⟩
  | .hbm, ⟨39, _⟩ => ⟨S_, .f32⟩
  | .hbm, ⟨40, _⟩ => ⟨S8x258x1024, .f32⟩
  | .hbm, ⟨41, _⟩ => ⟨S1x1024, .f32⟩
  | .hbm, ⟨42, _⟩ => ⟨S1024, .f32⟩
  | .hbm, ⟨43, _⟩ => ⟨S8x256x1024, .f32⟩
  | .hbm, ⟨44, _⟩ => ⟨S1x1x1024, .f32⟩
  | .hbm, ⟨45, _⟩ => ⟨S8x256x1024, .f32⟩
  | .hbm, ⟨46, _⟩ => ⟨S8x256x1024, .f32⟩
  | .hbm, ⟨47, _⟩ => ⟨S1x1024, .f32⟩
  | .hbm, ⟨48, _⟩ => ⟨S1024, .f32⟩
  | .hbm, ⟨49, _⟩ => ⟨S8x256x1024, .f32⟩
  | .hbm, ⟨50, _⟩ => ⟨S1x1x1024, .f32⟩
  | .hbm, ⟨51, _⟩ => ⟨S8x256x1024, .f32⟩
  | .hbm, ⟨52, _⟩ => ⟨S8x256x1024, .f32⟩
  | .hbm, ⟨53, _⟩ => ⟨S8x256x1024, .f32⟩
  | .hbm, ⟨54, _⟩ => ⟨S1x1024, .f32⟩
  | .hbm, ⟨55, _⟩ => ⟨S1024, .f32⟩
  | .hbm, ⟨56, _⟩ => ⟨S8x256x1024, .f32⟩
  | .hbm, ⟨57, _⟩ => ⟨S1x1x1024, .f32⟩
  | .hbm, ⟨58, _⟩ => ⟨S8x256x1024, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S1x1x1024, .f32⟩
  | .hbm, ⟨64, _⟩ => ⟨S8x256x1024, .f32⟩
  | .hbm, ⟨65, _⟩ => ⟨S8x256x1024, .f32⟩
  | .hbm, ⟨66, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== QkvCtx.lean ====
abbrev S8x256x1024 : Shape := ⟨3, ![8, 256, 1024]⟩
abbrev S1x3x1024 : Shape := ⟨3, ![1, 3, 1024]⟩
abbrev S1024 : Shape := ⟨1, ![1024]⟩
abbrev S1024x1536 : Shape := ⟨2, ![1024, 1536]⟩
abbrev S128 : Shape := ⟨1, ![128]⟩
abbrev S1x1024 : Shape := ⟨2, ![1, 1024]⟩
abbrev S1x128 : Shape := ⟨2, ![1, 128]⟩
abbrev S8x256x256 : Shape := ⟨3, ![8, 256, 256]⟩
abbrev S1x256x1024 : Shape := ⟨3, ![1, 256, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x1536 : Shape := ⟨2, ![256, 1536]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1x3x1024, .f32⟩
  | .hbm, ⟨2, _⟩ => ⟨S1024, .f32⟩
  | .hbm, ⟨3, _⟩ => ⟨S1024x1536, .bf16⟩
  | .hbm, ⟨4, _⟩ => ⟨S128, .f32⟩
  | .hbm, ⟨5, _⟩ => ⟨S128, .f32⟩
  | .hbm, ⟨6, _⟩ => ⟨S1x1024, .f32⟩
  | .hbm, ⟨7, _⟩ => ⟨S1x128, .f32⟩
  | .hbm, ⟨8, _⟩ => ⟨S1x128, .f32⟩
  | .hbm, ⟨9, _⟩ => ⟨S8x256x1024, .bf16⟩
  | .hbm, ⟨10, _⟩ => ⟨S8x256x256, .bf16⟩
  | .hbm, ⟨11, _⟩ => ⟨S8x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x3x1024, .f32⟩
  | .local _ .vmem, ⟨3, _⟩ => ⟨S1x1024, .f32⟩
  | .local _ .vmem, ⟨4, _⟩ => ⟨S1024x1536, .bf16⟩
  | .local _ .vmem, ⟨5, _⟩ => ⟨S1x128, .f32⟩
  | .local _ .vmem, ⟨6, _⟩ => ⟨S1x128, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvCtxRefIdeal.lean ====
abbrev S8x256x1024 : Shape := ⟨3, ![8, 256, 1024]⟩
abbrev S1x3x1024 : Shape := ⟨3, ![1, 3, 1024]⟩
abbrev S1024 : Shape := ⟨1, ![1024]⟩
abbrev S1024x1536 : Shape := ⟨2, ![1024, 1536]⟩
abbrev S128 : Shape := ⟨1, ![128]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x1536 : Shape := ⟨3, ![8, 256, 1536]⟩
abbrev S8x256x8x128 : Shape := ⟨4, ![8, 256, 8, 128]⟩
abbrev S8x256x256 : Shape := ⟨3, ![8, 256, 256]⟩
abbrev S8x256x2x128 : Shape := ⟨4, ![8, 256, 2, 128]⟩
abbrev S8x256x8 : Shape := ⟨3, ![8, 256, 8]⟩
abbrev S8x256x8x1 : Shape := ⟨4, ![8, 256, 8, 1]⟩
abbrev S1x1x1x128 : Shape := ⟨4, ![1, 1, 1, 128]⟩
abbrev S8x256x2 : Shape := ⟨3, ![8, 256, 2]⟩
abbrev S8x256x2x1 : Shape := ⟨4, ![8, 256, 2, 1]⟩

abbrev nBuf : Space → Nat
  | .hbm => 78
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x3x1024, .f32⟩
  | .hbm, ⟨2, _⟩ => ⟨S1024, .f32⟩
  | .hbm, ⟨3, _⟩ => ⟨S1024x1536, .bf16⟩
  | .hbm, ⟨4, _⟩ => ⟨S128, .f32⟩
  | .hbm, ⟨5, _⟩ => ⟨S128, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S8x256x1024, .f32⟩
  | .hbm, ⟨27, _⟩ => ⟨S8x256x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1024x1536, .f32⟩
  | .hbm, ⟨32, _⟩ => ⟨S8x256x1536, .f32⟩
  | .hbm, ⟨33, _⟩ => ⟨S8x256x1024, .f32⟩
  | .hbm, ⟨34, _⟩ => ⟨S8x256x8x128, .f32⟩
  | .hbm, ⟨35, _⟩ => ⟨S8x256x256, .f32⟩
  | .hbm, ⟨36, _⟩ => ⟨S8x256x2x128, .f32⟩
  | .hbm, ⟨37, _⟩ => ⟨S8x256x256, .f32⟩
  | .hbm, ⟨38, _⟩ => ⟨S8x256x8x128, .f32⟩
  | .hbm, ⟨39, _⟩ => ⟨S_, .f32⟩
  | .hbm, ⟨40, _⟩ => ⟨S8x256x8, .f32⟩
  | .hbm, ⟨41, _⟩ => ⟨S8x256x8x1, .f32⟩
  | .hbm, ⟨42, _⟩ => ⟨S_, .f32⟩
  | .hbm, ⟨43, _⟩ => ⟨S8x256x8x1, .f32⟩
  | .hbm, ⟨44, _⟩ => ⟨S8x256x8x1, .f32⟩
  | .hbm, ⟨45, _⟩ => ⟨S_, .f32⟩
  | .hbm, ⟨46, _⟩ => ⟨S8x256x8x1, .f32⟩
  | .hbm, ⟨47, _⟩ => ⟨S8x256x8x1, .f32⟩
  | .hbm, ⟨48, _⟩ => ⟨S8x256x8x1, .f32⟩
  | .hbm, ⟨49, _⟩ => ⟨S8x256x8x128, .f32⟩
  | .hbm, ⟨50, _⟩ => ⟨S8x256x8x128, .f32⟩
  | .hbm, ⟨51, _⟩ => ⟨S1x1x1x128, .f32⟩
  | .hbm, ⟨52, _⟩ => ⟨S8x256x8x128, .f32⟩
  | .hbm, ⟨53, _⟩ => ⟨S8x256x8x128, .f32⟩
  | .hbm, ⟨54, _⟩ => ⟨S_, .f32⟩
  | .hbm, ⟨55, _⟩ => ⟨S8x256x8x128, .f32⟩
  | .hbm, ⟨56, _⟩ => ⟨S8x256x8x128, .f32⟩
  | .hbm, ⟨57, _⟩ => ⟨S8x256x2x128, .f32⟩
  | .hbm, ⟨58, _⟩ => ⟨S_, .f32⟩
  | .hbm, ⟨59, _⟩ => ⟨S8x256x2, .f32⟩
  | .hbm, ⟨60, _⟩ => ⟨S8x256x2x1, .f32⟩
  | .hbm, ⟨61, _⟩ => ⟨S_, .f32⟩
  | .hbm, ⟨62, _⟩ => ⟨S8x256x2x1, .f32⟩
  | .hbm, ⟨63, _⟩ => ⟨S8x256x2x1, .f32⟩
  | .hbm, ⟨64, _⟩ => ⟨S_, .f32⟩
  | .hbm, ⟨65, _⟩ => ⟨S8x256x2x1, .f32⟩
  | .hbm, ⟨66, _⟩ => ⟨S8x256x2x1, .f32⟩
  | .hbm, ⟨67, _⟩ => ⟨S8x256x2x1, .f32⟩
  | .hbm, ⟨68, _⟩ => ⟨S8x256x2x128, .f32⟩
  | .hbm, ⟨69, _⟩ => ⟨S8x256x2x128, .f32⟩
  | .hbm, ⟨70, _⟩ => ⟨S1x1x1x128, .f32⟩
  | .hbm, ⟨71, _⟩ => ⟨S8x256x2x128, .f32⟩
  | .hbm, ⟨72, _⟩ => ⟨S8x256x2x128, .f32⟩
  | .hbm, ⟨73, _⟩ => ⟨S8x256x1024, .f32⟩
  | .hbm, ⟨74, _⟩ => ⟨S8x256x1024, .bf16⟩
  | .hbm, ⟨75, _⟩ => ⟨S8x256x256, .f32⟩
  | .hbm, ⟨76, _⟩ => ⟨S8x256x256, .bf16⟩
  | .hbm, ⟨77, _⟩ => ⟨S8x256x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== OprojCtx.lean ====
abbrev S8x256x1024 : Shape := ⟨3, ![8, 256, 1024]⟩
abbrev S1x3x1024 : Shape := ⟨3, ![1, 3, 1024]⟩
abbrev S1024x1024 : Shape := ⟨2, ![1024, 1024]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .bf16⟩
  | .hbm, ⟨2, _⟩ => ⟨S1x3x1024, .f32⟩
  | .hbm, ⟨3, _⟩ => ⟨S1024x1024, .bf16⟩
  | .hbm, ⟨4, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x3x1024, .f32⟩
  | .local _ .vmem, ⟨5, _⟩ => ⟨S1024x1024, .bf16⟩
  | .local _ .vmem, ⟨6, _⟩ => ⟨S1x256x1024, .f32⟩
  | .local _ .vmem, ⟨7, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OprojCtxRefIdeal.lean ====
abbrev S8x256x1024 : Shape := ⟨3, ![8, 256, 1024]⟩
abbrev S1x3x1024 : Shape := ⟨3, ![1, 3, 1024]⟩
abbrev S1024x1024 : Shape := ⟨2, ![1024, 1024]⟩
abbrev S1x1x1024 : Shape := ⟨3, ![1, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .bf16⟩
  | .hbm, ⟨2, _⟩ => ⟨S1x3x1024, .f32⟩
  | .hbm, ⟨3, _⟩ => ⟨S1024x1024, .bf16⟩
  | .hbm, ⟨4, _⟩ => ⟨S1x1x1024, .f32⟩
  | .hbm, ⟨5, _⟩ => ⟨S8x256x1024, .f32⟩
  | .hbm, ⟨6, _⟩ => ⟨S1024x1024, .f32⟩
  | .hbm, ⟨7, _⟩ => ⟨S8x256x1024, .f32⟩
  | .hbm, ⟨8, _⟩ => ⟨S8x256x1024, .f32⟩
  | .hbm, ⟨9, _⟩ => ⟨S8x256x1024, .f32⟩
  | .hbm, ⟨10, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AttnCtx.lean ====
abbrev S8x256x1024 : Shape := ⟨3, ![8, 256, 1024]⟩
abbrev S8x256x256 : Shape := ⟨3, ![8, 256, 256]⟩
abbrev S1x128x512 : Shape := ⟨3, ![1, 128, 512]⟩
abbrev S1x256x128 : Shape := ⟨3, ![1, 256, 128]⟩
abbrev S1x128x128 : Shape := ⟨3, ![1, 128, 128]⟩
abbrev S128x128 : Shape := ⟨2, ![128, 128]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S8x256x256, .bf16⟩
  | .hbm, ⟨2, _⟩ => ⟨S8x256x256, .bf16⟩
  | .hbm, ⟨3, _⟩ => ⟨S8x256x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x512, .bf16⟩
  | .local _ .vmem, ⟨7, _⟩ => ⟨S1x128x512, .bf16⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnCtxRefIdeal.lean ====
abbrev S8x256x1024 : Shape := ⟨3, ![8, 256, 1024]⟩
abbrev S8x256x256 : Shape := ⟨3, ![8, 256, 256]⟩
abbrev S8x256x2x4x128 : Shape := ⟨5, ![8, 256, 2, 4, 128]⟩
abbrev S8x256x2x128 : Shape := ⟨4, ![8, 256, 2, 128]⟩
abbrev S8x2x256x256x4 : Shape := ⟨5, ![8, 2, 256, 256, 4]⟩
abbrev S8x2x4x256x256 : Shape := ⟨5, ![8, 2, 4, 256, 256]⟩
abbrev S_ : Shape := ⟨0, ![]⟩
abbrev S8x2x4x256 : Shape := ⟨4, ![8, 2, 4, 256]⟩
abbrev S8x2x4x256x1 : Shape := ⟨5, ![8, 2, 4, 256, 1]⟩
abbrev S8x2x128x4x256 : Shape := ⟨5, ![8, 2, 128, 4, 256]⟩

abbrev nBuf : Space → Nat
  | .hbm => 33
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x256, .bf16⟩
  | .hbm, ⟨2, _⟩ => ⟨S8x256x256, .bf16⟩
  | .hbm, ⟨3, _⟩ => ⟨S8x256x1024, .f32⟩
  | .hbm, ⟨4, _⟩ => ⟨S8x256x2x4x128, .f32⟩
  | .hbm, ⟨5, _⟩ => ⟨S8x256x256, .f32⟩
  | .hbm, ⟨6, _⟩ => ⟨S8x256x2x128, .f32⟩
  | .hbm, ⟨7, _⟩ => ⟨S8x256x256, .f32⟩
  | .hbm, ⟨8, _⟩ => ⟨S8x256x2x128, .f32⟩
  | .hbm, ⟨9, _⟩ => ⟨S8x2x256x256x4, .f32⟩
  | .hbm, ⟨10, _⟩ => ⟨S8x2x4x256x256, .f32⟩
  | .hbm, ⟨11, _⟩ => ⟨S_, .f32⟩
  | .hbm, ⟨12, _⟩ => ⟨S_, .f32⟩
  | .hbm, ⟨13, _⟩ => ⟨S8x2x4x256x256, .f32⟩
  | .hbm, ⟨14, _⟩ => ⟨S8x2x4x256x256, .f32⟩
  | .hbm, ⟨15, _⟩ => ⟨S_, .f32⟩
  | .hbm, ⟨16, _⟩ => ⟨S8x2x4x256, .f32⟩
  | .hbm, ⟨17, _⟩ => ⟨S_, .f32⟩
  | .hbm, ⟨18, _⟩ => ⟨S8x2x4x256, .f32⟩
  | .hbm, ⟨19, _⟩ => ⟨S8x2x4x256, .f32⟩
  | .hbm, ⟨20, _⟩ => ⟨S8x2x4x256x1, .f32⟩
  | .hbm, ⟨21, _⟩ => ⟨S8x2x4x256x256, .f32⟩
  | .hbm, ⟨22, _⟩ => ⟨S8x2x4x256x256, .f32⟩
  | .hbm, ⟨23, _⟩ => ⟨S8x2x4x256x256, .f32⟩
  | .hbm, ⟨24, _⟩ => ⟨S_, .f32⟩
  | .hbm, ⟨25, _⟩ => ⟨S8x2x4x256, .f32⟩
  | .hbm, ⟨26, _⟩ => ⟨S8x2x4x256x1, .f32⟩
  | .hbm, ⟨27, _⟩ => ⟨S8x2x4x256x256, .f32⟩
  | .hbm, ⟨28, _⟩ => ⟨S8x2x4x256x256, .f32⟩
  | .hbm, ⟨29, _⟩ => ⟨S8x2x128x4x256, .f32⟩
  | .hbm, ⟨30, _⟩ => ⟨S8x256x2x4x128, .f32⟩
  | .hbm, ⟨31, _⟩ => ⟨S8x256x1024, .f32⟩
  | .hbm, ⟨32, _⟩ => ⟨S8x256x1024, .bf16⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Softmax.lean ====
/-
  The arithmetic the attention core rests on, over the extended reals: a finite sum times a nonnegative real, the
  maximum of a row of reals, and the two ways of writing a weighted mean with exponential weights.
-/
module

public import Idealize.ShloMosaic.PureOps.Ideal
public import Idealize.ShloMosaic.PureOps.Ideal.Laws

@[expose] public section

noncomputable section

open Idealize.ShloMosaic

namespace Cert.Softmax

/-- A nonnegative real factor moves into a sum of arbitrary extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    rw [mul_comm, EReal.left_distrib_of_nonneg_of_ne_top (by exact_mod_cast hc) (EReal.coe_ne_top c), mul_comm (c : EReal),
      mul_comm (c : EReal)]

/-- The sum of finitely many reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of finite extended reals is a real. -/
theorem exists_real_sum_mul {n : Nat} (a b : Fin n → EReal) (ha : ∀ k, ∃ r : ℝ, a k = r) (hb : ∀ k, ∃ r : ℝ, b k = r) :
    ∃ r : ℝ, ∑ k : Fin n, a k * b k = (r : EReal) := by
  choose a' ha using ha
  choose b' hb using hb
  refine ⟨∑ k, a' k * b' k, ?_⟩
  rw [coe_sum]
  exact Finset.sum_congr rfl fun k _ => by rw [ha, hb, EReal.coe_mul]

/-- The maximum of a nonempty row of reals folded from below is the maximum of the reals. -/
theorem fold_max_coe {n : Nat} (hn : 0 < n) (f : Fin n → ℝ) (h : (Finset.univ : Finset (Fin n)).Nonempty) :
    (Finset.univ : Finset (Fin n)).fold max (⊥ : EReal) (fun k => (f k : EReal))
      = ((Finset.univ.sup' h f : ℝ) : EReal) := by
  apply le_antisymm
  · rw [Finset.fold_max_le]
    exact ⟨bot_le, fun k hk => by exact_mod_cast Finset.le_sup' f hk⟩
  · obtain ⟨k, hk, hm⟩ := Finset.exists_mem_eq_sup' h f
    rw [hm]
    exact (Finset.le_fold_max _).2 (Or.inr ⟨k, hk, le_rfl⟩)

/-- Scaling every entry by a nonnegative real scales the maximum. -/
theorem sup'_mul_const {n : Nat} (f : Fin n → ℝ) (h : (Finset.univ : Finset (Fin n)).Nonempty) {c : ℝ} (hc : 0 ≤ c) :
    Finset.univ.sup' h (fun k => f k * c) = Finset.univ.sup' h f * c := by
  apply le_antisymm
  · exact Finset.sup'_le _ _ fun k hk => mul_le_mul_of_nonneg_right (Finset.le_sup' f hk) hc
  · obtain ⟨k, hk, hm⟩ := Finset.exists_mem_eq_sup' h f
    rw [hm]
    exact Finset.le_sup' (fun k => f k * c) hk

/-- Powers of two are exponentials at the natural logarithm of two. -/
theorem two_rpow (x : ℝ) : Real.rpow 2 x = Real.exp (x * Real.log 2) := by
  show (2 : ℝ) ^ x = _
  rw [Real.rpow_def_of_pos (by norm_num), mul_comm]

/-- The weighted mean with weights `2 ^ (s - max s)`, divided once at the end, is the weighted mean whose weights
    `exp (s ln 2 - max (s ln 2))` are each divided by their sum. The scores are real; the values are arbitrary. -/
theorem mean_eq {n : Nat} (hn : 0 < n) (s v : Fin n → EReal) (hs : ∀ j, ∃ r : ℝ, s j = r) :
    Ideal.div
        (∑ j, Ideal.exp2 (s j - Finset.univ.fold max ⊥ s) * v j)
        (∑ j, Ideal.exp2 (s j - Finset.univ.fold max ⊥ s))
      = ∑ j, Ideal.div
          (Ideal.exp (s j * ((Real.log 2 : ℝ) : EReal) - Finset.univ.fold max ⊥ (fun k => s k * ((Real.log 2 : ℝ) : EReal))))
          (∑ j', Ideal.exp (s j' * ((Real.log 2 : ℝ) : EReal) - Finset.univ.fold max ⊥ (fun k => s k * ((Real.log 2 : ℝ) : EReal))))
          * v j := by
  choose σ hσ using hs
  obtain rfl : s = fun j => (σ j : EReal) := funext hσ
  have hne : (Finset.univ : Finset (Fin n)).Nonempty := ⟨⟨0, hn⟩, Finset.mem_univ _⟩
  have hl : 0 ≤ Real.log 2 := Real.log_nonneg (by norm_num)
  simp only [← EReal.coe_mul]
  rw [fold_max_coe hn σ hne, fold_max_coe hn (fun k => σ k * Real.log 2) hne, sup'_mul_const σ hne hl]
  simp only [← EReal.coe_sub, Ideal.exp2_coe, Ideal.exp_coe, two_rpow, sub_mul]
  set μ : ℝ := Finset.univ.sup' hne σ * Real.log 2
  simp only [← coe_sum]
  set L : ℝ := ∑ j, Real.exp (σ j * Real.log 2 - μ) with hL
  have hLpos : 0 < L := Finset.sum_pos (fun j _ => Real.exp_pos _) hne
  simp only [Ideal.div_coe hLpos.ne']
  rw [sum_mul_real _ _ (by positivity)]
  exact Finset.sum_congr rfl fun j _ => by rw [mul_assoc, mul_comm (v j), ← mul_assoc]

end Cert.Softmax

end
-- ==== Proof.Attn.lean ====
/-
  The attention core: what the kernel leaves in its result array, what the reference computes, and that they are one
  function of the arguments wherever the queries and the keys are finite.
-/
module

public import proofs.«01_k».proof.Defs
public import proofs.«01_k».proof.Proof.Softmax
public import proofs.«01_k».proof.Proof.Gen.AttnIdeal.Frame
public import proofs.«01_k».proof.Proof.Gen.AttnIdeal.Value
public import proofs.«01_k».proof.Proof.Gen.AttnRefIdeal.Read
public import proofs.«01_k».proof.Proof.Gen.Pre_finite
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.AttnIdeal.RefValue

open Cert.AttnIdeal Cert.AttnIdeal.Gen

/-! ## One query -/

/-- The mean of the values `v` weighted by `2 ^ (s - max s)`, divided once by the sum of the weights. -/
def core (s v : Fin 4352 → EReal) : EReal :=
  Ideal.div (∑ j, Ideal.exp2 (s j - Finset.univ.fold max (Ideal.ofBits FTy.f32 0xFF800000#32) s) * v j)
    (∑ j, Ideal.exp2 (s j - Finset.univ.fold max (Ideal.ofBits FTy.f32 0xFF800000#32) s))

/-- The column of the query array that holds entry `c` of the head that column `l` belongs to. -/
def ql (l : Fin 1024) (c : Fin 128) : Fin 1024 := ⟨l.val / 128 * 128 + c.val, by have := l.isLt; have := c.isLt; omega⟩
/-- The column of the key array that holds entry `c` of the group that column `l` belongs to. -/
def kl (l : Fin 1024) (c : Fin 128) : Fin 256 := ⟨l.val / 512 * 128 + c.val, by have := l.isLt; have := c.isLt; omega⟩
/-- The place of column `l` within its head. -/
def dl (l : Fin 1024) : Fin 128 := ⟨l.val % 128, by omega⟩

/-- The scores of one query against every key. -/
def score (q : FVec Ideal S8x4096x1024 .bf16) (k : FVec Ideal S8x4352x256 .bf16) (b : Fin 8) (r : Fin 4096) (l : Fin 1024)
    (j : Fin 4352) : EReal := ∑ c : Fin 128, q (ix3 b r (ql l c)) * k (ix3 b j (kl l c))

/-- The function of the argument arrays both programs compute. -/
def G (q : FVec Ideal S8x4096x1024 .bf16) (k v : FVec Ideal S8x4352x256 .bf16) : FVec Ideal S8x4096x1024 .bf16 := fun i =>
  core (score q k (i 0) (i 1) (i 2)) fun j => v (ix3 (i 0) j (kl (i 2) (dl (i 2))))

/-! ## The kernel's tile -/

/-- The four heads of a query tile stacked, read at a row and a column. -/
def stack (v0 v2 v4 v6 : Vec Ideal S1x128x128 .bf16) (R : Fin 512) (c : Fin 128) : EReal :=
  if h : R.val < 128 then v0 (ix3 0 ⟨R.val, h⟩ c)
  else if h : R.val - 128 < 128 then v2 (ix3 0 ⟨R.val - 128, h⟩ c)
  else if h : R.val - 128 - 128 < 128 then v4 (ix3 0 ⟨R.val - 128 - 128, h⟩ c)
  else v6 (ix3 0 ⟨R.val - 128 - 128 - 128, by have := R.isLt; omega⟩ c)

/-- The stacked result at a row and a column. -/
theorem pay4_apply (v0 v2 v4 v6 : Vec Ideal S1x128x128 .bf16) (v9 v20 : Vec Ideal S1x4352x128 .bf16) (R : Fin 512) (d : Fin 128) :
    k0_pay4 v0 v2 v4 v6 v9 v20 (ix2 R d)
      = core (fun j => ∑ c : Fin 128, stack v0 v2 v4 v6 R c * v9 (ix3 0 j c)) fun j => v20 (ix3 0 j d) := by
  unfold core stack
  pointwise [k0_pay4]
  rfl

/-- The first head stored: the first 128 rows of the four heads stacked. -/
theorem pay5_apply (v0 v2 v4 v6 : Vec Ideal S1x128x128 .bf16) (v9 v20 : Vec Ideal S1x4352x128 .bf16) (a : Fin 1) (r d : Fin 128) :
    k0_pay5 v0 v2 v4 v6 v9 v20 (ix3 a r d) = k0_pay4 v0 v2 v4 v6 v9 v20 (ix2 ⟨r.val, by have := r.isLt; omega⟩ d) := by
  unfold k0_pay5
  generalize k0_pay4 v0 v2 v4 v6 v9 v20 = p
  pointwise

/-- The second head stored: the next 128 rows of the four heads stacked. -/
theorem pay16_apply (v0 v2 v4 v6 : Vec Ideal S1x128x128 .bf16) (v9 v20 : Vec Ideal S1x4352x128 .bf16) (a : Fin 1) (r d : Fin 128) :
    k0_pay1 (k0_pay6 v0 v2 v4 v6 v9 v20) (ix3 a r d)
      = k0_pay4 v0 v2 v4 v6 v9 v20 (ix2 ⟨128 + r.val, by have := r.isLt; omega⟩ d) := by
  unfold k0_pay6
  generalize k0_pay4 v0 v2 v4 v6 v9 v20 = p
  pointwise [k0_pay1]

/-- The third head stored: the third 128 rows of the four heads stacked. -/
theorem pay2_apply (p : FVec Ideal S512x128 .f32) (a : Fin 1) (r d : Fin 128) :
    k0_pay2 p (ix3 a r d) = p (ix2 ⟨256 + r.val, by have := r.isLt; omega⟩ d) := by
  pointwise [k0_pay2]

/-- The fourth head stored: the last 128 rows of the four heads stacked. -/
theorem pay3_apply (p : FVec Ideal S512x128 .f32) (a : Fin 1) (r d : Fin 128) :
    k0_pay3 p (ix3 a r d) = p (ix2 ⟨384 + r.val, by have := r.isLt; omega⟩ d) := by
  pointwise [k0_pay3]

/-- Offsets that are all zero, on three axes. -/
theorem hz3 : (![0, 0, 0] : Fin 3 → Nat) = fun _ => 0 := funext fun a => by fin_cases a <;> rfl

/-- One query of a block. -/
def blkG (x0 : Vec Ideal S1x128x512 .bf16) (x1 x2 : Vec Ideal S1x4352x128 .bf16) (r : Fin 128) (l : Fin 512) : EReal :=
  core (fun j => ∑ c : Fin 128, x0 (ix3 0 r ⟨l.val / 128 * 128 + c.val, by have := l.isLt; have := c.isLt; omega⟩) * x1 (ix3 0 j c))
    fun j => x2 (ix3 0 j ⟨l.val % 128, by omega⟩)

/-- The stacked heads at a row of head `h` are the columns of that head. -/
theorem stack_ld (x0 : Vec Ideal S1x128x512 .bf16) (h : Nat) (hh : h < 4) (r d c : Fin 128) (R : Fin 512) (l : Fin 512)
    (hR : R.val = h * 128 + r.val) (hl : l.val = h * 128 + d.val) :
    stack (View.ld x0 r0_0) (View.ld x0 r0_1) (View.ld x0 r0_2) (View.ld x0 r0_3) R c
      = x0 (ix3 0 r ⟨l.val / 128 * 128 + c.val, by have := l.isLt; have := c.isLt; omega⟩) := by
  obtain ⟨R, hR'⟩ := R
  obtain ⟨l, hl'⟩ := l
  have hr := r.isLt
  have hd := d.isLt
  have hc := c.isLt
  dsimp only at hR hl
  subst hR hl
  unfold stack
  dsimp only
  have e : (h * 128 + d.val) / 128 * 128 = h * 128 := by omega
  simp only [e]
  interval_cases h
  · rw [dif_pos (by omega)]
    pointwise
    all_goals (congr 1; idx_ext <;> omega)
  · rw [dif_neg (by omega), dif_pos (by omega)]
    pointwise
    all_goals (congr 1; idx_ext <;> omega)
  · rw [dif_neg (by omega), dif_neg (by omega), dif_pos (by omega)]
    pointwise
    all_goals (congr 1; idx_ext <;> omega)
  · rw [dif_neg (by omega), dif_neg (by omega), dif_neg (by omega)]
    pointwise
    all_goals (congr 1; idx_ext <;> omega)

/-- A row of head `h` of the stacked result is a query of the block. -/
theorem head_apply (x0 : Vec Ideal S1x128x512 .bf16) (x1 x2 : Vec Ideal S1x4352x128 .bf16) (h : Nat) (hh : h < 4) (r d : Fin 128)
    (R : Fin 512) (l : Fin 512) (hR : R.val = h * 128 + r.val) (hl : l.val = h * 128 + d.val) :
    k0_pay4 (View.ld x0 r0_0) (View.ld x0 r0_1) (View.ld x0 r0_2) (View.ld x0 r0_3) (View.ld x1 r0_4) (View.ld x2 r0_4) (ix2 R d)
      = blkG x0 x1 x2 r l := by
  rw [pay4_apply, View.ld_unit_zero hz3, View.ld_unit_zero hz3]
  unfold blkG
  have e : (⟨l.val % 128, by omega⟩ : Fin 128) = d := Fin.ext (by have := d.isLt; show l.val % 128 = d.val; omega)
  simp only [stack_ld x0 h hh r d _ R l hR hl, e]

/-- What one grid point leaves in the result's tile, read at a row and a column. -/
theorem out_apply (x0 : Vec Ideal S1x128x512 .bf16) (x1 x2 : Vec Ideal S1x4352x128 .bf16) (a : Fin 1) (r : Fin 128) (l : Fin 512) :
    out0_3 x0 x1 x2 (ix3 a r l) = blkG x0 x1 x2 r l := by
  unfold out0_3
  refine View.canon_apply_of_pieces (Val := Elt Ideal) (e := .bf16) (S := S1x128x512) (fun y => blkG x0 x1 x2 (y 1) (y 2)) _ ?_ (ix3 a r l) ?_
  · simp only [List.mem_cons, List.not_mem_nil, or_false]
    rintro p (rfl | rfl | rfl | rfl) x
    all_goals
      obtain ⟨a, r, d, rfl⟩ : ∃ (a : Fin 1) (r d : Fin 128), x = ix3 a r d := ⟨x 0, x 1, x 2, eq_ix3 x⟩
      have hd := d.isLt
      dsimp only
    · refine (pay3_apply _ a r d).trans ((head_apply x0 x1 x2 3 (by omega) r d ⟨384 + r.val, by have := r.isLt; omega⟩ ⟨384 + d.val, by omega⟩ rfl rfl).trans ?_)
      congr 1
      · exact Fin.ext (show r.val = 0 + 1 * r.val by omega)
      · exact Fin.ext (show 384 + d.val = 384 + 1 * d.val by omega)
    · refine (pay2_apply _ a r d).trans ((head_apply x0 x1 x2 2 (by omega) r d ⟨256 + r.val, by have := r.isLt; omega⟩ ⟨256 + d.val, by omega⟩ rfl rfl).trans ?_)
      congr 1
      · exact Fin.ext (show r.val = 0 + 1 * r.val by omega)
      · exact Fin.ext (show 256 + d.val = 256 + 1 * d.val by omega)
    · refine (pay16_apply _ _ _ _ _ _ a r d).trans ((head_apply x0 x1 x2 1 (by omega) r d ⟨128 + r.val, by have := r.isLt; omega⟩ ⟨128 + d.val, by omega⟩ (by simp) (by simp)).trans ?_)
      congr 1
      · exact Fin.ext (show r.val = 0 + 1 * r.val by omega)
      · exact Fin.ext (show 128 + d.val = 128 + 1 * d.val by omega)
    · refine (pay5_apply _ _ _ _ _ _ a r d).trans ((head_apply x0 x1 x2 0 (by omega) r d ⟨r.val, by have := r.isLt; omega⟩ ⟨d.val, by omega⟩ (by simp) (by simp)).trans ?_)
      congr 1
      · exact Fin.ext (show r.val = 0 + 1 * r.val by omega)
      · exact Fin.ext (show d.val = 0 + 1 * d.val by omega)
  · have hl := l.isLt
    have hr := r.isLt
    have ha := a.isLt
    simp only [List.mem_cons, List.not_mem_nil, or_false, exists_eq_or_imp, exists_eq_left]
    rw [Rect.mem_set_unit, Rect.mem_set_unit, Rect.mem_set_unit, Rect.mem_set_unit]
    have key : ∀ o : Nat, o ≤ l.val → l.val < o + 128 → ∀ b : Fin 3, (![0, 0, o] : Fin 3 → Nat) b ≤ ((ix3 a r l : S1x128x512.Idx) b).val
        ∧ ((ix3 a r l : S1x128x512.Idx) b).val < (![0, 0, o] : Fin 3 → Nat) b + S1x128x128.size b := by
      intro o h1 h2 b
      match b with
      | ⟨0, _⟩ => exact ⟨Nat.zero_le _, by show a.val < 0 + 1; omega⟩
      | ⟨1, _⟩ => exact ⟨Nat.zero_le _, by show r.val < 0 + 128; omega⟩
      | ⟨2, _⟩ => exact ⟨h1, h2⟩
    rcases Nat.lt_or_ge l.val 128 with h | h
    · exact Or.inr (Or.inr (Or.inr (key 0 (by omega) (by omega))))
    rcases Nat.lt_or_ge l.val 256 with h' | h'
    · exact Or.inr (Or.inr (Or.inl (key 128 (by omega) (by omega))))
    rcases Nat.lt_or_ge l.val 384 with h'' | h''
    · exact Or.inr (Or.inl (key 256 (by omega) (by omega)))
    · exact Or.inl (key 384 (by omega) (by omega))

/-! ## From the tile to the array -/

variable (m : (ℓ : Loc nD τ sig) → Buf (Elt Ideal) ℓ) (ρ : Dev nD → PrngReg)

/-- The batch entry a grid point works on. -/
def tb (t : Fin cfg0.N) : Fin 8 := ⟨t.val / 64, by have : cfg0.N = 512 := N_0; have := t.isLt; omega⟩
/-- The first row of the tile a grid point works on, plus a row of the tile. -/
def tr (t : Fin cfg0.N) (r : Fin 128) : Fin 4096 := ⟨t.val % 32 * 128 + r.val, by have := r.isLt; omega⟩
/-- The query column of a grid point's group. -/
def tl (t : Fin cfg0.N) (l : Fin 512) : Fin 1024 := ⟨t.val / 32 % 2 * 512 + l.val, by have := l.isLt; omega⟩
/-- The key column of a grid point's group. -/
def tk (t : Fin cfg0.N) (d : Fin 128) : Fin 256 := ⟨t.val / 32 % 2 * 128 + d.val, by have := d.isLt; omega⟩

/-- Where each window stands at a grid point. -/
theorem idx_facts : ∀ t : Fin grid0.N,
    (win0_0.index t 0 = t.val / 64 ∧ win0_0.index t 1 = t.val % 32 ∧ win0_0.index t 2 = t.val / 32 % 2)
    ∧ (win0_1.index t 0 = t.val / 64 ∧ win0_1.index t 1 = 0 ∧ win0_1.index t 2 = t.val / 32 % 2)
    ∧ (win0_2.index t 0 = t.val / 64 ∧ win0_2.index t 1 = 0 ∧ win0_2.index t 2 = t.val / 32 % 2)
    ∧ (win0_3.index t 0 = t.val / 64 ∧ win0_3.index t 1 = t.val % 32 ∧ win0_3.index t 2 = t.val / 32 % 2) := by
  decide +kernel

/-- The queries' block, read in the array. -/
theorem iblk0_apply (c : Dev nD) (t : Fin cfg0.N) (a : Fin 1) (r : Fin 128) (k : Fin 512) :
    (iblk m c 0 t : Vec Ideal S1x128x512 .bf16) (ix3 a r k) = m ((c : Thread nD τ).loc main_arg0) (ix3 (tb t) (tr t r) (tl t k)) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val / 64; rw [hi.1]; omega
  | ⟨1, _⟩ => show win0_0.index t 1 * 128 + 1 * r.val = t.val % 32 * 128 + r.val; rw [hi.2.1]; omega
  | ⟨2, _⟩ => show win0_0.index t 2 * 512 + 1 * k.val = t.val / 32 % 2 * 512 + k.val; rw [hi.2.2]; omega

/-- The keys' block, read in the array. -/
theorem iblk1_apply (c : Dev nD) (t : Fin cfg0.N) (a : Fin 1) (r : Fin 4352) (k : Fin 128) :
    (iblk m c 1 t : Vec Ideal S1x4352x128 .bf16) (ix3 a r k) = m ((c : Thread nD τ).loc main_arg1) (ix3 (tb t) r (tk t k)) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = t.val / 64; rw [hi.1]; omega
  | ⟨1, _⟩ => show win0_1.index t 1 * 4352 + 1 * r.val = r.val; rw [hi.2.1]; omega
  | ⟨2, _⟩ => show win0_1.index t 2 * 128 + 1 * k.val = t.val / 32 % 2 * 128 + k.val; rw [hi.2.2]; omega

/-- The values' block, read in the array. -/
theorem iblk2_apply (c : Dev nD) (t : Fin cfg0.N) (a : Fin 1) (r : Fin 4352) (k : Fin 128) :
    (iblk m c 2 t : Vec Ideal S1x4352x128 .bf16) (ix3 a r k) = m ((c : Thread nD τ).loc main_arg2) (ix3 (tb t) r (tk t k)) := by
  have hi := (idx_facts t).2.2.1
  unfold iblk
  rw [View.read_apply]
  show V m c main_arg2 _ = _
  rw [V_main_arg2]
  congr 1
  funext d
  apply Fin.ext
  match d with
  | ⟨0, _⟩ => show win0_2.index t 0 * 1 + 1 * a.val = t.val / 64; rw [hi.1]; omega
  | ⟨1, _⟩ => show win0_2.index t 1 * 4352 + 1 * r.val = r.val; rw [hi.2.1]; omega
  | ⟨2, _⟩ => show win0_2.index t 2 * 128 + 1 * k.val = t.val / 32 % 2 * 128 + k.val; rw [hi.2.2]; omega

/-- The value the result array is shown to hold. -/
abbrev res (c : Dev nD) : FVec Ideal S8x4096x1024 .bf16 :=
  G (m ((c : Thread nD τ).loc main_arg0)) (m ((c : Thread nD τ).loc main_arg1)) (m ((c : Thread nD τ).loc main_arg2))

/-- A column of the block's head is a column of the head in the array. -/
theorem ql_tl (t : Fin cfg0.N) (l : Fin 512) (c : Fin 128) :
    ql (tl t l) c = tl t ⟨l.val / 128 * 128 + c.val, by have := l.isLt; have := c.isLt; omega⟩ :=
  Fin.ext (by show (t.val / 32 % 2 * 512 + l.val) / 128 * 128 + c.val = t.val / 32 % 2 * 512 + (l.val / 128 * 128 + c.val); omega)

/-- The keys' column a column of the block looks at. -/
theorem kl_tl (t : Fin cfg0.N) (l : Fin 512) (c : Fin 128) : kl (tl t l) c = tk t c :=
  Fin.ext (by have := l.isLt; show (t.val / 32 % 2 * 512 + l.val) / 512 * 128 + c.val = t.val / 32 % 2 * 128 + c.val; omega)

/-- A column's place in its head, in the block and in the array. -/
theorem dl_tl (t : Fin cfg0.N) (l : Fin 512) : dl (tl t l) = ⟨l.val % 128, by omega⟩ :=
  Fin.ext (by show (t.val / 32 % 2 * 512 + l.val) % 128 = l.val % 128; omega)

/-- What a grid point writes back is its block of the whole result. -/
theorem flushed_eq (c : Dev nD) (t : Fin cfg0.N) :
    (dats m 0 c).flushed 3 t = (win0_3.blk t).view.read (Elt Ideal) (res m c) := by
  rw [Value.flushed3]
  funext i
  obtain ⟨a, r, k, rfl⟩ : ∃ (a : Fin 1) (r : Fin 128) (k : Fin 512), i = ix3 a r k := ⟨i 0, i 1, i 2, eq_ix3 i⟩
  have hi := (idx_facts t).2.2.2
  refine (out_apply _ _ _ a r k).trans ?_
  rw [View.read_apply]
  have e : (win0_3.blk t).view.emb (ix3 a r k) = ix3 (tb t) (tr t r) (tl t k) := by
    funext d
    apply Fin.ext
    match d with
    | ⟨0, _⟩ => show win0_3.index t 0 * 1 + 1 * a.val = t.val / 64; rw [hi.1]; omega
    | ⟨1, _⟩ => show win0_3.index t 1 * 128 + 1 * r.val = t.val % 32 * 128 + r.val; rw [hi.2.1]; omega
    | ⟨2, _⟩ => show win0_3.index t 2 * 512 + 1 * k.val = t.val / 32 % 2 * 512 + k.val; rw [hi.2.2]; omega
  rw [e]
  show _ = G (m ((c : Thread nD τ).loc main_arg0)) (m ((c : Thread nD τ).loc main_arg1)) (m ((c : Thread nD τ).loc main_arg2))
    (ix3 (tb t) (tr t r) (tl t k))
  unfold blkG
  show _ = core (score (m ((c : Thread nD τ).loc main_arg0)) (m ((c : Thread nD τ).loc main_arg1)) (tb t) (tr t r) (tl t k))
    fun j => m ((c : Thread nD τ).loc main_arg2) (ix3 (tb t) j (kl (tl t k) (dl (tl t k))))
  simp only [iblk0_apply, iblk1_apply, iblk2_apply, ← ql_tl, ← kl_tl t k]
  rw [dl_tl]
  rfl

/-- The result's blocks, by their rows and columns. -/
theorem mem_blk (t : Fin cfg0.N) (i : S8x4096x1024.Idx) :
    i ∈ ((cfg0.win 3).blk t).view.set
      ↔ (i 0 : Nat) = t.val / 64 ∧ (t.val % 32 * 128 ≤ (i 1 : Nat) ∧ (i 1 : Nat) < t.val % 32 * 128 + 128)
        ∧ (t.val / 32 % 2 * 512 ≤ (i 2 : Nat) ∧ (i 2 : Nat) < t.val / 32 % 2 * 512 + 512) := by
  show i ∈ ((View.whole main_v0).slice (win0_3.rect t)).set ↔ _
  have hi := (idx_facts t).2.2.2
  rw [View.set_slice_whole, Rect.mem_set_unit]
  refine ⟨fun h => ?_, fun h a => ?_⟩
  · have a0 : win0_3.index t 0 * 1 ≤ (i 0 : Nat) ∧ (i 0 : Nat) < win0_3.index t 0 * 1 + 1 := h 0
    have a1 : win0_3.index t 1 * 128 ≤ (i 1 : Nat) ∧ (i 1 : Nat) < win0_3.index t 1 * 128 + 128 := h 1
    have a2 : win0_3.index t 2 * 512 ≤ (i 2 : Nat) ∧ (i 2 : Nat) < win0_3.index t 2 * 512 + 512 := h 2
    rw [hi.1] at a0
    rw [hi.2.1] at a1
    rw [hi.2.2] at a2
    exact ⟨by omega, a1, a2⟩
  · match a with
    | ⟨0, _⟩ => show win0_3.index t 0 * 1 ≤ (i 0 : Nat) ∧ (i 0 : Nat) < win0_3.index t 0 * 1 + 1; rw [hi.1]; omega
    | ⟨1, _⟩ => show win0_3.index t 1 * 128 ≤ (i 1 : Nat) ∧ (i 1 : Nat) < win0_3.index t 1 * 128 + 128; rw [hi.2.1]; omega
    | ⟨2, _⟩ => show win0_3.index t 2 * 512 ≤ (i 2 : Nat) ∧ (i 2 : Nat) < win0_3.index t 2 * 512 + 512; rw [hi.2.2]; omega

/-- Every index of the result lies in the block of a grid point that writes it back. -/
theorem cover (i : S8x4096x1024.Idx) :
    ∃ t : Fin cfg0.N, (cfg0.win 3).flush t = true ∧ i ∈ ((cfg0.win 3).blk t).view.set := by
  have h0 : (i 0 : Nat) < 8 := (i 0).isLt
  have h1 : (i 1 : Nat) < 4096 := (i 1).isLt
  have h2 : (i 2 : Nat) < 1024 := (i 2).isLt
  have hN : cfg0.N = 512 := N_0
  refine ⟨⟨(i 0).val * 64 + (i 2).val / 512 * 32 + (i 1).val / 128, by omega⟩, flush0_3 _, ?_⟩
  rw [mem_blk]
  dsimp only
  omega

/-- The result array after the run. -/
theorem final (c : Dev nD) : (dats m 0 c).arrAt 3 cfg0.N = res m c :=
  Dat.arrAt_eq_of_cover (dats m 0 c) 3 (res m c) (fun t _ => flushed_eq m c t) cover

end Cert.AttnIdeal.RefValue

/-! ## The reference -/

namespace Cert.AttnRefIdeal.RefValue

open Cert.AttnRefIdeal Cert.AttnRefIdeal.Read Cert.AttnRefIdeal.Gen Cert.AttnIdeal.RefValue

variable (x0 : FVec Ideal S8x4096x1024 .bf16) (x1 x2 : FVec Ideal S8x4352x256 .bf16)

/-- The result as a sum of weighted values. -/
theorem ref_out (b : Fin 8) (r : Fin 4096) (l : Fin 1024) :
    val_main_v25 (F := Ideal) x0 x1 x2 (ix3 b r l)
      = ∑ j : Fin 4352, val_main_v21 (F := Ideal) x0 x1
          (ix5 b ⟨l.val / 512, by have := l.isLt; omega⟩ ⟨l.val / 128 % 4, by omega⟩ r j) * x2 (ix3 b j (kl l (dl l))) := by
  unfold val_main_v25 val_main_v24 val_main_v23 val_main_v22
  generalize val_main_v21 (F := Ideal) x0 x1 = p
  unfold kl dl
  simp only [mul_comm (p _)]
  pointwise [val_main_v5, val_main_v4]

/-- The constant two. -/
theorem ofBits_two : Ideal.ofBits .f32 0x40000000#32 = ((2 : ℝ) : EReal) := by
  simp [Ideal.ofBits, Ideal.ieee]
  rw [← EReal.coe_mul]
  norm_num

/-- The constant minus infinity. -/
theorem ofBits_bot : Ideal.ofBits .f32 0xFF800000#32 = ⊥ := by
  simp [Ideal.ofBits, Ideal.ieee]

/-- The reference's scaled scores. -/
theorem ref_score (b : Fin 8) (r : Fin 4096) (l : Fin 1024) (j : Fin 4352) :
    val_main_v10 (F := Ideal) x0 x1 (ix5 b ⟨l.val / 512, by have := l.isLt; omega⟩ ⟨l.val / 128 % 4, by omega⟩ r j)
      = score x0 x1 b r l j * ((Real.log 2 : ℝ) : EReal) := by
  have e : Ideal.log (Ideal.ofBits .f32 0x40000000#32) = ((Real.log 2 : ℝ) : EReal) := by
    rw [ofBits_two, Ideal.log_coe, if_neg (by norm_num)]
  have hq : ∀ c : Fin 128, ql l c = ⟨l.val / 512 * 512 + l.val / 128 % 4 * 128 + c.val, by
      have := l.isLt; have := c.isLt; omega⟩ := fun c => Fin.ext (by
    show l.val / 128 * 128 + c.val = l.val / 512 * 512 + l.val / 128 % 4 * 128 + c.val; omega)
  unfold score
  simp only [hq, mul_comm (x0 _)]
  rw [← e]
  unfold kl
  pointwise [val_main_v10, val_main_v9, val_main_v8, val_main_v7, val_main_v6, val_main_v3, val_main_v2, val_main_v1, val_main_v0,
    val_main_cst]

/-- A maximum over the keys. -/
theorem max_apply (p : FVec Ideal S8x2x4x4096x4352 .f32) (z : FVec Ideal S_ .f32) (b : Fin 8) (g : Fin 2) (h : Fin 4) (r : Fin 4096) :
    Host.reduce (FloatOps.maximumf (F := Ideal) (φ := .f32)) p z reducesTo_S8x2x4x4096x4352_S8x2x4x4096_d4 h_S_ (ix4 b g h r)
      = Finset.univ.fold max (z (Shape.Idx.first h_S_)) fun j : Fin 4352 => p (ix5 b g h r j) := by
  rw [Host.reduce_eq_fold_single _ p z reducesTo_S8x2x4x4096x4352_S8x2x4x4096_d4 (by decide) h_S_]
  refine Finset.fold_congr fun j _ => ?_
  exact congrArg p (funext fun a => Fin.ext (by match a with | ⟨0, _⟩ => rfl | ⟨1, _⟩ => rfl | ⟨2, _⟩ => rfl | ⟨3, _⟩ => rfl | ⟨4, _⟩ => rfl))

/-- The row maximum the reference subtracts. -/
theorem ref_max (b : Fin 8) (g : Fin 2) (h : Fin 4) (r : Fin 4096) :
    val_main_v13 (F := Ideal) x0 x1 (ix4 b g h r)
      = Finset.univ.fold max ⊥ fun j : Fin 4352 => val_main_v10 (F := Ideal) x0 x1 (ix5 b g h r j) := by
  rw [val_main_v13_apply, val_main_v12_apply, val_main_cst_1_apply]
  unfold val_main_v11
  rw [max_apply, val_main_cst_0_apply]
  show max (Ideal.ofBits .f32 0xFF800000#32) (Finset.univ.fold max (Ideal.ofBits .f32 0xFF800000#32) _) = _
  rw [ofBits_bot]
  exact max_eq_right bot_le

/-- The reference's unnormalised weights. -/
theorem ref_exp (b : Fin 8) (g : Fin 2) (h : Fin 4) (r : Fin 4096) (j : Fin 4352) :
    val_main_v17 (F := Ideal) x0 x1 (ix5 b g h r j)
      = Ideal.exp (val_main_v10 (F := Ideal) x0 x1 (ix5 b g h r j)
          - Finset.univ.fold max ⊥ fun j : Fin 4352 => val_main_v10 (F := Ideal) x0 x1 (ix5 b g h r j)) := by
  rw [val_main_v17_apply, val_main_v16_apply, val_main_v15_apply, val_main_v14_apply, ← ref_max]
  have e : idx_main_v14 (idx_main_v15 (ix5 b g h r j)) = ix4 b g h r := by
    funext a; match a with | ⟨0, _⟩ => rfl | ⟨1, _⟩ => rfl | ⟨2, _⟩ => rfl | ⟨3, _⟩ => rfl
  rw [e]
  rfl

/-- The reference's weights. -/
theorem ref_weight (b : Fin 8) (g : Fin 2) (h : Fin 4) (r : Fin 4096) (j : Fin 4352) :
    val_main_v21 (F := Ideal) x0 x1 (ix5 b g h r j)
      = Ideal.div (val_main_v17 (F := Ideal) x0 x1 (ix5 b g h r j)) (∑ j : Fin 4352, val_main_v17 (F := Ideal) x0 x1 (ix5 b g h r j)) := by
  rw [val_main_v21_apply, val_main_v20_apply, val_main_v19_apply, val_main_v18_apply, val_main_cst_2_apply]
  have e : ∀ j', idx_main_v18 (idx_main_v19 (idx_main_v20 (ix5 b g h r j))) j' = ix5 b g h r j' := fun j' => by
    funext a; match a with | ⟨0, _⟩ => rfl | ⟨1, _⟩ => rfl | ⟨2, _⟩ => rfl | ⟨3, _⟩ => rfl | ⟨4, _⟩ => rfl
  simp only [e]
  show Ideal.div _ (Ideal.ofBits .f32 0x00000000#32 + _) = _
  rw [Ideal.ofBits_zero_f32, zero_add]

/-- Where every query and every key is a real the reference's result is the kernel's. -/
theorem ref_eq (hq : ∀ i, ∃ r : ℝ, x0 i = (r : EReal)) (hk : ∀ i, ∃ r : ℝ, x1 i = (r : EReal)) :
    val_main_v25 (F := Ideal) x0 x1 x2 = Cert.AttnIdeal.RefValue.G x0 x1 x2 := by
  funext i
  obtain ⟨b, r, l, rfl⟩ : ∃ (b : Fin 8) (r : Fin 4096) (l : Fin 1024), i = ix3 b r l := ⟨i 0, i 1, i 2, eq_ix3 i⟩
  show _ = core (score x0 x1 b r l) fun j => x2 (ix3 b j (kl l (dl l)))
  unfold core
  rw [ofBits_bot, Cert.Softmax.mean_eq (by norm_num) (score x0 x1 b r l) _ fun j => Cert.Softmax.exists_real_sum_mul _ _ (fun _ => hq _) fun _ => hk _]
  rw [ref_out]
  simp only [ref_weight, ref_exp, ref_score]

end Cert.AttnRefIdeal.RefValue

namespace Cert.Proof

/-- A comparison below the positive infinity that holds says the value is a real. -/
theorem exists_real_of_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => exact absurd hlt.2 (by simp)
  | top => exact absurd hlt.1 (by simp)
  | coe r => exact ⟨r, rfl⟩

/-- The precondition says every query and every key is a real. -/
theorem real_of_finite (q : FVec Ideal Cert.Pre_finite.S8x4096x1024 .bf16) (k v : FVec Ideal Cert.Pre_finite.S8x4352x256 .bf16)
    (h1 : (Cert.Pre_finite.fn (F := Ideal) q k v).1 = fun _ => 1#1) (h2 : (Cert.Pre_finite.fn (F := Ideal) q k v).2 = fun _ => 1#1) :
    (∀ i, ∃ r : ℝ, q i = (r : EReal)) ∧ ∀ i, ∃ r : ℝ, k i = (r : EReal) :=
  ⟨fun i => exists_real_of_lt_top _ (congrFun h1 i), fun i => exists_real_of_lt_top _ (congrFun h2 i)⟩

/-- The attention core and its reference compute one array of finite queries and keys. -/
theorem algebraic_attn : Cert.algebraic_AttnIdeal_AttnRefIdeal_pre_finite := by
  intro m ρ m' ρ' hpre hagree
  refine ⟨fun c => Cert.AttnIdeal.RefValue.res m c, ?_, ?_⟩
  · exact (θ_run Cert.AttnIdeal.defs _ _).mono
      (fun _ h c => ⟨(h c).1.trans (Cert.AttnIdeal.RefValue.final m c), (h c).2⟩)
      (Cert.AttnIdeal.Value.run_blocks (F := Ideal) m ρ)
  · refine (θ_run Cert.AttnRefIdeal.defs _ _).mono
      (fun _ h c => ⟨(h c).1.trans ?_, (h c).2⟩) (Cert.AttnRefIdeal.Value.run (F := Ideal) m' ρ')
    have hr := real_of_finite _ _ _ (hpre c).1 (hpre c).2
    rw [Cert.AttnRefIdeal.Read.val_main_v25_eq, (hagree c).1, (hagree c).2.1, (hagree c).2.2, Cert.AttnRefIdeal.RefValue.ref_eq _ _ _ hr.1 hr.2]

end Cert.Proof

end
-- ==== Proof.Ffn.lean ====
/-
  The feed-forward layer with the closing normalisation: what the kernel leaves in its result array, what the reference
  computes, and that they are one function of the arguments.
-/
module

public import proofs.«01_k».proof.Defs
public import proofs.«01_k».proof.Proof.Gen.FfnIdeal.Frame
public import proofs.«01_k».proof.Proof.Gen.FfnIdeal.Value
public import proofs.«01_k».proof.Proof.Gen.FfnRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfnIdeal.RefValue

open Cert.FfnIdeal Cert.FfnIdeal.Gen

/-! ## One token -/

/-- The reciprocal root mean square of a row. -/
def rms (x : Fin 1024 → EReal) : EReal :=
  Ideal.rsqrt (Ideal.div (∑ j, x j * x j) (Ideal.ofBits FTy.f32 1149239296#32) + Ideal.ofBits FTy.f32 897988541#32)

/-- A row normalised, scaled and shifted. -/
def hid (x g sc sh : Fin 1024 → EReal) (k : Fin 1024) : EReal := x k * rms x * (g k * (1 + sc k)) + sh k

/-- The gated unit of the hidden layer. -/
def act (a b : EReal) : EReal := a * Ideal.div 1 (1 + Ideal.exp (0 - a)) * b

/-- One column of the gate or of the value projection. -/
def proj (h : Fin 1024 → EReal) (w : Fin 1024 → EReal) : EReal := ∑ j, h j * w j

/-- A row after the feed-forward layer and its residual. -/
def mid (x g sc sh gt : Fin 1024 → EReal) (wi : Fin 1024 → Fin 5632 → EReal) (wo : Fin 2816 → Fin 1024 → EReal)
    (k : Fin 1024) : EReal :=
  x k + Ideal.ofBits FTy.f32 0x3F000000#32 * gt k * ∑ f : Fin 2816,
    act (proj (hid x g sc sh) fun j => wi j ⟨f.val, by have := f.isLt; omega⟩)
      (proj (hid x g sc sh) fun j => wi j ⟨2816 + f.val, by have := f.isLt; omega⟩) * wo f k

/-- A row of the result. -/
def row (x g sc sh gt fg : Fin 1024 → EReal) (wi : Fin 1024 → Fin 5632 → EReal) (wo : Fin 2816 → Fin 1024 → EReal)
    (k : Fin 1024) : EReal :=
  mid x g sc sh gt wi wo k * rms (mid x g sc sh gt wi wo) * fg k

/-- The function of the argument arrays both programs compute. -/
def G (x : FVec Ideal S8x4096x1024 .f32) (mod : FVec Ideal S8x3x1024 .f32) (g : FVec Ideal S1024 .f32)
    (wi : FVec Ideal S1024x5632 .bf16) (wo : FVec Ideal S2816x1024 .bf16) (fg : FVec Ideal S1024 .f32) :
    FVec Ideal S8x4096x1024 .f32 := fun i =>
  row (fun k => x (ix3 (i 0) (i 1) k)) (fun k => g (ix1 k)) (fun k => mod (ix3 (i 0) 1 k)) (fun k => mod (ix3 (i 0) 0 k))
    (fun k => mod (ix3 (i 0) 2 k)) (fun k => fg (ix1 k)) (fun j f => wi (ix2 j f)) (fun f k => wo (ix2 f k)) (i 2)

/-! ## The kernel's tile -/

/-- The normalised tile at a row and a column. -/
theorem pay3_apply (v0 : Vec Ideal S1x512x1024 .f32) (v2 : Vec Ideal S1x1024 .f32) (v9 v21 : Vec Ideal S1x1x1024 .f32)
    (r : Fin 512) (k : Fin 1024) :
    k0_pay3 v0 v2 v9 v21 (ix2 r k) = hid (fun j => v0 (ix3 0 r j)) (fun j => v2 (ix2 0 j)) (fun j => v9 (ix3 0 0 j))
      (fun j => v21 (ix3 0 0 j)) k := by
  unfold hid rms
  pointwise [k0_pay3, k0_pay2]

/-- The first two chunks of the hidden layer, projected back. -/
theorem pay7_apply (h : FVec Ideal S512x1024 .bf16) (u v w : FVec Ideal S512x1024 .f32)
    (o1 g2 u2 o2 : Vec Ideal S1024x1024 .bf16) (r : Fin 512) (k : Fin 1024) :
    k0_pay7 h u v w o1 g2 u2 o2 (ix2 r k)
      = (∑ f : Fin 1024, u (ix2 r f) * Ideal.div 1 (w (ix2 r f)) * v (ix2 r f) * o1 (ix2 f k))
        + ∑ f : Fin 1024, act (proj (fun j => h (ix2 r j)) fun j => g2 (ix2 j f)) (proj (fun j => h (ix2 r j)) fun j => u2 (ix2 j f))
            * o2 (ix2 f k) := by
  unfold act proj
  pointwise [k0_pay7]

/-- A projection of the tile's normalised rows by one chunk of a weight. -/
theorem pay4_apply (v0 : Vec Ideal S1x512x1024 .f32) (v2 : Vec Ideal S1x1024 .f32) (v9 v21 : Vec Ideal S1x1x1024 .f32)
    (w : Vec Ideal S1024x1024 .bf16) (r : Fin 512) (f : Fin 1024) :
    k0_pay4 v0 v2 v9 v21 w (ix2 r f) = proj (fun j => k0_pay3 v0 v2 v9 v21 (ix2 r j)) fun j => w (ix2 j f) := by
  unfold proj k0_pay4
  generalize k0_pay3 v0 v2 v9 v21 = h
  pointwise

/-- A projection of the tile's normalised rows by one chunk of the other weight. -/
theorem pay5_apply (v0 : Vec Ideal S1x512x1024 .f32) (v2 : Vec Ideal S1x1024 .f32) (v9 v21 : Vec Ideal S1x1x1024 .f32)
    (w : Vec Ideal S1024x1024 .bf16) (r : Fin 512) (f : Fin 1024) :
    k0_pay5 v0 v2 v9 v21 w (ix2 r f) = proj (fun j => k0_pay3 v0 v2 v9 v21 (ix2 r j)) fun j => w (ix2 j f) := by
  unfold proj k0_pay5
  generalize k0_pay3 v0 v2 v9 v21 = h
  pointwise

/-- The denominator of a chunk's gate. -/
theorem pay6_apply (v0 : Vec Ideal S1x512x1024 .f32) (v2 : Vec Ideal S1x1024 .f32) (v9 v21 : Vec Ideal S1x1x1024 .f32)
    (w : Vec Ideal S1024x1024 .bf16) (r : Fin 512) (f : Fin 1024) :
    k0_pay6 v0 v2 v9 v21 w (ix2 r f) = 1 + Ideal.exp (0 - k0_pay4 v0 v2 v9 v21 w (ix2 r f)) := by
  unfold k0_pay6
  generalize k0_pay4 v0 v2 v9 v21 w = h
  pointwise

/-- The last chunk's first projection. -/
theorem pay8_apply (h : FVec Ideal S512x1024 .bf16) (w : Vec Ideal S1024x768 .bf16) (r : Fin 512) (f : Fin 768) :
    k0_pay8 h w (ix2 r f) = proj (fun j => h (ix2 r j)) fun j => w (ix2 j f) := by
  unfold proj
  pointwise [k0_pay8]

/-- The last chunk's second projection. -/
theorem pay9_apply (h : FVec Ideal S512x1024 .bf16) (w : Vec Ideal S1024x768 .bf16) (r : Fin 512) (f : Fin 768) :
    k0_pay9 h w (ix2 r f) = proj (fun j => h (ix2 r j)) fun j => w (ix2 j f) := by
  unfold proj
  pointwise [k0_pay9]

/-- The last chunk's sigmoid. -/
theorem pay10_apply (h : FVec Ideal S512x1024 .bf16) (w : Vec Ideal S1024x768 .bf16) (r : Fin 512) (f : Fin 768) :
    k0_pay10 h w (ix2 r f) = Ideal.div 1 (1 + Ideal.exp (0 - proj (fun j => h (ix2 r j)) fun j => w (ix2 j f))) := by
  unfold proj
  pointwise [k0_pay10, k0_pay8]

/-- The residual row before the closing normalisation, from the accumulated chunks. -/
def tileMid (x acc : FVec Ideal S512x1024 .f32) (ga up si : FVec Ideal S512x768 .f32) (o : Vec Ideal S768x1024 .bf16)
    (gt : Vec Ideal S1x1x1024 .f32) (r : Fin 512) (k : Fin 1024) : EReal :=
  x (ix2 r k) + Ideal.ofBits FTy.f32 0x3F000000#32 * gt (ix3 0 0 k)
    * (acc (ix2 r k) + ∑ f : Fin 768, ga (ix2 r f) * si (ix2 r f) * up (ix2 r f) * o (ix2 f k))

/-- The stored tile at a row and a column. -/
theorem pay1_apply (x acc : FVec Ideal S512x1024 .f32) (ga up si : FVec Ideal S512x768 .f32) (o : Vec Ideal S768x1024 .bf16)
    (gt : Vec Ideal S1x1x1024 .f32) (fg : Vec Ideal S1x1024 .f32) (a : Fin 1) (r : Fin 512) (k : Fin 1024) :
    k0_pay1 x acc ga up si o gt fg (ix3 a r k)
      = tileMid x acc ga up si o gt r k * rms (tileMid x acc ga up si o gt r) * fg (ix2 0 k) := by
  unfold rms tileMid
  pointwise [k0_pay1]

/-- The tile's rows without the batch axis. -/
theorem pay2_apply (v0 : Vec Ideal S1x512x1024 .f32) (r : Fin 512) (k : Fin 1024) :
    k0_pay2 v0 (ix2 r k) = v0 (ix3 0 r k) := by
  pointwise [k0_pay2]

/-- A sum over the hidden layer is the sum over its three chunks. -/
theorem sum_chunks (f : Fin 2816 → EReal) :
    ∑ i : Fin 2816, f i
      = ((∑ i : Fin 1024, f ⟨i.val, by have := i.isLt; omega⟩) + ∑ i : Fin 1024, f ⟨1024 + i.val, by have := i.isLt; omega⟩)
        + ∑ i : Fin 768, f ⟨2048 + i.val, by have := i.isLt; omega⟩ := by
  rw [Fin.sum_univ_two_halves 2048 768 rfl f,
    Fin.sum_univ_two_halves 1024 1024 rfl fun k : Fin 2048 => f ⟨k.val, by have := k.isLt; omega⟩]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- What one grid point leaves in the result's tile, read at a row and a column. -/
theorem out_apply (x0 : Vec Ideal S1x512x1024 .f32) (x1 : Vec Ideal S1x3x1024 .f32) (x2 : Vec Ideal S1x1024 .f32)
    (x3 : Vec Ideal S1024x5632 .bf16) (x4 : Vec Ideal S2816x1024 .bf16) (x5 : Vec Ideal S1x1024 .f32)
    (a : Fin 1) (r : Fin 512) (k : Fin 1024) :
    out0_6 x0 x1 x2 x3 x4 x5 (ix3 a r k)
      = row (fun k => x0 (ix3 0 r k)) (fun k => x2 (ix2 0 k)) (fun k => x1 (ix3 0 1 k)) (fun k => x1 (ix3 0 0 k))
          (fun k => x1 (ix3 0 2 k)) (fun k => x5 (ix2 0 k)) (fun j f => x3 (ix2 j f)) (fun f k => x4 (ix2 f k)) k := by
  have hmid : ∀ k, tileMid (k0_pay2 (View.ld x0 r0_0)) (k0_pay7 (k0_pay11 x0 x1 x2 x3 x4 x5)
        (k0_pay4 (View.ld x0 r0_0) (View.ld x2 r0_1) (View.ld x1 r0_2) (View.ld x1 r0_3) (View.ld x3 r0_4))
        (k0_pay5 (View.ld x0 r0_0) (View.ld x2 r0_1) (View.ld x1 r0_2) (View.ld x1 r0_3) (View.ld x3 r0_5))
        (k0_pay6 (View.ld x0 r0_0) (View.ld x2 r0_1) (View.ld x1 r0_2) (View.ld x1 r0_3) (View.ld x3 r0_4))
        (View.ld x4 r0_6) (View.ld x3 r0_7) (View.ld x3 r0_8) (View.ld x4 r0_9))
        (k0_pay8 (k0_pay11 x0 x1 x2 x3 x4 x5) (View.ld x3 r0_10)) (k0_pay9 (k0_pay11 x0 x1 x2 x3 x4 x5) (View.ld x3 r0_11))
        (k0_pay10 (k0_pay11 x0 x1 x2 x3 x4 x5) (View.ld x3 r0_10)) (View.ld x4 r0_12) (View.ld x1 r0_13) r k
      = mid (fun k => x0 (ix3 0 r k)) (fun k => x2 (ix2 0 k)) (fun k => x1 (ix3 0 1 k)) (fun k => x1 (ix3 0 0 k))
          (fun k => x1 (ix3 0 2 k)) (fun j f => x3 (ix2 j f)) (fun f k => x4 (ix2 f k)) k := by
    intro k
    unfold tileMid mid
    rw [sum_chunks]
    simp only [pay7_apply, pay8_apply, pay9_apply, pay10_apply, pay6_apply, pay4_apply, pay5_apply, pay2_apply, k0_pay11, pay3_apply]
    unfold act
    pointwise
    simp only [← Nat.add_assoc, Nat.reduceAdd]
  unfold out0_6
  rw [View.canon_unit_zero hz3, pay1_apply]
  unfold row
  rw [funext hmid]
  rw [View.ld_unit_zero hz2]

/-! ## From the tile to the array -/

variable (m : (ℓ : Loc nD τ sig) → Buf (Elt Ideal) ℓ) (ρ : Dev nD → PrngReg)

/-- The batch entry a grid point works on. -/
def tb (t : Fin cfg0.N) : Fin 8 := ⟨t.val / 8, by have : cfg0.N = 64 := N_0; have := t.isLt; omega⟩
/-- The first row of the tile a grid point works on, plus a row of the tile. -/
def tr (t : Fin cfg0.N) (r : Fin 512) : Fin 4096 := ⟨t.val % 8 * 512 + r.val, by have := r.isLt; omega⟩

/-- Where each window stands at a grid point. -/
theorem idx_facts : ∀ t : Fin grid0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val / 8 ∧ win0_6.index t 1 = t.val % 8 ∧ win0_6.index t 2 = 0) := by
  decide +kernel

/-- The gain as the kernel is handed it: the argument laid out as one row. -/
theorem V_main_v0 (c : Dev nD) : V m c main_v0
    = (shapeCast S1x1024 (m ((c : Thread nD τ).loc main_arg2) : Vec Ideal S1024 .f32) shapeCasts_S1024_S1x1024 : Vec Ideal S1x1024 .f32) := by
  unfold_abbrev_sides
  after_results
  rfl

/-- The closing gain as the kernel is handed it. -/
theorem V_main_v1 (c : Dev nD) : V m c main_v1
    = (shapeCast S1x1024 (m ((c : Thread nD τ).loc main_arg5) : Vec Ideal S1024 .f32) shapeCasts_S1024_S1x1024 : Vec Ideal S1x1024 .f32) := by
  unfold_abbrev_sides
  after_results
  rfl

/-- The residual's block, read in the array. -/
theorem iblk0_apply (c : Dev nD) (t : Fin cfg0.N) (a : Fin 1) (r : Fin 512) (k : Fin 1024) :
    (iblk m c 0 t : Vec Ideal S1x512x1024 .f32) (ix3 a r k) = m ((c : Thread nD τ).loc main_arg0) (ix3 (tb t) (tr t r) k) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val / 8; rw [hi.1]; omega
  | ⟨1, _⟩ => show win0_0.index t 1 * 512 + 1 * r.val = t.val % 8 * 512 + r.val; rw [hi.2.1]; omega
  | ⟨2, _⟩ => show win0_0.index t 2 * 1024 + 1 * k.val = k.val; rw [hi.2.2]; omega

/-- The modulation's block, read in the array. -/
theorem iblk1_apply (c : Dev nD) (t : Fin cfg0.N) (a : Fin 1) (r : Fin 3) (k : Fin 1024) :
    (iblk m c 1 t : Vec Ideal S1x3x1024 .f32) (ix3 a r k) = m ((c : Thread nD τ).loc main_arg1) (ix3 (tb t) r k) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = t.val / 8; rw [hi.1]; omega
  | ⟨1, _⟩ => show win0_1.index t 1 * 3 + 1 * r.val = r.val; rw [hi.2.1]; omega
  | ⟨2, _⟩ => show win0_1.index t 2 * 1024 + 1 * k.val = k.val; rw [hi.2.2]; omega

/-- The gain row. -/
theorem iblk2_apply (c : Dev nD) (t : Fin cfg0.N) (r : Fin 1) (k : Fin 1024) :
    (iblk m c 2 t : Vec Ideal S1x1024 .f32) (ix2 r k) = (shapeCast S1x1024 (m ((c : Thread nD τ).loc main_arg2) : Vec Ideal S1024 .f32) shapeCasts_S1024_S1x1024 : Vec Ideal S1x1024 .f32) (ix2 r k) := by
  have hi := (idx_facts t).2.2.1
  unfold iblk
  rw [View.read_apply]
  show V m c main_v0 _ = _
  rw [V_main_v0]
  congr 1
  funext d
  apply Fin.ext
  match d with
  | ⟨0, _⟩ => show win0_2.index t 0 * 1 + 1 * r.val = r.val; rw [hi.1]; omega
  | ⟨1, _⟩ => show win0_2.index t 1 * 1024 + 1 * k.val = k.val; rw [hi.2]; omega

/-- The first weight. -/
theorem iblk3_apply (c : Dev nD) (t : Fin cfg0.N) (r : Fin 1024) (k : Fin 5632) :
    (iblk m c 3 t : Vec Ideal S1024x5632 .bf16) (ix2 r k) = m ((c : Thread nD τ).loc main_arg3) (ix2 r k) := by
  have hi := (idx_facts t).2.2.2.1
  unfold iblk
  rw [View.read_apply]
  show V m c main_arg3 _ = _
  rw [V_main_arg3]
  congr 1
  funext d
  apply Fin.ext
  match d with
  | ⟨0, _⟩ => show win0_3.index t 0 * 1024 + 1 * r.val = r.val; rw [hi.1]; omega
  | ⟨1, _⟩ => show win0_3.index t 1 * 5632 + 1 * k.val = k.val; rw [hi.2]; omega

/-- The second weight. -/
theorem iblk4_apply (c : Dev nD) (t : Fin cfg0.N) (r : Fin 2816) (k : Fin 1024) :
    (iblk m c 4 t : Vec Ideal S2816x1024 .bf16) (ix2 r k) = m ((c : Thread nD τ).loc main_arg4) (ix2 r k) := by
  have hi := (idx_facts t).2.2.2.2.1
  unfold iblk
  rw [View.read_apply]
  show V m c main_arg4 _ = _
  rw [V_main_arg4]
  congr 1
  funext d
  apply Fin.ext
  match d with
  | ⟨0, _⟩ => show win0_4.index t 0 * 2816 + 1 * r.val = r.val; rw [hi.1]; omega
  | ⟨1, _⟩ => show win0_4.index t 1 * 1024 + 1 * k.val = k.val; rw [hi.2]; omega

/-- The closing gain row. -/
theorem iblk5_apply (c : Dev nD) (t : Fin cfg0.N) (r : Fin 1) (k : Fin 1024) :
    (iblk m c 5 t : Vec Ideal S1x1024 .f32) (ix2 r k) = (shapeCast S1x1024 (m ((c : Thread nD τ).loc main_arg5) : Vec Ideal S1024 .f32) shapeCasts_S1024_S1x1024 : Vec Ideal S1x1024 .f32) (ix2 r k) := by
  have hi := (idx_facts t).2.2.2.2.2.1
  unfold iblk
  rw [View.read_apply]
  show V m c main_v1 _ = _
  rw [V_main_v1]
  congr 1
  funext d
  apply Fin.ext
  match d with
  | ⟨0, _⟩ => show win0_5.index t 0 * 1 + 1 * r.val = r.val; rw [hi.1]; omega
  | ⟨1, _⟩ => show win0_5.index t 1 * 1024 + 1 * k.val = k.val; rw [hi.2]; omega

/-- A vector laid out as one row, read at a column. -/
theorem row_apply (v : Vec Ideal S1024 .f32) (k : Fin 1024) :
    (shapeCast S1x1024 v shapeCasts_S1024_S1x1024 : Vec Ideal S1x1024 .f32) (ix2 0 k) = v (ix1 k) := by
  pointwise

/-- The gain's block, read in the argument. -/
theorem iblk2_row (c : Dev nD) (t : Fin cfg0.N) (k : Fin 1024) :
    (iblk m c 2 t : Vec Ideal S1x1024 .f32) (ix2 0 k) = m ((c : Thread nD τ).loc main_arg2) (ix1 k) :=
  (iblk2_apply m c t 0 k).trans (row_apply _ k)

/-- The closing gain's block, read in the argument. -/
theorem iblk5_row (c : Dev nD) (t : Fin cfg0.N) (k : Fin 1024) :
    (iblk m c 5 t : Vec Ideal S1x1024 .f32) (ix2 0 k) = m ((c : Thread nD τ).loc main_arg5) (ix1 k) :=
  (iblk5_apply m c t 0 k).trans (row_apply _ k)

/-- The value the result array is shown to hold. -/
abbrev res (c : Dev nD) : FVec Ideal S8x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point writes back is its block of the whole result. -/
theorem flushed_eq (c : Dev nD) (t : Fin cfg0.N) :
    (dats m 0 c).flushed 6 t = (win0_6.blk t).view.read (Elt Ideal) (res m c) := by
  rw [Value.flushed6]
  funext i
  obtain ⟨a, r, k, rfl⟩ : ∃ (a : Fin 1) (r : Fin 512) (k : Fin 1024), i = ix3 a r k := ⟨i 0, i 1, i 2, eq_ix3 i⟩
  have hi := (idx_facts t).2.2.2.2.2.2
  refine (out_apply _ _ _ _ _ _ a r k).trans ?_
  rw [View.read_apply]
  have e : (win0_6.blk t).view.emb (ix3 a r k) = ix3 (tb t) (tr t r) k := by
    funext d
    apply Fin.ext
    match d with
    | ⟨0, _⟩ => show win0_6.index t 0 * 1 + 1 * a.val = t.val / 8; rw [hi.1]; omega
    | ⟨1, _⟩ => show win0_6.index t 1 * 512 + 1 * r.val = t.val % 8 * 512 + r.val; rw [hi.2.1]; omega
    | ⟨2, _⟩ => show win0_6.index t 2 * 1024 + 1 * k.val = k.val; rw [hi.2.2]; omega
  rw [e]
  simp only [iblk0_apply, iblk1_apply, iblk2_row, iblk3_apply, iblk4_apply, iblk5_row]
  rfl

/-- The result's blocks, by their rows. -/
theorem mem_blk (t : Fin cfg0.N) (i : S8x4096x1024.Idx) :
    i ∈ ((cfg0.win 6).blk t).view.set
      ↔ (i 0 : Nat) = t.val / 8 ∧ t.val % 8 * 512 ≤ (i 1 : Nat) ∧ (i 1 : Nat) < t.val % 8 * 512 + 512 := by
  show i ∈ ((View.whole main_v2).slice (win0_6.rect t)).set ↔ _
  have hi := (idx_facts t).2.2.2.2.2.2
  have h2 : (i 2 : Nat) < 1024 := (i 2).isLt
  rw [View.set_slice_whole, Rect.mem_set_unit]
  refine ⟨fun h => ?_, fun h a => ?_⟩
  · have a0 : win0_6.index t 0 * 1 ≤ (i 0 : Nat) ∧ (i 0 : Nat) < win0_6.index t 0 * 1 + 1 := h 0
    have a1 : win0_6.index t 1 * 512 ≤ (i 1 : Nat) ∧ (i 1 : Nat) < win0_6.index t 1 * 512 + 512 := h 1
    rw [hi.1] at a0
    rw [hi.2.1] at a1
    omega
  · match a with
    | ⟨0, _⟩ => show win0_6.index t 0 * 1 ≤ (i 0 : Nat) ∧ (i 0 : Nat) < win0_6.index t 0 * 1 + 1; rw [hi.1]; omega
    | ⟨1, _⟩ => show win0_6.index t 1 * 512 ≤ (i 1 : Nat) ∧ (i 1 : Nat) < win0_6.index t 1 * 512 + 512; rw [hi.2.1]; omega
    | ⟨2, _⟩ => show win0_6.index t 2 * 1024 ≤ (i 2 : Nat) ∧ (i 2 : Nat) < win0_6.index t 2 * 1024 + 1024; rw [hi.2.2]; omega

/-- Every index of the result lies in the block of a grid point that writes it back. -/
theorem cover (i : S8x4096x1024.Idx) :
    ∃ t : Fin cfg0.N, (cfg0.win 6).flush t = true ∧ i ∈ ((cfg0.win 6).blk t).view.set := by
  have h0 : (i 0 : Nat) < 8 := (i 0).isLt
  have h1 : (i 1 : Nat) < 4096 := (i 1).isLt
  have hN : cfg0.N = 64 := N_0
  refine ⟨⟨(i 0).val * 8 + (i 1).val / 512, by omega⟩, flush0_6 _, ?_⟩
  rw [mem_blk]
  dsimp only
  omega

/-- The result array after the run. -/
theorem final (c : Dev nD) : (dats m 0 c).arrAt 6 cfg0.N = res m c :=
  Dat.arrAt_eq_of_cover (dats m 0 c) 6 (res m c) (fun t _ => flushed_eq m c t) cover

end Cert.FfnIdeal.RefValue

/-! ## The reference -/

namespace Cert.FfnRefIdeal.RefValue

open Cert.FfnRefIdeal Cert.FfnRefIdeal.Read Cert.FfnIdeal.RefValue

variable (x0 : FVec Ideal S8x4096x1024 .f32) (x1 : FVec Ideal S8x3x1024 .f32) (x2 : FVec Ideal S1024 .f32)
  (x3 : FVec Ideal S1024x5632 .bf16) (x4 : FVec Ideal S2816x1024 .bf16) (x5 : FVec Ideal S1024 .f32)

/-- The reference's hidden rows. -/
theorem ref_hid (b : Fin 8) (r : Fin 4096) (k : Fin 1024) :
    val_main_v20 (F := Ideal) x0 x1 x2 (ix3 b r k)
      = hid (fun k => x0 (ix3 b r k)) (fun k => x2 (ix1 k)) (fun k => x1 (ix3 b 1 k)) (fun k => x1 (ix3 b 0 k)) k := by
  unfold hid rms
  rw [← mul_assoc]
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The reference's first projection. -/
theorem ref_proj (b : Fin 8) (r : Fin 4096) (f : Fin 5632) :
    val_main_v26 (F := Ideal) x0 x1 x2 x3 (ix3 b r f)
      = proj (hid (fun k => x0 (ix3 b r k)) (fun k => x2 (ix1 k)) (fun k => x1 (ix3 b 1 k)) (fun k => x1 (ix3 b 0 k)))
          fun j => x3 (ix2 j f) := by
  unfold val_main_v26 proj
  simp only [← ref_hid]
  generalize val_main_v20 (F := Ideal) x0 x1 x2 = h
  pointwise [val_main_v24]

/-- The reference's gated hidden layer. -/
theorem ref_act (b : Fin 8) (r : Fin 4096) (f : Fin 2816) :
    val_main_v30 (F := Ideal) x0 x1 x2 x3 (ix3 b r f)
      = act (val_main_v26 (F := Ideal) x0 x1 x2 x3 (ix3 b r ⟨f.val, by have := f.isLt; omega⟩))
          (val_main_v26 (F := Ideal) x0 x1 x2 x3 (ix3 b r ⟨2816 + f.val, by have := f.isLt; omega⟩)) := by
  unfold act val_main_v30 val_main_v29 val_main_v28 val_main_call0_v5 val_main_call0_v3 val_main_call0_v1 val_main_call0_v0 val_main_v27
  generalize val_main_v26 (F := Ideal) x0 x1 x2 x3 = h
  rw [zero_sub]
  pointwise [val_main_call0_v4, val_main_call0_v2, val_main_call0_cst, val_main_call0_cst_0]

/-- The reference's residual rows. -/
theorem ref_mid (b : Fin 8) (r : Fin 4096) (k : Fin 1024) :
    val_main_v34 (F := Ideal) x0 x1 x2 x3 x4 (ix3 b r k)
      = mid (fun k => x0 (ix3 b r k)) (fun k => x2 (ix1 k)) (fun k => x1 (ix3 b 1 k)) (fun k => x1 (ix3 b 0 k))
          (fun k => x1 (ix3 b 2 k)) (fun j f => x3 (ix2 j f)) (fun f k => x4 (ix2 f k)) k := by
  unfold mid
  simp only [← ref_proj, ← ref_act]
  unfold val_main_v34 val_main_v33 val_main_v31
  generalize val_main_v30 (F := Ideal) x0 x1 x2 x3 = h
  pointwise [val_main_v32, val_main_v25, val_main_v23, val_main_v22, val_main_v21, val_main_cst_3]

/-- The reference's result is the same function of the arguments. -/
theorem ref_eq : val_main_v47 (F := Ideal) x0 x1 x2 x3 x4 x5 = Cert.FfnIdeal.RefValue.G x0 x1 x2 x3 x4 x5 := by
  funext i
  obtain ⟨b, r, k, rfl⟩ : ∃ (b : Fin 8) (r : Fin 4096) (k : Fin 1024), i = ix3 b r k := ⟨i 0, i 1, i 2, eq_ix3 i⟩
  show _ = row (fun k => x0 (ix3 b r k)) (fun k => x2 (ix1 k)) (fun k => x1 (ix3 b 1 k)) (fun k => x1 (ix3 b 0 k))
          (fun k => x1 (ix3 b 2 k)) (fun k => x5 (ix1 k)) (fun j f => x3 (ix2 j f)) (fun f k => x4 (ix2 f k)) k
  unfold row rms
  simp only [← ref_mid]
  unfold val_main_v47 val_main_v44 val_main_v43 val_main_v42 val_main_v41 val_main_v39 val_main_v37 val_main_v36 val_main_v35
  generalize val_main_v34 (F := Ideal) x0 x1 x2 x3 x4 = h
  pointwise [val_main_v46, val_main_v45, val_main_v40, val_main_v38, val_main_cst_4, val_main_cst_5, val_main_cst_6]

end Cert.FfnRefIdeal.RefValue

namespace Cert.Proof

/-- The feed-forward layer and its reference compute one array. -/
theorem algebraic_ffn : Cert.algebraic_FfnIdeal_FfnRefIdeal := by
  intro m ρ m' ρ' _ hagree
  refine ⟨fun c => Cert.FfnIdeal.RefValue.res m c, ?_, ?_⟩
  · exact (θ_run Cert.FfnIdeal.defs _ _).mono
      (fun _ h c => ⟨(h c).1.trans (Cert.FfnIdeal.RefValue.final m c), (h c).2⟩)
      (Cert.FfnIdeal.Value.run_blocks (F := Ideal) m ρ)
  · refine (θ_run Cert.FfnRefIdeal.defs _ _).mono
      (fun _ h c => ⟨(h c).1.trans ?_, (h c).2⟩) (Cert.FfnRefIdeal.Value.run (F := Ideal) m' ρ')
    rw [Cert.FfnRefIdeal.Read.val_main_v47_eq, Cert.FfnRefIdeal.RefValue.ref_eq, (hagree c).1, (hagree c).2.1, (hagree c).2.2.1,
      (hagree c).2.2.2.1, (hagree c).2.2.2.2.1, (hagree c).2.2.2.2.2]

end Cert.Proof

end
-- ==== Proof.Conv.lean ====
/-
  The convolution mixer: what the kernel leaves in its result array, what the reference
  computes, and that they are one function of the arguments.
-/
module

public import proofs.«01_k».proof.Defs
public import proofs.«01_k».proof.Proof.Ffn
public import proofs.«01_k».proof.Proof.Gen.ConvIdeal.Frame
public import proofs.«01_k».proof.Proof.Gen.ConvIdeal.Value
public import proofs.«01_k».proof.Proof.Gen.ConvRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.ConvIdeal.RefValue

open Cert.ConvIdeal Cert.ConvIdeal.Gen
open Cert.FfnIdeal.RefValue (rms hid proj)

/-! ## One token -/

/-- The gated value of a row, the convolution's input. -/
def prod (x g sc sh : Fin 1024 → EReal) (wi : Fin 1024 → Fin 3072 → EReal) (k : Fin 1024) : EReal :=
  proj (hid x g sc sh) (fun j => wi j ⟨1024 + k.val, by have := k.isLt; omega⟩)
    * proj (hid x g sc sh) (fun j => wi j ⟨2048 + k.val, by have := k.isLt; omega⟩)

/-- A row of the result from its gate and the convolution's three input rows. -/
def conv (x gt bg c0 c1 c2 up u un : Fin 1024 → EReal) (wo : Fin 1024 → Fin 1024 → EReal) (k : Fin 1024) : EReal :=
  x k + gt k * ∑ f : Fin 1024, bg f * (c0 f * up f + c1 f * u f + c2 f * un f) * wo f k

/-- The convolution's input at a token. -/
def U (x : FVec Ideal S8x4096x1024 .f32) (mod : FVec Ideal S8x3x1024 .f32) (g : FVec Ideal S1024 .f32)
    (wi : FVec Ideal S1024x3072 .bf16) (b : Fin 8) (r : Fin 4096) : Fin 1024 → EReal :=
  prod (fun k => x (ix3 b r k)) (fun k => g (ix1 k)) (fun k => mod (ix3 b 1 k)) (fun k => mod (ix3 b 0 k)) fun j f => wi (ix2 j f)

/-- The convolution's input one token earlier, zero before the first. -/
def Uprev (x : FVec Ideal S8x4096x1024 .f32) (mod : FVec Ideal S8x3x1024 .f32) (g : FVec Ideal S1024 .f32)
    (wi : FVec Ideal S1024x3072 .bf16) (b : Fin 8) (r : Fin 4096) (f : Fin 1024) : EReal :=
  if h : 1 ≤ r.val then U x mod g wi b ⟨r.val - 1, by have := r.isLt; omega⟩ f else 0

/-- The convolution's input one token later, zero after the last. -/
def Unext (x : FVec Ideal S8x4096x1024 .f32) (mod : FVec Ideal S8x3x1024 .f32) (g : FVec Ideal S1024 .f32)
    (wi : FVec Ideal S1024x3072 .bf16) (b : Fin 8) (r : Fin 4096) (f : Fin 1024) : EReal :=
  if h : r.val + 1 < 4096 then U x mod g wi b ⟨r.val + 1, h⟩ f else 0

/-- One element of the result. -/
def elt (x : FVec Ideal S8x4096x1024 .f32) (mod : FVec Ideal S8x3x1024 .f32) (g : FVec Ideal S1024 .f32)
    (wi : FVec Ideal S1024x3072 .bf16) (cw : FVec Ideal S3x1024 .f32) (wo : FVec Ideal S1024x1024 .bf16) (b : Fin 8) (r : Fin 4096)
    (k : Fin 1024) : EReal :=
  conv (fun k => x (ix3 b r k)) (fun k => mod (ix3 b 2 k))
    (fun f => proj (hid (fun k => x (ix3 b r k)) (fun k => g (ix1 k)) (fun k => mod (ix3 b 1 k)) (fun k => mod (ix3 b 0 k)))
      fun j => wi (ix2 j ⟨f.val, by have := f.isLt; omega⟩))
    (fun f => cw (ix2 0 f)) (fun f => cw (ix2 1 f)) (fun f => cw (ix2 2 f))
    (Uprev x mod g wi b r) (U x mod g wi b r) (Unext x mod g wi b r) (fun f k => wo (ix2 f k)) k

/-- The function of the argument arrays both programs compute. -/
def G (x : FVec Ideal S8x4096x1024 .f32) (mod : FVec Ideal S8x3x1024 .f32) (g : FVec Ideal S1024 .f32)
    (wi : FVec Ideal S1024x3072 .bf16) (cw : FVec Ideal S3x1024 .f32) (wo : FVec Ideal S1024x1024 .bf16) :
    FVec Ideal S8x4096x1024 .f32 := fun i => elt x mod g wi cw wo (i 0) (i 1) (i 2)

/-! ## The kernel's tile -/

/-- The test for the tile's first row. -/
theorem sel_first : ∀ r : Fin 512, IntOp.cmpi CmpIPredicate.eq (BitVec.ofNat 32 r.val) 0#32 = if r.val = 0 then 1#1 else 0#1 := by
  decide +kernel

/-- The test for the tile's last row. -/
theorem sel_last : ∀ r : Fin 512, IntOp.cmpi CmpIPredicate.eq (BitVec.ofNat 32 r.val) 511#32 = if r.val = 511 then 1#1 else 0#1 := by
  decide +kernel

/-- The test for a tile that has one before it. -/
theorem sel_some_before : ∀ j : Fin 8, Scalar.cmpi CmpIPredicate.sgt (BitVec.ofNat 32 j.val) 0#32 = if 0 < j.val then 1#1 else 0#1 := by
  decide +kernel

/-- The test for a tile that has one after it. -/
theorem sel_some_after : ∀ j : Fin 8, Scalar.cmpi CmpIPredicate.slt (BitVec.ofNat 32 j.val) 7#32 = if j.val < 7 then 1#1 else 0#1 := by
  decide +kernel

/-- A choice by a decided bit. -/
theorem select_ite (p : Prop) [Decidable p] (a b : EReal) : Scalar.select (if p then 1#1 else 0#1) a b = if p then a else b := by
  by_cases h : p <;> simp [h, Scalar.select]

/-- The tile's projection at a row and a column. -/
theorem pay4_apply (v0 : Vec Ideal S1x1024 .f32) (v2 : Vec Ideal S1x512x1024 .f32) (v9 v21 : Vec Ideal S1x1x1024 .f32)
    (v26 : Vec Ideal S1024x3072 .bf16) (r : Fin 512) (f : Fin 3072) :
    k0_pay4 v0 v2 v9 v21 v26 (ix2 r f)
      = proj (hid (fun j => v2 (ix3 0 r j)) (fun j => v0 (ix2 0 j)) (fun j => v9 (ix3 0 0 j)) (fun j => v21 (ix3 0 0 j)))
          fun j => v26 (ix2 j f) := by
  unfold proj hid rms
  pointwise [k0_pay4, k0_pay3, k0_pay2]

/-- The convolution's input at a row of the tile. -/
theorem pay5_apply (v0 : Vec Ideal S1x1024 .f32) (v2 : Vec Ideal S1x512x1024 .f32) (v9 v21 : Vec Ideal S1x1x1024 .f32)
    (v26 : Vec Ideal S1024x3072 .bf16) (r : Fin 512) (k : Fin 1024) :
    k0_pay5 v0 v2 v9 v21 v26 (ix2 r k)
      = prod (fun j => v2 (ix3 0 r j)) (fun j => v0 (ix2 0 j)) (fun j => v9 (ix3 0 0 j)) (fun j => v21 (ix3 0 0 j))
          (fun j f => v26 (ix2 j f)) k := by
  unfold prod
  rw [← pay4_apply, ← pay4_apply]
  unfold k0_pay5
  generalize k0_pay4 v0 v2 v9 v21 v26 = p
  pointwise

/-- The row before the tile. -/
theorem pay8_apply (j : Fin 8) (g : Vec Ideal S1x1024 .f32) (x : Vec Ideal S1x8x1024 .f32) (sc sh : Vec Ideal S1x1x1024 .f32)
    (x5 : Vec Ideal S1024x3072 .bf16) (k : Fin 1024) :
    k0_pay8 (BitVec.ofNat 32 j.val) (k0_pay2 g) (k0_pay6 x) (k0_pay7 x) sc sh (View.ld x5 r0_6) (ix2 0 k)
      = if 0 < j.val then prod (fun j => x (ix3 0 7 j)) (fun j => g (ix2 0 j)) (fun j => sc (ix3 0 0 j)) (fun j => sh (ix3 0 0 j))
          (fun j f => x5 (ix2 j f)) k else 0 := by
  rw [← select_ite, ← sel_some_before]
  unfold prod proj hid rms
  pointwise [k0_pay8, k0_pay2, k0_pay6, k0_pay7]
  simp only [← Nat.add_assoc, Nat.reduceAdd]

/-- The rows after the tile's rows. -/
theorem pay12_apply (j : Fin 8) (g : Vec Ideal S1x1024 .f32) (u : FVec Ideal S512x1024 .f32) (x : Vec Ideal S1x8x1024 .f32)
    (sc sh : Vec Ideal S1x1x1024 .f32) (x5 : Vec Ideal S1024x3072 .bf16) (r : Fin 512) (k : Fin 1024) :
    k0_pay12 (BitVec.ofNat 32 j.val) (k0_pay2 g) u (k0_pay9 x) (k0_pay10 x) (k0_pay11 sc) (Scalar.ofBits .f32 0x3F800000#32) sh
        (View.ld x5 r0_6) (ix2 r k)
      = if h : r.val = 511 then
          if j.val < 7 then prod (fun j => x (ix3 0 0 j)) (fun j => g (ix2 0 j)) (fun j => sc (ix3 0 0 j)) (fun j => sh (ix3 0 0 j))
            (fun j f => x5 (ix2 j f)) k else 0
        else u (ix2 ⟨r.val + 1, by have := r.isLt; omega⟩ k) := by
  have hr := r.isLt
  have e : k0_pay12 (BitVec.ofNat 32 j.val) (k0_pay2 g) u (k0_pay9 x) (k0_pay10 x) (k0_pay11 sc) (Scalar.ofBits .f32 0x3F800000#32) sh
        (View.ld x5 r0_6) (ix2 r k)
      = if r.val = 511 then
          if j.val < 7 then prod (fun j => x (ix3 0 0 j)) (fun j => g (ix2 0 j)) (fun j => sc (ix3 0 0 j)) (fun j => sh (ix3 0 0 j))
            (fun j f => x5 (ix2 j f)) k else 0
        else u (ix2 ⟨(r.val + 512 - 511) % 512, by omega⟩ k) := by
    rw [← select_ite, ← select_ite, ← sel_last, ← sel_some_after]
    unfold prod proj hid rms
    pointwise [k0_pay12, k0_pay2, k0_pay9, k0_pay10, k0_pay11]
    simp only [← Nat.add_assoc, Nat.reduceAdd]
  rw [e]
  by_cases h : r.val = 511
  · rw [if_pos h, dif_pos h]
  · rw [if_neg h, dif_neg h]
    exact congrArg u (congrArg (fun q => ix2 q k) (Fin.ext (by show (r.val + 512 - 511) % 512 = r.val + 1; omega)))

/-- The rows before the tile's rows, each times its weight. -/
theorem pay13_apply (u : FVec Ideal S512x1024 .f32) (p : FVec Ideal S1x1024 .f32) (w : Vec Ideal S1x1024 .f32) (r : Fin 512)
    (k : Fin 1024) :
    k0_pay13 u p w (ix2 r k)
      = w (ix2 0 k) * if h : r.val = 0 then p (ix2 0 k) else u (ix2 ⟨r.val - 1, by have := r.isLt; omega⟩ k) := by
  have hr := r.isLt
  have e : k0_pay13 u p w (ix2 r k)
      = w (ix2 0 k) * if r.val = 0 then p (ix2 0 k) else u (ix2 ⟨(r.val + 512 - 1) % 512, by omega⟩ k) := by
    rw [← select_ite, ← sel_first]
    pointwise [k0_pay13]
  rw [e]
  by_cases h : r.val = 0
  · rw [if_pos h, dif_pos h]
  · rw [if_neg h, dif_neg h]
    exact congrArg (w (ix2 0 k) * ·) (congrArg u (congrArg (fun q => ix2 q k)
      (Fin.ext (by show (r.val + 512 - 1) % 512 = r.val - 1; omega))))

/-- The tile's result at a row and a column. -/
theorem pay1_apply (x : FVec Ideal S512x1024 .f32) (bc : FVec Ideal S512x3072 .f32) (u un wp : FVec Ideal S512x1024 .f32)
    (c1 c2 : Vec Ideal S1x1024 .f32) (gt : Vec Ideal S1x1x1024 .f32) (wo : Vec Ideal S1024x1024 .bf16) (a : Fin 1) (r : Fin 512)
    (k : Fin 1024) :
    k0_pay1 x bc u un wp c1 c2 gt wo (ix3 a r k)
      = x (ix2 r k) + gt (ix3 0 0 k) * ∑ f : Fin 1024, bc (ix2 r ⟨f.val, by have := f.isLt; omega⟩)
          * (wp (ix2 r f) + c1 (ix2 0 f) * u (ix2 r f) + c2 (ix2 0 f) * un (ix2 r f)) * wo (ix2 f k) := by
  pointwise [k0_pay1]

/-- The tile's rows without the batch axis. -/
theorem pay3_apply (v : Vec Ideal S1x512x1024 .f32) (r : Fin 512) (k : Fin 1024) : k0_pay3 v (ix2 r k) = v (ix3 0 r k) := by
  pointwise [k0_pay3]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- The convolution's input of a block's row. -/
def blkU {n : Nat} (x : Fin n → Fin 1024 → EReal) (x3 : Vec Ideal S1x3x1024 .f32) (x4 : Vec Ideal S1x1024 .f32)
    (x5 : Vec Ideal S1024x3072 .bf16) (r : Fin n) : Fin 1024 → EReal :=
  prod (x r) (fun k => x4 (ix2 0 k)) (fun k => x3 (ix3 0 1 k)) (fun k => x3 (ix3 0 0 k)) fun j f => x5 (ix2 j f)

/-- What one grid point leaves in the result's tile, read at a row and a column. -/
theorem out_apply (i : grid0.Coords) (x0 : Vec Ideal S1x512x1024 .f32) (x1 x2 : Vec Ideal S1x8x1024 .f32) (x3 : Vec Ideal S1x3x1024 .f32)
    (x4 : Vec Ideal S1x1024 .f32) (x5 : Vec Ideal S1024x3072 .bf16) (x6 : Vec Ideal S3x1024 .f32) (x7 : Vec Ideal S1024x1024 .bf16)
    (a : Fin 1) (r : Fin 512) (k : Fin 1024) :
    out0_8 i x0 x1 x2 x3 x4 x5 x6 x7 (ix3 a r k)
      = conv (fun k => x0 (ix3 0 r k)) (fun k => x3 (ix3 0 2 k))
          (fun f => proj (hid (fun k => x0 (ix3 0 r k)) (fun k => x4 (ix2 0 k)) (fun k => x3 (ix3 0 1 k)) (fun k => x3 (ix3 0 0 k)))
            fun j => x5 (ix2 j ⟨f.val, by have := f.isLt; omega⟩))
          (fun f => x6 (ix2 0 f)) (fun f => x6 (ix2 1 f)) (fun f => x6 (ix2 2 f))
          (fun f => if h : r.val = 0 then (if 0 < (i 1).val then blkU (fun r k => x1 (ix3 0 r k)) x3 x4 x5 7 f else 0)
            else blkU (fun r k => x0 (ix3 0 r k)) x3 x4 x5 ⟨r.val - 1, by have := r.isLt; omega⟩ f)
          (blkU (fun r k => x0 (ix3 0 r k)) x3 x4 x5 r)
          (fun f => if h : r.val = 511 then (if (i 1).val < 7 then blkU (fun r k => x2 (ix3 0 r k)) x3 x4 x5 0 f else 0)
            else blkU (fun r k => x0 (ix3 0 r k)) x3 x4 x5 ⟨r.val + 1, by have := r.isLt; omega⟩ f)
          (fun f k => x7 (ix2 f k)) k := by
  unfold out0_8
  rw [View.canon_unit_zero hz3, pay1_apply]
  unfold conv blkU
  rw [View.ld_unit_zero hz3 (X := x0), View.ld_unit_zero hz3 (X := x1), View.ld_unit_zero hz3 (X := x2), View.ld_unit_zero hz2 (X := x4),
    View.ld_unit_zero hz2 (X := x7)]
  unfold k0_pay15 k0_pay14
  simp only [pay3_apply, pay4_apply, pay13_apply, pay12_apply (i 1), pay8_apply (i 1), pay5_apply]
  rw [View.ld_unit_zero hz3 (X := x0), View.ld_unit_zero hz2 (X := x4), View.ld_unit_zero hz2 (S := S1024x3072) (X := x5)]
  pointwise

/-! ## From the tile to the array -/

variable (m : (ℓ : Loc nD τ sig) → Buf (Elt Ideal) ℓ) (ρ : Dev nD → PrngReg)

/-- The batch entry a grid point works on. -/
def tb (t : Fin cfg0.N) : Fin 8 := ⟨t.val / 8, by have : cfg0.N = 64 := N_0; have := t.isLt; omega⟩
/-- The first row of the tile a grid point works on, plus a row of the tile. -/
def tr (t : Fin cfg0.N) (r : Fin 512) : Fin 4096 := ⟨t.val % 8 * 512 + r.val, by have := r.isLt; omega⟩
/-- The rows the kernel is handed from before the tile. -/
def tp (t : Fin cfg0.N) (r : Fin 8) : Fin 4096 := ⟨(t.val % 8 * 64 - 1) * 8 + r.val, by have := r.isLt; omega⟩
/-- The rows the kernel is handed from after the tile. -/
def tn (t : Fin cfg0.N) (r : Fin 8) : Fin 4096 := ⟨min ((t.val % 8 + 1) * 64) 511 * 8 + r.val, by have := r.isLt; omega⟩

/-- Where each window stands at a grid point. -/
theorem idx_facts : ∀ t : Fin grid0.N,
    (win0_0.index t 0 = t.val / 8 ∧ win0_0.index t 1 = t.val % 8 ∧ win0_0.index t 2 = 0)
    ∧ (win0_1.index t 0 = t.val / 8 ∧ win0_1.index t 1 = t.val % 8 * 64 - 1 ∧ win0_1.index t 2 = 0)
    ∧ (win0_2.index t 0 = t.val / 8 ∧ win0_2.index t 1 = min ((t.val % 8 + 1) * 64) 511 ∧ win0_2.index t 2 = 0)
    ∧ (win0_3.index t 0 = t.val / 8 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val / 8 ∧ win0_8.index t 1 = t.val % 8 ∧ win0_8.index t 2 = 0) := by
  decide +kernel

/-- The tile a grid point works on. -/
theorem coord_tile : ∀ t : Fin grid0.N, (grid0.coords t 1).val = t.val % 8 := by
  decide +kernel

/-- The gain as the kernel is handed it: the argument laid out as one row. -/
theorem V_main_v0 (c : Dev nD) : V m c main_v0
    = (shapeCast S1x1024 (m ((c : Thread nD τ).loc main_arg2) : Vec Ideal S1024 .f32) shapeCasts_S1024_S1x1024 : Vec Ideal S1x1024 .f32) := by
  unfold_abbrev_sides
  after_results
  rfl

/-- The tile's block, read in the array. -/
theorem iblk0_apply (c : Dev nD) (t : Fin cfg0.N) (a : Fin 1) (r : Fin 512) (k : Fin 1024) :
    (iblk m c 0 t : Vec Ideal S1x512x1024 .f32) (ix3 a r k) = m ((c : Thread nD τ).loc main_arg0) (ix3 (tb t) (tr t r) k) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val / 8; rw [hi.1]; omega
  | ⟨1, _⟩ => show win0_0.index t 1 * 512 + 1 * r.val = t.val % 8 * 512 + r.val; rw [hi.2.1]; omega
  | ⟨2, _⟩ => show win0_0.index t 2 * 1024 + 1 * k.val = k.val; rw [hi.2.2]; omega

/-- The rows before, read in the array. -/
theorem iblk1_apply (c : Dev nD) (t : Fin cfg0.N) (a : Fin 1) (r : Fin 8) (k : Fin 1024) :
    (iblk m c 1 t : Vec Ideal S1x8x1024 .f32) (ix3 a r k) = m ((c : Thread nD τ).loc main_arg0) (ix3 (tb t) (tp t r) k) := by
  have hi := (idx_facts t).2.1
  unfold iblk
  rw [View.read_apply]
  show V m c main_arg0 _ = _
  rw [V_main_arg0]
  congr 1
  funext d
  apply Fin.ext
  match d with
  | ⟨0, _⟩ => show win0_1.index t 0 * 1 + 1 * a.val = t.val / 8; rw [hi.1]; omega
  | ⟨1, _⟩ => show win0_1.index t 1 * 8 + 1 * r.val = (t.val % 8 * 64 - 1) * 8 + r.val; rw [hi.2.1]; omega
  | ⟨2, _⟩ => show win0_1.index t 2 * 1024 + 1 * k.val = k.val; rw [hi.2.2]; omega

/-- The rows after, read in the array. -/
theorem iblk2_apply (c : Dev nD) (t : Fin cfg0.N) (a : Fin 1) (r : Fin 8) (k : Fin 1024) :
    (iblk m c 2 t : Vec Ideal S1x8x1024 .f32) (ix3 a r k) = m ((c : Thread nD τ).loc main_arg0) (ix3 (tb t) (tn t r) k) := by
  have hi := (idx_facts t).2.2.1
  unfold iblk
  rw [View.read_apply]
  show V m c main_arg0 _ = _
  rw [V_main_arg0]
  congr 1
  funext d
  apply Fin.ext
  match d with
  | ⟨0, _⟩ => show win0_2.index t 0 * 1 + 1 * a.val = t.val / 8; rw [hi.1]; omega
  | ⟨1, _⟩ => show win0_2.index t 1 * 8 + 1 * r.val = min ((t.val % 8 + 1) * 64) 511 * 8 + r.val; rw [hi.2.1]; omega
  | ⟨2, _⟩ => show win0_2.index t 2 * 1024 + 1 * k.val = k.val; rw [hi.2.2]; omega

/-- The modulation's block, read in the array. -/
theorem iblk3_apply (c : Dev nD) (t : Fin cfg0.N) (a : Fin 1) (r : Fin 3) (k : Fin 1024) :
    (iblk m c 3 t : Vec Ideal S1x3x1024 .f32) (ix3 a r k) = m ((c : Thread nD τ).loc main_arg1) (ix3 (tb t) r k) := by
  have hi := (idx_facts t).2.2.2.1
  unfold iblk
  rw [View.read_apply]
  show V m c main_arg1 _ = _
  rw [V_main_arg1]
  congr 1
  funext d
  apply Fin.ext
  match d with
  | ⟨0, _⟩ => show win0_3.index t 0 * 1 + 1 * a.val = t.val / 8; rw [hi.1]; omega
  | ⟨1, _⟩ => show win0_3.index t 1 * 3 + 1 * r.val = r.val; rw [hi.2.1]; omega
  | ⟨2, _⟩ => show win0_3.index t 2 * 1024 + 1 * k.val = k.val; rw [hi.2.2]; omega

/-- The gain row. -/
theorem iblk4_apply (c : Dev nD) (t : Fin cfg0.N) (r : Fin 1) (k : Fin 1024) :
    (iblk m c 4 t : Vec Ideal S1x1024 .f32) (ix2 r k) = (shapeCast S1x1024 (m ((c : Thread nD τ).loc main_arg2) : Vec Ideal S1024 .f32) shapeCasts_S1024_S1x1024 : Vec Ideal S1x1024 .f32) (ix2 r k) := by
  have hi := (idx_facts t).2.2.2.2.1
  unfold iblk
  rw [View.read_apply]
  show V m c main_v0 _ = _
  rw [V_main_v0]
  congr 1
  funext d
  apply Fin.ext
  match d with
  | ⟨0, _⟩ => show win0_4.index t 0 * 1 + 1 * r.val = r.val; rw [hi.1]; omega
  | ⟨1, _⟩ => show win0_4.index t 1 * 1024 + 1 * k.val = k.val; rw [hi.2]; omega

/-- The first weight. -/
theorem iblk5_apply (c : Dev nD) (t : Fin cfg0.N) (r : Fin 1024) (k : Fin 3072) :
    (iblk m c 5 t : Vec Ideal S1024x3072 .bf16) (ix2 r k) = m ((c : Thread nD τ).loc main_arg3) (ix2 r k) := by
  have hi := (idx_facts t).2.2.2.2.2.1
  unfold iblk
  rw [View.read_apply]
  show V m c main_arg3 _ = _
  rw [V_main_arg3]
  congr 1
  funext d
  apply Fin.ext
  match d with
  | ⟨0, _⟩ => show win0_5.index t 0 * 1024 + 1 * r.val = r.val; rw [hi.1]; omega
  | ⟨1, _⟩ => show win0_5.index t 1 * 3072 + 1 * k.val = k.val; rw [hi.2]; omega

/-- The convolution's weights. -/
theorem iblk6_apply (c : Dev nD) (t : Fin cfg0.N) (r : Fin 3) (k : Fin 1024) :
    (iblk m c 6 t : Vec Ideal S3x1024 .f32) (ix2 r k) = m ((c : Thread nD τ).loc main_arg4) (ix2 r k) := by
  have hi := (idx_facts t).2.2.2.2.2.2.1
  unfold iblk
  rw [View.read_apply]
  show V m c main_arg4 _ = _
  rw [V_main_arg4]
  congr 1
  funext d
  apply Fin.ext
  match d with
  | ⟨0, _⟩ => show win0_6.index t 0 * 3 + 1 * r.val = r.val; rw [hi.1]; omega
  | ⟨1, _⟩ => show win0_6.index t 1 * 1024 + 1 * k.val = k.val; rw [hi.2]; omega

/-- The second weight. -/
theorem iblk7_apply (c : Dev nD) (t : Fin cfg0.N) (r : Fin 1024) (k : Fin 1024) :
    (iblk m c 7 t : Vec Ideal S1024x1024 .bf16) (ix2 r k) = m ((c : Thread nD τ).loc main_arg5) (ix2 r k) := by
  have hi := (idx_facts t).2.2.2.2.2.2.2.1
  unfold iblk
  rw [View.read_apply]
  show V m c main_arg5 _ = _
  rw [V_main_arg5]
  congr 1
  funext d
  apply Fin.ext
  match d with
  | ⟨0, _⟩ => show win0_7.index t 0 * 1024 + 1 * r.val = r.val; rw [hi.1]; omega
  | ⟨1, _⟩ => show win0_7.index t 1 * 1024 + 1 * k.val = k.val; rw [hi.2]; omega

/-- A vector laid out as one row, read at a column. -/
theorem row_apply (v : Vec Ideal S1024 .f32) (k : Fin 1024) :
    (shapeCast S1x1024 v shapeCasts_S1024_S1x1024 : Vec Ideal S1x1024 .f32) (ix2 0 k) = v (ix1 k) := by
  pointwise

/-- The gain's block, read in the argument. -/
theorem iblk4_row (c : Dev nD) (t : Fin cfg0.N) (k : Fin 1024) :
    (iblk m c 4 t : Vec Ideal S1x1024 .f32) (ix2 0 k) = m ((c : Thread nD τ).loc main_arg2) (ix1 k) :=
  (iblk4_apply m c t 0 k).trans (row_apply _ k)

/-- The convolution's input at a token, in a core's memory. -/
abbrev UM (c : Dev nD) : Fin 8 → Fin 4096 → Fin 1024 → EReal :=
  U (m ((c : Thread nD τ).loc main_arg0)) (m ((c : Thread nD τ).loc main_arg1)) (m ((c : Thread nD τ).loc main_arg2)) (m ((c : Thread nD τ).loc main_arg3))

/-- The convolution's input of the tile's own rows. -/
theorem blkU0 (c : Dev nD) (t : Fin cfg0.N) (r : Fin 512) :
    blkU (fun r k => (iblk m c 0 t : Vec Ideal S1x512x1024 .f32) (ix3 0 r k)) (iblk m c 3 t) (iblk m c 4 t) (iblk m c 5 t) r
      = UM m c (tb t) (tr t r) := by
  unfold blkU UM U
  simp only [iblk0_apply, iblk3_apply, iblk4_row, iblk5_apply]

/-- The convolution's input of the eight rows before the tile. -/
theorem blkU1 (c : Dev nD) (t : Fin cfg0.N) (r : Fin 8) :
    blkU (fun r k => (iblk m c 1 t : Vec Ideal S1x8x1024 .f32) (ix3 0 r k)) (iblk m c 3 t) (iblk m c 4 t) (iblk m c 5 t) r
      = UM m c (tb t) (tp t r) := by
  unfold blkU UM U
  simp only [iblk1_apply, iblk3_apply, iblk4_row, iblk5_apply]

/-- The convolution's input of the eight rows after the tile. -/
theorem blkU2 (c : Dev nD) (t : Fin cfg0.N) (r : Fin 8) :
    blkU (fun r k => (iblk m c 2 t : Vec Ideal S1x8x1024 .f32) (ix3 0 r k)) (iblk m c 3 t) (iblk m c 4 t) (iblk m c 5 t) r
      = UM m c (tb t) (tn t r) := by
  unfold blkU UM U
  simp only [iblk2_apply, iblk3_apply, iblk4_row, iblk5_apply]

/-- The row before, whether it lies in the tile or in the rows before it. -/
theorem prev_eq (u : Fin 4096 → EReal) (t : Fin cfg0.N) (r : Fin 512) :
    (if h : r.val = 0 then (if 0 < t.val % 8 then u (tp t 7) else 0) else u (tr t ⟨r.val - 1, by have := r.isLt; omega⟩))
      = if h : 1 ≤ (tr t r).val then u ⟨(tr t r).val - 1, by have := (tr t r).isLt; omega⟩ else 0 := by
  have hr := r.isLt
  have hv : (tr t r).val = t.val % 8 * 512 + r.val := rfl
  by_cases h : r.val = 0
  · rw [dif_pos h]
    by_cases hj : 0 < t.val % 8
    · rw [if_pos hj, dif_pos (by omega)]
      exact congrArg u (Fin.ext (by show (t.val % 8 * 64 - 1) * 8 + 7 = t.val % 8 * 512 + r.val - 1; omega))
    · rw [if_neg hj, dif_neg (by omega)]
  · rw [dif_neg h, dif_pos (by omega)]
    exact congrArg u (Fin.ext (by show t.val % 8 * 512 + (r.val - 1) = t.val % 8 * 512 + r.val - 1; omega))

/-- The row after, whether it lies in the tile or in the rows after it. -/
theorem next_eq (u : Fin 4096 → EReal) (t : Fin cfg0.N) (r : Fin 512) :
    (if h : r.val = 511 then (if t.val % 8 < 7 then u (tn t 0) else 0) else u (tr t ⟨r.val + 1, by have := r.isLt; omega⟩))
      = if h : (tr t r).val + 1 < 4096 then u ⟨(tr t r).val + 1, h⟩ else 0 := by
  have hr := r.isLt
  have hv : (tr t r).val = t.val % 8 * 512 + r.val := rfl
  by_cases h : r.val = 511
  · rw [dif_pos h]
    by_cases hj : t.val % 8 < 7
    · rw [if_pos hj, dif_pos (by omega)]
      exact congrArg u (Fin.ext (by show min ((t.val % 8 + 1) * 64) 511 * 8 + 0 = t.val % 8 * 512 + r.val + 1; omega))
    · rw [if_neg hj, dif_neg (by omega)]
  · rw [dif_neg h, dif_pos (by omega)]
    exact congrArg u (Fin.ext (by show t.val % 8 * 512 + (r.val + 1) = t.val % 8 * 512 + r.val + 1; omega))

/-- The value the result array is shown to hold. -/
abbrev res (c : Dev nD) : FVec Ideal S8x4096x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point writes back is its block of the whole result. -/
theorem flushed_eq (c : Dev nD) (t : Fin cfg0.N) :
    (dats m 0 c).flushed 8 t = (win0_8.blk t).view.read (Elt Ideal) (res m c) := by
  rw [Value.flushed8]
  funext i
  obtain ⟨a, r, k, rfl⟩ : ∃ (a : Fin 1) (r : Fin 512) (k : Fin 1024), i = ix3 a r k := ⟨i 0, i 1, i 2, eq_ix3 i⟩
  have hi := (idx_facts t).2.2.2.2.2.2.2.2
  refine (out_apply _ _ _ _ _ _ _ _ _ a r k).trans ?_
  rw [View.read_apply]
  have e : (win0_8.blk t).view.emb (ix3 a r k) = ix3 (tb t) (tr t r) k := by
    funext d
    apply Fin.ext
    match d with
    | ⟨0, _⟩ => show win0_8.index t 0 * 1 + 1 * a.val = t.val / 8; rw [hi.1]; omega
    | ⟨1, _⟩ => show win0_8.index t 1 * 512 + 1 * r.val = t.val % 8 * 512 + r.val; rw [hi.2.1]; omega
    | ⟨2, _⟩ => show win0_8.index t 2 * 1024 + 1 * k.val = k.val; rw [hi.2.2]; omega
  rw [e]
  show _ = elt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tb t) (tr t r) k
  unfold elt Uprev Unext
  rw [coord_tile]
  simp only [blkU0, blkU1, blkU2, fun f => prev_eq (fun r => UM m c (tb t) r f) t r, fun f => next_eq (fun r => UM m c (tb t) r f) t r]
  simp only [iblk0_apply, iblk3_apply, iblk4_row, iblk5_apply, iblk6_apply, iblk7_apply]

/-- The result's blocks, by their rows. -/
theorem mem_blk (t : Fin cfg0.N) (i : S8x4096x1024.Idx) :
    i ∈ ((cfg0.win 8).blk t).view.set
      ↔ (i 0 : Nat) = t.val / 8 ∧ t.val % 8 * 512 ≤ (i 1 : Nat) ∧ (i 1 : Nat) < t.val % 8 * 512 + 512 := by
  show i ∈ ((View.whole main_v1).slice (win0_8.rect t)).set ↔ _
  have hi := (idx_facts t).2.2.2.2.2.2.2.2
  have h2 : (i 2 : Nat) < 1024 := (i 2).isLt
  rw [View.set_slice_whole, Rect.mem_set_unit]
  refine ⟨fun h => ?_, fun h a => ?_⟩
  · have a0 : win0_8.index t 0 * 1 ≤ (i 0 : Nat) ∧ (i 0 : Nat) < win0_8.index t 0 * 1 + 1 := h 0
    have a1 : win0_8.index t 1 * 512 ≤ (i 1 : Nat) ∧ (i 1 : Nat) < win0_8.index t 1 * 512 + 512 := h 1
    rw [hi.1] at a0
    rw [hi.2.1] at a1
    omega
  · match a with
    | ⟨0, _⟩ => show win0_8.index t 0 * 1 ≤ (i 0 : Nat) ∧ (i 0 : Nat) < win0_8.index t 0 * 1 + 1; rw [hi.1]; omega
    | ⟨1, _⟩ => show win0_8.index t 1 * 512 ≤ (i 1 : Nat) ∧ (i 1 : Nat) < win0_8.index t 1 * 512 + 512; rw [hi.2.1]; omega
    | ⟨2, _⟩ => show win0_8.index t 2 * 1024 ≤ (i 2 : Nat) ∧ (i 2 : Nat) < win0_8.index t 2 * 1024 + 1024; rw [hi.2.2]; omega

/-- Every index of the result lies in the block of a grid point that writes it back. -/
theorem cover (i : S8x4096x1024.Idx) :
    ∃ t : Fin cfg0.N, (cfg0.win 8).flush t = true ∧ i ∈ ((cfg0.win 8).blk t).view.set := by
  have h0 : (i 0 : Nat) < 8 := (i 0).isLt
  have h1 : (i 1 : Nat) < 4096 := (i 1).isLt
  have hN : cfg0.N = 64 := N_0
  refine ⟨⟨(i 0).val * 8 + (i 1).val / 512, by omega⟩, flush0_8 _, ?_⟩
  rw [mem_blk]
  dsimp only
  omega

/-- The result array after the run. -/
theorem final (c : Dev nD) : (dats m 0 c).arrAt 8 cfg0.N = res m c :=
  Dat.arrAt_eq_of_cover (dats m 0 c) 8 (res m c) (fun t _ => flushed_eq m c t) cover

end Cert.ConvIdeal.RefValue

/-! ## The reference -/

namespace Cert.ConvRefIdeal.RefValue

open Cert.ConvRefIdeal Cert.ConvRefIdeal.Read
open Cert.FfnIdeal.RefValue (rms hid proj)
open Cert.ConvIdeal.RefValue (U Uprev Unext elt)
open Cert.ConvIdeal.RefValue (prod conv)

variable (x0 : FVec Ideal S8x4096x1024 .f32) (x1 : FVec Ideal S8x3x1024 .f32) (x2 : FVec Ideal S1024 .f32)
  (x3 : FVec Ideal S1024x3072 .bf16) (x4 : FVec Ideal S3x1024 .f32) (x5 : FVec Ideal S1024x1024 .bf16)

/-- The reference's hidden rows. -/
theorem ref_hid (b : Fin 8) (r : Fin 4096) (k : Fin 1024) :
    val_main_v20 (F := Ideal) x0 x1 x2 (ix3 b r k)
      = hid (fun k => x0 (ix3 b r k)) (fun k => x2 (ix1 k)) (fun k => x1 (ix3 b 1 k)) (fun k => x1 (ix3 b 0 k)) k := by
  unfold hid rms
  rw [← mul_assoc]
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The reference's first projection. -/
theorem ref_proj (b : Fin 8) (r : Fin 4096) (f : Fin 3072) :
    val_main_v23 (F := Ideal) x0 x1 x2 x3 (ix3 b r f)
      = proj (hid (fun k => x0 (ix3 b r k)) (fun k => x2 (ix1 k)) (fun k => x1 (ix3 b 1 k)) (fun k => x1 (ix3 b 0 k)))
          fun j => x3 (ix2 j f) := by
  unfold val_main_v23 proj
  simp only [← ref_hid]
  generalize val_main_v20 (F := Ideal) x0 x1 x2 = h
  pointwise [val_main_v21]

/-- The reference's convolution input. -/
theorem ref_u (b : Fin 8) (r : Fin 4096) (k : Fin 1024) :
    val_main_v27 (F := Ideal) x0 x1 x2 x3 (ix3 b r k) = U x0 x1 x2 x3 b r k := by
  unfold U prod
  rw [← ref_proj, ← ref_proj]
  unfold val_main_v27 val_main_v26 val_main_v25
  generalize val_main_v23 (F := Ideal) x0 x1 x2 x3 = h
  pointwise

/-- The integer zero the reference pads with, as a number. -/
theorem pad_zero : (FloatOps.sitofp FTy.f32 0#32 : Ideal .f32) = (0 : EReal) := by
  show ((((0#32 : BitVec 32).toInt : ℤ) : ℝ) : EReal) = 0
  simp

/-- The reference's convolution, from its input. -/
theorem ref_conv (b : Fin 8) (r : Fin 4096) (k : Fin 1024) :
    val_main_v48 (F := Ideal) x0 x1 x2 x3 x4 (ix3 b r k)
      = x4 (ix2 0 k) * Uprev x0 x1 x2 x3 b r k + x4 (ix2 1 k) * U x0 x1 x2 x3 b r k + x4 (ix2 2 k) * Unext x0 x1 x2 x3 b r k := by
  have hr := r.isLt
  have e : val_main_v48 (F := Ideal) x0 x1 x2 x3 x4 (ix3 b r k)
      = x4 (ix2 0 k) * (if h : 1 ≤ r.val ∧ r.val - 1 < 4096 then val_main_v27 (F := Ideal) x0 x1 x2 x3 (ix3 b ⟨r.val - 1, h.2⟩ k)
            else (FloatOps.sitofp FTy.f32 0#32 : Ideal .f32))
          + x4 (ix2 1 k) * val_main_v27 (F := Ideal) x0 x1 x2 x3 (ix3 b r k)
          + x4 (ix2 2 k) * (if h : 1 ≤ 2 + r.val ∧ 2 + r.val - 1 < 4096 then val_main_v27 (F := Ideal) x0 x1 x2 x3 (ix3 b ⟨2 + r.val - 1, h.2⟩ k)
            else (FloatOps.sitofp FTy.f32 0#32 : Ideal .f32)) := by
    unfold val_main_v48 val_main_v47 val_main_v46 val_main_v45 val_main_v44 val_main_v43 val_main_v42 val_main_v41 val_main_v40
      val_main_v39 val_main_v38 val_main_v37 val_main_v36 val_main_v35 val_main_v34 val_main_v33 val_main_v32 val_main_v31
      val_main_v30 val_main_v29 val_main_v28
    generalize val_main_v27 (F := Ideal) x0 x1 x2 x3 = u
    pointwise [val_main_call0_v0, val_main_c]
  rw [e, pad_zero]
  simp only [ref_u]
  have e1 : (if h : 1 ≤ r.val ∧ r.val - 1 < 4096 then U x0 x1 x2 x3 b ⟨r.val - 1, h.2⟩ k else 0) = Uprev x0 x1 x2 x3 b r k := by
    unfold Uprev
    by_cases h : 1 ≤ r.val
    · rw [dif_pos h, dif_pos ⟨h, by omega⟩]
    · rw [dif_neg h, dif_neg (by omega)]
  have e2 : (if h : 1 ≤ 2 + r.val ∧ 2 + r.val - 1 < 4096 then U x0 x1 x2 x3 b ⟨2 + r.val - 1, h.2⟩ k else 0) = Unext x0 x1 x2 x3 b r k := by
    unfold Unext
    by_cases h : r.val + 1 < 4096
    · rw [dif_pos h, dif_pos ⟨by omega, by omega⟩]
      exact congrArg (fun q => U x0 x1 x2 x3 b q k) (Fin.ext (by show 2 + r.val - 1 = r.val + 1; omega))
    · rw [dif_neg h, dif_neg (by omega)]
  rw [e1, e2]

/-- The reference's result is the same function of the arguments. -/
theorem ref_eq : val_main_v54 (F := Ideal) x0 x1 x2 x3 x4 x5 = Cert.ConvIdeal.RefValue.G x0 x1 x2 x3 x4 x5 := by
  funext i
  obtain ⟨b, r, k, rfl⟩ : ∃ (b : Fin 8) (r : Fin 4096) (k : Fin 1024), i = ix3 b r k := ⟨i 0, i 1, i 2, eq_ix3 i⟩
  show _ = elt x0 x1 x2 x3 x4 x5 b r k
  unfold elt conv
  simp only [← ref_proj, ← ref_conv]
  unfold val_main_v54 val_main_v53 val_main_v50 val_main_v49 val_main_v24
  generalize val_main_v48 (F := Ideal) x0 x1 x2 x3 x4 = h
  generalize val_main_v23 (F := Ideal) x0 x1 x2 x3 = p
  pointwise [val_main_v52, val_main_v51, val_main_v22]

end Cert.ConvRefIdeal.RefValue

namespace Cert.Proof

/-- The convolution mixer and its reference compute one array. -/
theorem algebraic_conv : Cert.algebraic_ConvIdeal_ConvRefIdeal := by
  intro m ρ m' ρ' _ hagree
  refine ⟨fun c => Cert.ConvIdeal.RefValue.res m c, ?_, ?_⟩
  · exact (θ_run Cert.ConvIdeal.defs _ _).mono
      (fun _ h c => ⟨(h c).1.trans (Cert.ConvIdeal.RefValue.final m c), (h c).2⟩)
      (Cert.ConvIdeal.Value.run_blocks (F := Ideal) m ρ)
  · refine (θ_run Cert.ConvRefIdeal.defs _ _).mono
      (fun _ h c => ⟨(h c).1.trans ?_, (h c).2⟩) (Cert.ConvRefIdeal.Value.run (F := Ideal) m' ρ')
    rw [Cert.ConvRefIdeal.Read.val_main_v54_eq, Cert.ConvRefIdeal.RefValue.ref_eq, (hagree c).1, (hagree c).2.1, (hagree c).2.2.1,
      (hagree c).2.2.2.1, (hagree c).2.2.2.2.1, (hagree c).2.2.2.2.2]

end Cert.Proof

end
-- ==== Proof.QkvCtx.lean ====
/-
  The query, key and value projection of the context stream: what the kernel leaves in its three result arrays, what the
  reference computes, and that they are the same functions of the arguments.
-/
module

public import proofs.«01_k».proof.Defs
public import proofs.«01_k».proof.Proof.Ffn
public import proofs.«01_k».proof.Proof.Gen.QkvCtxIdeal.Frame
public import proofs.«01_k».proof.Proof.Gen.QkvCtxIdeal.Value
public import proofs.«01_k».proof.Proof.Gen.QkvCtxRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Heads

/-- One head of a projected row, normalised: the head's entries over the root of their mean square (plus a small constant), times a gain. -/
def headn (p g : Fin 128 → EReal) (d : Fin 128) : EReal :=
  p d * Ideal.rsqrt (Ideal.div (∑ j : Fin 128, p j * p j) (Ideal.ofBits FTy.f32 0x43000000#32) + Ideal.ofBits FTy.f32 0x358637BD#32) * g d

/-- The factor the queries are scaled by. -/
def qs : EReal := Ideal.ofBits FTy.f32 0x3E0293EE#32

/-- The column of the projection where an entry of a query column's head lies. -/
def qc (l : Fin 1024) (j : Fin 128) : Fin 1536 := ⟨l.val / 128 * 128 + j.val, by have := l.isLt; have := j.isLt; omega⟩
/-- The column of the projection where an entry of a key column's head lies. -/
def kc (l : Fin 256) (j : Fin 128) : Fin 1536 := ⟨1024 + l.val / 128 * 128 + j.val, by have := l.isLt; have := j.isLt; omega⟩
/-- The column of the projection where a value lies. -/
def vc (l : Fin 256) : Fin 1536 := ⟨1280 + l.val, by have := l.isLt; omega⟩
/-- A query column's place in its head. -/
def dq (l : Fin 1024) : Fin 128 := ⟨l.val % 128, by omega⟩
/-- A key column's place in its head. -/
def dk (l : Fin 256) : Fin 128 := ⟨l.val % 128, by omega⟩

/-- The columns of the query head that starts at column `o`. -/
theorem qc_eq (o : Nat) (ho : o % 128 = 0) (d : Fin 128) (L : Fin 1024) (hL : L.val = o + d.val) (q : Fin 128 → Fin 1536)
    (hq : ∀ j, (q j).val = o + j.val) : q = qc L := by
  funext j
  apply Fin.ext
  rw [hq]
  show o + j.val = L.val / 128 * 128 + j.val
  have := d.isLt
  omega

/-- A query column's place in its head, from the head's first column. -/
theorem dq_eq (o : Nat) (ho : o % 128 = 0) (d : Fin 128) (L : Fin 1024) (hL : L.val = o + d.val) : d = dq L := by
  apply Fin.ext
  show d.val = L.val % 128
  have := d.isLt
  omega

/-- The columns of the key head that starts at column `o` of the keys. -/
theorem kc_eq (o : Nat) (ho : o % 128 = 0) (d : Fin 128) (L : Fin 256) (hL : L.val = o + d.val) (q : Fin 128 → Fin 1536)
    (hq : ∀ j, (q j).val = 1024 + o + j.val) : q = kc L := by
  funext j
  apply Fin.ext
  rw [hq]
  show 1024 + o + j.val = 1024 + L.val / 128 * 128 + j.val
  have := d.isLt
  omega

/-- A key column's place in its head, from the head's first column. -/
theorem dk_eq (o : Nat) (ho : o % 128 = 0) (d : Fin 128) (L : Fin 256) (hL : L.val = o + d.val) : d = dk L := by
  apply Fin.ext
  show d.val = L.val % 128
  have := d.isLt
  omega

end Cert.Heads

namespace Cert.QkvCtxIdeal.RefValue

open Cert.QkvCtxIdeal Cert.QkvCtxIdeal.Gen
open Cert.FfnIdeal.RefValue (rms hid proj)
open Cert.Heads

/-- The projection of a token's normalised row. -/
def PP (x : FVec Ideal S8x256x1024 .f32) (mod : FVec Ideal S1x3x1024 .f32) (g : FVec Ideal S1024 .f32) (w : FVec Ideal S1024x1536 .bf16)
    (b : Fin 8) (r : Fin 256) (f : Fin 1536) : EReal :=
  proj (hid (fun k => x (ix3 b r k)) (fun k => g (ix1 k)) (fun k => mod (ix3 0 1 k)) (fun k => mod (ix3 0 0 k))) fun j => w (ix2 j f)

/-- The queries both programs compute. -/
def Gq (x : FVec Ideal S8x256x1024 .f32) (mod : FVec Ideal S1x3x1024 .f32) (g : FVec Ideal S1024 .f32) (w : FVec Ideal S1024x1536 .bf16)
    (qg : FVec Ideal S128 .f32) : FVec Ideal S8x256x1024 .bf16 := fun i =>
  headn (fun j => PP x mod g w (i 0) (i 1) (qc (i 2) j)) (fun j => qg (ix1 j)) (dq (i 2)) * qs

/-- The keys both programs compute. -/
def Gk (x : FVec Ideal S8x256x1024 .f32) (mod : FVec Ideal S1x3x1024 .f32) (g : FVec Ideal S1024 .f32) (w : FVec Ideal S1024x1536 .bf16)
    (kg : FVec Ideal S128 .f32) : FVec Ideal S8x256x256 .bf16 := fun i =>
  headn (fun j => PP x mod g w (i 0) (i 1) (kc (i 2) j)) (fun j => kg (ix1 j)) (dk (i 2))

/-- The values both programs compute. -/
def Gv (x : FVec Ideal S8x256x1024 .f32) (mod : FVec Ideal S1x3x1024 .f32) (g : FVec Ideal S1024 .f32) (w : FVec Ideal S1024x1536 .bf16) :
    FVec Ideal S8x256x256 .bf16 := fun i => PP x mod g w (i 0) (i 1) (vc (i 2))

/-! ## The kernel's tile -/

/-- The tile's projection at a row and a column. -/
theorem proj_apply (v0 : Vec Ideal S1x256x1024 .f32) (v2 : Vec Ideal S1x1024 .f32) (v9 v21 : Vec Ideal S1x1x1024 .f32)
    (v26 : Vec Ideal S1024x1536 .bf16) (r : Fin 256) (f : Fin 1536) :
    k0_pay3 v0 v2 v9 v21 v26 (ix2 r f)
      = proj (hid (fun j => v0 (ix3 0 r j)) (fun j => v2 (ix2 0 j)) (fun j => v9 (ix3 0 0 j)) (fun j => v21 (ix3 0 0 j)))
          fun j => v26 (ix2 j f) := by
  unfold proj hid rms
  pointwise [k0_pay3]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- The tile's projection in the window's blocks. -/
theorem pay_proj (x0 : Vec Ideal S1x256x1024 .f32) (x1 : Vec Ideal S1x3x1024 .f32) (x2 : Vec Ideal S1x1024 .f32) (x3 : Vec Ideal S1024x1536 .bf16) (x4 x5 : Vec Ideal S1x128 .f32) (r : Fin 256) (f : Fin 1536) :
    k0_pay24 x0 x1 x2 x3 x4 x5 (ix2 r f)
      = proj (hid (fun j => x0 (ix3 0 r j)) (fun j => x2 (ix2 0 j)) (fun j => x1 (ix3 0 1 j)) (fun j => x1 (ix3 0 0 j)))
          fun j => x3 (ix2 j f) := by
  unfold k0_pay24
  rw [proj_apply]
  unfold proj hid rms
  pointwise

/-- The queries' gain, read in its block. -/
theorem pay_qg (x0 : Vec Ideal S1x256x1024 .f32) (x1 : Vec Ideal S1x3x1024 .f32) (x2 : Vec Ideal S1x1024 .f32) (x3 : Vec Ideal S1024x1536 .bf16) (x4 x5 : Vec Ideal S1x128 .f32) (j : Fin 128) :
    k0_pay25 x0 x1 x2 x3 x4 x5 (ix2 0 j) = x4 (ix2 0 j) := by
  pointwise [k0_pay25, k0_pay4]

/-- The keys' gain, read in its block. -/
theorem pay_kg (x0 : Vec Ideal S1x256x1024 .f32) (x1 : Vec Ideal S1x3x1024 .f32) (x2 : Vec Ideal S1x1024 .f32) (x3 : Vec Ideal S1024x1536 .bf16) (x4 x5 : Vec Ideal S1x128 .f32) (j : Fin 128) :
    k0_pay26 x0 x1 x2 x3 x4 x5 (ix2 0 j) = x5 (ix2 0 j) := by
  pointwise [k0_pay26, k0_pay5]

/-- The head at column 896. -/
theorem q7 (p : FVec Ideal S256x1536 .f32) (g : FVec Ideal S1x128 .f32) (a : Fin 1) (r : Fin 256) (d : Fin 128) :
    k0_pay20 p g (ix3 a r d)
      = headn (fun j => p (ix2 r ⟨896 + j.val, by have := j.isLt; omega⟩)) (fun j => g (ix2 0 j)) d * qs := by
  unfold headn qs
  pointwise [k0_pay20]

/-- The head at column 768. -/
theorem q6 (p : FVec Ideal S256x1536 .f32) (g : FVec Ideal S1x128 .f32) (a : Fin 1) (r : Fin 256) (d : Fin 128) :
    k0_pay19 (k0_pay18 p g) (ix3 a r d)
      = headn (fun j => p (ix2 r ⟨768 + j.val, by have := j.isLt; omega⟩)) (fun j => g (ix2 0 j)) d * qs := by
  unfold headn qs
  pointwise [k0_pay19, k0_pay18]

/-- The head at column 640. -/
theorem q5 (p : FVec Ideal S256x1536 .f32) (g : FVec Ideal S1x128 .f32) (a : Fin 1) (r : Fin 256) (d : Fin 128) :
    k0_pay17 p g (ix3 a r d)
      = headn (fun j => p (ix2 r ⟨640 + j.val, by have := j.isLt; omega⟩)) (fun j => g (ix2 0 j)) d * qs := by
  unfold headn qs
  pointwise [k0_pay17]

/-- The head at column 512. -/
theorem q4 (p : FVec Ideal S256x1536 .f32) (g : FVec Ideal S1x128 .f32) (a : Fin 1) (r : Fin 256) (d : Fin 128) :
    k0_pay16 (k0_pay15 p g) (ix3 a r d)
      = headn (fun j => p (ix2 r ⟨512 + j.val, by have := j.isLt; omega⟩)) (fun j => g (ix2 0 j)) d * qs := by
  unfold headn qs
  pointwise [k0_pay16, k0_pay15]

/-- The head at column 384. -/
theorem q3 (p : FVec Ideal S256x1536 .f32) (g : FVec Ideal S1x128 .f32) (a : Fin 1) (r : Fin 256) (d : Fin 128) :
    k0_pay14 p g (ix3 a r d)
      = headn (fun j => p (ix2 r ⟨384 + j.val, by have := j.isLt; omega⟩)) (fun j => g (ix2 0 j)) d * qs := by
  unfold headn qs
  pointwise [k0_pay14]

/-- The head at column 256. -/
theorem q2 (p : FVec Ideal S256x1536 .f32) (g : FVec Ideal S1x128 .f32) (a : Fin 1) (r : Fin 256) (d : Fin 128) :
    k0_pay13 g (k0_pay10 p) (k0_pay11 p) (k0_pay12 (F := Ideal)) (ix3 a r d)
      = headn (fun j => p (ix2 r ⟨256 + j.val, by have := j.isLt; omega⟩)) (fun j => g (ix2 0 j)) d * qs := by
  unfold headn qs
  pointwise [k0_pay13, k0_pay12, k0_pay11, k0_pay10]

/-- The head at column 128. -/
theorem q1 (p : FVec Ideal S256x1536 .f32) (g : FVec Ideal S1x128 .f32) (a : Fin 1) (r : Fin 256) (d : Fin 128) :
    k0_pay9 p g (ix3 a r d)
      = headn (fun j => p (ix2 r ⟨128 + j.val, by have := j.isLt; omega⟩)) (fun j => g (ix2 0 j)) d * qs := by
  unfold headn qs
  pointwise [k0_pay9]

/-- The head at column 0. -/
theorem q0 (v0 : Vec Ideal S1x256x1024 .f32) (v2 : Vec Ideal S1x1024 .f32) (v9 v21 : Vec Ideal S1x1x1024 .f32)
    (v26 : Vec Ideal S1024x1536 .bf16) (g : FVec Ideal S1x128 .f32) (a : Fin 1) (r : Fin 256) (d : Fin 128) :
    k0_pay8 g (k0_pay6 v0 v2 v9 v21 v26) (k0_pay7 v0 v2 v9 v21 v26) (ix3 a r d)
      = headn (fun j => k0_pay3 v0 v2 v9 v21 v26 (ix2 r ⟨j.val, by have := j.isLt; omega⟩)) (fun j => g (ix2 0 j)) d * qs := by
  unfold k0_pay7 k0_pay6 headn qs
  generalize k0_pay3 v0 v2 v9 v21 v26 = p
  pointwise [k0_pay8]

/-- The head at column 1152. -/
theorem k1 (p : FVec Ideal S256x1536 .f32) (g : FVec Ideal S1x128 .f32) (a : Fin 1) (r : Fin 256) (d : Fin 128) :
    k0_pay1 g (k0_pay22 p) (k0_pay23 p) (ix3 a r d)
      = headn (fun j => p (ix2 r ⟨1152 + j.val, by have := j.isLt; omega⟩)) (fun j => g (ix2 0 j)) d := by
  unfold headn
  pointwise [k0_pay1, k0_pay23, k0_pay22]

/-- The head at column 1024. -/
theorem k0 (p : FVec Ideal S256x1536 .f32) (g : FVec Ideal S1x128 .f32) (a : Fin 1) (r : Fin 256) (d : Fin 128) :
    k0_pay21 p g (ix3 a r d)
      = headn (fun j => p (ix2 r ⟨1024 + j.val, by have := j.isLt; omega⟩)) (fun j => g (ix2 0 j)) d := by
  unfold headn
  pointwise [k0_pay21]

/-- The values' columns. -/
theorem v_apply (p : FVec Ideal S256x1536 .f32) (a : Fin 1) (r : Fin 256) (l : Fin 256) :
    k0_pay2 p (ix3 a r l) = p (ix2 r (vc l)) := by
  unfold vc
  pointwise [k0_pay2]

/-- A head's entry depends on the row, the head's columns and the place in the head. -/
theorem head_congr (p : FVec Ideal S256x1536 .f32) (g : Fin 128 → EReal) {r r' : Fin 256} (hr : r = r') {q q' : Fin 128 → Fin 1536} (hq : q = q')
    {d d' : Fin 128} (hd : d = d') :
    headn (fun j => p (ix2 r (q j))) g d = headn (fun j => p (ix2 r' (q' j))) g d' := by
  rw [hr, hq, hd]

/-- What one grid point leaves in the tile of the queries. -/
theorem outq_apply (x0 : Vec Ideal S1x256x1024 .f32) (x1 : Vec Ideal S1x3x1024 .f32) (x2 : Vec Ideal S1x1024 .f32) (x3 : Vec Ideal S1024x1536 .bf16) (x4 x5 : Vec Ideal S1x128 .f32) (a : Fin 1) (r : Fin 256) (l : Fin 1024) :
    out0_6 x0 x1 x2 x3 x4 x5 (ix3 a r l)
      = headn (fun j => k0_pay24 x0 x1 x2 x3 x4 x5 (ix2 r (qc l j))) (fun j => k0_pay25 x0 x1 x2 x3 x4 x5 (ix2 0 j)) (dq l) * qs := by
  unfold out0_6
  refine View.canon_apply_of_pieces (Val := Elt Ideal) (e := .bf16) (S := S1x256x1024)
    (fun y => headn (fun j => k0_pay24 x0 x1 x2 x3 x4 x5 (ix2 (y 1) (qc (y 2) j))) (fun j => k0_pay25 x0 x1 x2 x3 x4 x5 (ix2 0 j)) (dq (y 2)) * qs) _ ?_ (ix3 a r l) (cover0_6 _ _ _ _ _ _ _ _ (ix3 a r l))
  simp only [List.mem_cons, List.not_mem_nil, or_false]
  rintro z (rfl | rfl | rfl | rfl | rfl | rfl | rfl | rfl) x
  all_goals
    obtain ⟨a, r, d, rfl⟩ : ∃ (a : Fin 1) (r : Fin 256) (d : Fin 128), x = ix3 a r d := ⟨x 0, x 1, x 2, eq_ix3 x⟩
    have eL : ∀ (o : Nat) (L : Fin 1024), L.val = o + 1 * d.val → L.val = o + d.val := fun o L h => by omega
    have eR : ∀ Q : Fin 256, Q.val = 0 + 1 * r.val → r = Q := fun Q h => Fin.ext (by omega)
    dsimp only
  · refine (q7 _ _ a r d).trans ?_
    exact congrArg (· * qs) (head_congr _ _ (eR _ rfl) (qc_eq 896 (by omega) d _ (eL 896 _ rfl) _ fun j => by show _ = _; simp only [Nat.zero_add, Nat.reduceAdd]) (dq_eq 896 (by omega) d _ (eL 896 _ rfl)))
  · refine (q6 _ _ a r d).trans ?_
    exact congrArg (· * qs) (head_congr _ _ (eR _ rfl) (qc_eq 768 (by omega) d _ (eL 768 _ rfl) _ fun j => by show _ = _; simp only [Nat.zero_add, Nat.reduceAdd]) (dq_eq 768 (by omega) d _ (eL 768 _ rfl)))
  · refine (q5 _ _ a r d).trans ?_
    exact congrArg (· * qs) (head_congr _ _ (eR _ rfl) (qc_eq 640 (by omega) d _ (eL 640 _ rfl) _ fun j => by show _ = _; simp only [Nat.zero_add, Nat.reduceAdd]) (dq_eq 640 (by omega) d _ (eL 640 _ rfl)))
  · refine (q4 _ _ a r d).trans ?_
    exact congrArg (· * qs) (head_congr _ _ (eR _ rfl) (qc_eq 512 (by omega) d _ (eL 512 _ rfl) _ fun j => by show _ = _; simp only [Nat.zero_add, Nat.reduceAdd]) (dq_eq 512 (by omega) d _ (eL 512 _ rfl)))
  · refine (q3 _ _ a r d).trans ?_
    exact congrArg (· * qs) (head_congr _ _ (eR _ rfl) (qc_eq 384 (by omega) d _ (eL 384 _ rfl) _ fun j => by show _ = _; simp only [Nat.zero_add, Nat.reduceAdd]) (dq_eq 384 (by omega) d _ (eL 384 _ rfl)))
  · refine (q2 _ _ a r d).trans ?_
    exact congrArg (· * qs) (head_congr _ _ (eR _ rfl) (qc_eq 256 (by omega) d _ (eL 256 _ rfl) _ fun j => by show _ = _; simp only [Nat.zero_add, Nat.reduceAdd]) (dq_eq 256 (by omega) d _ (eL 256 _ rfl)))
  · refine (q1 _ _ a r d).trans ?_
    exact congrArg (· * qs) (head_congr _ _ (eR _ rfl) (qc_eq 128 (by omega) d _ (eL 128 _ rfl) _ fun j => by show _ = _; simp only [Nat.zero_add, Nat.reduceAdd]) (dq_eq 128 (by omega) d _ (eL 128 _ rfl)))
  · refine (q0 _ _ _ _ _ _ a r d).trans ?_
    exact congrArg (· * qs) (head_congr _ _ (eR _ rfl) (qc_eq 0 (by omega) d _ (eL 0 _ rfl) _ fun j => by show _ = _; simp only [Nat.zero_add, Nat.reduceAdd]) (dq_eq 0 (by omega) d _ (eL 0 _ rfl)))

/-- What one grid point leaves in the tile of the keys. -/
theorem outk_apply (x0 : Vec Ideal S1x256x1024 .f32) (x1 : Vec Ideal S1x3x1024 .f32) (x2 : Vec Ideal S1x1024 .f32) (x3 : Vec Ideal S1024x1536 .bf16) (x4 x5 : Vec Ideal S1x128 .f32) (a : Fin 1) (r : Fin 256) (l : Fin 256) :
    out0_7 x0 x1 x2 x3 x4 x5 (ix3 a r l)
      = headn (fun j => k0_pay24 x0 x1 x2 x3 x4 x5 (ix2 r (kc l j))) (fun j => k0_pay26 x0 x1 x2 x3 x4 x5 (ix2 0 j)) (dk l) := by
  unfold out0_7
  refine View.canon_apply_of_pieces (Val := Elt Ideal) (e := .bf16) (S := S1x256x256)
    (fun y => headn (fun j => k0_pay24 x0 x1 x2 x3 x4 x5 (ix2 (y 1) (kc (y 2) j))) (fun j => k0_pay26 x0 x1 x2 x3 x4 x5 (ix2 0 j)) (dk (y 2))) _ ?_ (ix3 a r l) (cover0_7 _ _ (ix3 a r l))
  simp only [List.mem_cons, List.not_mem_nil, or_false]
  rintro z (rfl | rfl) x
  all_goals
    obtain ⟨a, r, d, rfl⟩ : ∃ (a : Fin 1) (r : Fin 256) (d : Fin 128), x = ix3 a r d := ⟨x 0, x 1, x 2, eq_ix3 x⟩
    have eL : ∀ (o : Nat) (L : Fin 256), L.val = o + 1 * d.val → L.val = o + d.val := fun o L h => by omega
    have eR : ∀ Q : Fin 256, Q.val = 0 + 1 * r.val → r = Q := fun Q h => Fin.ext (by omega)
    dsimp only
  · refine (k1 _ _ a r d).trans ?_
    exact head_congr _ _ (eR _ rfl) (kc_eq 128 (by omega) d _ (eL 128 _ rfl) _ fun j => by show _ = _; simp only [Nat.zero_add, Nat.reduceAdd]) (dk_eq 128 (by omega) d _ (eL 128 _ rfl))
  · refine (k0 _ _ a r d).trans ?_
    exact head_congr _ _ (eR _ rfl) (kc_eq 0 (by omega) d _ (eL 0 _ rfl) _ fun j => by show _ = _; simp only [Nat.zero_add, Nat.reduceAdd]) (dk_eq 0 (by omega) d _ (eL 0 _ rfl))

/-- What one grid point leaves in the tile of the values. -/
theorem outv_apply (x0 : Vec Ideal S1x256x1024 .f32) (x1 : Vec Ideal S1x3x1024 .f32) (x2 : Vec Ideal S1x1024 .f32) (x3 : Vec Ideal S1024x1536 .bf16) (x4 x5 : Vec Ideal S1x128 .f32) (a : Fin 1) (r : Fin 256) (l : Fin 256) :
    out0_8 x0 x1 x2 x3 x4 x5 (ix3 a r l) = k0_pay24 x0 x1 x2 x3 x4 x5 (ix2 r (vc l)) := by
  unfold out0_8
  rw [View.canon_unit_zero hz3, v_apply]

/-! ## From the tile to the array -/

variable (m : (ℓ : Loc nD τ sig) → Buf (Elt Ideal) ℓ) (ρ : Dev nD → PrngReg)

/-- The batch entry a grid point works on. -/
def tb (t : Fin cfg0.N) : Fin 8 := ⟨t.val, by have : cfg0.N = 8 := N_0; have := t.isLt; omega⟩
/-- The first row of the tile a grid point works on, plus a row of the tile. -/
def tr (t : Fin cfg0.N) (r : Fin 256) : Fin 256 := ⟨0 + r.val, by have := r.isLt; omega⟩

/-- Where each window stands at a grid point. -/
theorem idx_facts : ∀ t : Fin grid0.N,
    (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0 ∧ win0_6.index t 2 = 0)
    ∧ (win0_7.index t 0 = t.val ∧ win0_7.index t 1 = 0 ∧ win0_7.index t 2 = 0)
    ∧ (win0_8.index t 0 = t.val ∧ win0_8.index t 1 = 0 ∧ win0_8.index t 2 = 0) := by
  decide +kernel

/-- The vector argument as the kernel is handed it: laid out as one row. -/
theorem V_main_v0 (c : Dev nD) : V m c main_v0
    = (shapeCast S1x1024 (m ((c : Thread nD τ).loc main_arg2) : Vec Ideal S1024 .f32) shapeCasts_S1024_S1x1024 : Vec Ideal S1x1024 .f32) := by
  unfold_abbrev_sides
  after_results
  rfl

/-- The vector argument as the kernel is handed it: laid out as one row. -/
theorem V_main_v1 (c : Dev nD) : V m c main_v1
    = (shapeCast S1x128 (m ((c : Thread nD τ).loc main_arg4) : Vec Ideal S128 .f32) shapeCasts_S128_S1x128 : Vec Ideal S1x128 .f32) := by
  unfold_abbrev_sides
  after_results
  rfl

/-- The vector argument as the kernel is handed it: laid out as one row. -/
theorem V_main_v2 (c : Dev nD) : V m c main_v2
    = (shapeCast S1x128 (m ((c : Thread nD τ).loc main_arg5) : Vec Ideal S128 .f32) shapeCasts_S128_S1x128 : Vec Ideal S1x128 .f32) := by
  unfold_abbrev_sides
  after_results
  rfl

/-- The tile's block, read in the array. -/
theorem iblk0_apply (c : Dev nD) (t : Fin cfg0.N) (a : Fin 1) (r : Fin 256) (k : Fin 1024) :
    (iblk m c 0 t : Vec Ideal S1x256x1024 .f32) (ix3 a r k) = m ((c : Thread nD τ).loc main_arg0) (ix3 (tb t) (tr t r) k) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val; rw [hi.1]; omega
  | ⟨1, _⟩ => show win0_0.index t 1 * 256 + 1 * r.val = 0 + r.val; rw [hi.2.1]; omega
  | ⟨2, _⟩ => show win0_0.index t 2 * 1024 + 1 * k.val = k.val; rw [hi.2.2]; omega

/-- The modulation's block, read in the array. -/
theorem iblk1_apply (c : Dev nD) (t : Fin cfg0.N) (a : Fin 1) (r : Fin 3) (k : Fin 1024) :
    (iblk m c 1 t : Vec Ideal S1x3x1024 .f32) (ix3 a r k) = m ((c : Thread nD τ).loc main_arg1) (ix3 0 r k) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = 0; rw [hi.1]; omega
  | ⟨1, _⟩ => show win0_1.index t 1 * 3 + 1 * r.val = r.val; rw [hi.2.1]; omega
  | ⟨2, _⟩ => show win0_1.index t 2 * 1024 + 1 * k.val = k.val; rw [hi.2.2]; omega

/-- The weight. -/
theorem iblk3_apply (c : Dev nD) (t : Fin cfg0.N) (r : Fin 1024) (k : Fin 1536) :
    (iblk m c 3 t : Vec Ideal S1024x1536 .bf16) (ix2 r k) = m ((c : Thread nD τ).loc main_arg3) (ix2 r k) := by
  have hi := (idx_facts t).2.2.2.1
  unfold iblk
  rw [View.read_apply]
  show V m c main_arg3 _ = _
  rw [V_main_arg3]
  congr 1
  funext d
  apply Fin.ext
  match d with
  | ⟨0, _⟩ => show win0_3.index t 0 * 1024 + 1 * r.val = r.val; rw [hi.1]; omega
  | ⟨1, _⟩ => show win0_3.index t 1 * 1536 + 1 * k.val = k.val; rw [hi.2]; omega

/-- A vector laid out as one row, read at a column. -/
theorem row1024_apply (v : Vec Ideal S1024 .f32) (k : Fin 1024) :
    (shapeCast S1x1024 v shapeCasts_S1024_S1x1024 : Vec Ideal S1x1024 .f32) (ix2 0 k) = v (ix1 k) := by
  pointwise

/-- A vector laid out as one row, read at a column. -/
theorem row128_apply (v : Vec Ideal S128 .f32) (k : Fin 128) :
    (shapeCast S1x128 v shapeCasts_S128_S1x128 : Vec Ideal S1x128 .f32) (ix2 0 k) = v (ix1 k) := by
  pointwise

/-- The row of a vector argument. -/
theorem iblk2_apply (c : Dev nD) (t : Fin cfg0.N) (r : Fin 1) (k : Fin 1024) :
    (iblk m c 2 t : Vec Ideal S1x1024 .f32) (ix2 r k) = (shapeCast S1x1024 (m ((c : Thread nD τ).loc main_arg2) : Vec Ideal S1024 .f32) shapeCasts_S1024_S1x1024 : Vec Ideal S1x1024 .f32) (ix2 r k) := by
  have hi := (idx_facts t).2.2.1
  unfold iblk
  rw [View.read_apply]
  show V m c main_v0 _ = _
  rw [V_main_v0]
  congr 1
  funext d
  apply Fin.ext
  match d with
  | ⟨0, _⟩ => show win0_2.index t 0 * 1 + 1 * r.val = r.val; rw [hi.1]; omega
  | ⟨1, _⟩ => show win0_2.index t 1 * 1024 + 1 * k.val = k.val; rw [hi.2]; omega

/-- The row's block, read in the argument. -/
theorem iblk2_row (c : Dev nD) (t : Fin cfg0.N) (k : Fin 1024) :
    (iblk m c 2 t : Vec Ideal S1x1024 .f32) (ix2 0 k) = m ((c : Thread nD τ).loc main_arg2) (ix1 k) :=
  (iblk2_apply m c t 0 k).trans (row1024_apply _ k)

/-- The row of a vector argument. -/
theorem iblk4_apply (c : Dev nD) (t : Fin cfg0.N) (r : Fin 1) (k : Fin 128) :
    (iblk m c 4 t : Vec Ideal S1x128 .f32) (ix2 r k) = (shapeCast S1x128 (m ((c : Thread nD τ).loc main_arg4) : Vec Ideal S128 .f32) shapeCasts_S128_S1x128 : Vec Ideal S1x128 .f32) (ix2 r k) := by
  have hi := (idx_facts t).2.2.2.2.1
  unfold iblk
  rw [View.read_apply]
  show V m c main_v1 _ = _
  rw [V_main_v1]
  congr 1
  funext d
  apply Fin.ext
  match d with
  | ⟨0, _⟩ => show win0_4.index t 0 * 1 + 1 * r.val = r.val; rw [hi.1]; omega
  | ⟨1, _⟩ => show win0_4.index t 1 * 128 + 1 * k.val = k.val; rw [hi.2]; omega

/-- The row's block, read in the argument. -/
theorem iblk4_row (c : Dev nD) (t : Fin cfg0.N) (k : Fin 128) :
    (iblk m c 4 t : Vec Ideal S1x128 .f32) (ix2 0 k) = m ((c : Thread nD τ).loc main_arg4) (ix1 k) :=
  (iblk4_apply m c t 0 k).trans (row128_apply _ k)

/-- The row of a vector argument. -/
theorem iblk5_apply (c : Dev nD) (t : Fin cfg0.N) (r : Fin 1) (k : Fin 128) :
    (iblk m c 5 t : Vec Ideal S1x128 .f32) (ix2 r k) = (shapeCast S1x128 (m ((c : Thread nD τ).loc main_arg5) : Vec Ideal S128 .f32) shapeCasts_S128_S1x128 : Vec Ideal S1x128 .f32) (ix2 r k) := by
  have hi := (idx_facts t).2.2.2.2.2.1
  unfold iblk
  rw [View.read_apply]
  show V m c main_v2 _ = _
  rw [V_main_v2]
  congr 1
  funext d
  apply Fin.ext
  match d with
  | ⟨0, _⟩ => show win0_5.index t 0 * 1 + 1 * r.val = r.val; rw [hi.1]; omega
  | ⟨1, _⟩ => show win0_5.index t 1 * 128 + 1 * k.val = k.val; rw [hi.2]; omega

/-- The row's block, read in the argument. -/
theorem iblk5_row (c : Dev nD) (t : Fin cfg0.N) (k : Fin 128) :
    (iblk m c 5 t : Vec Ideal S1x128 .f32) (ix2 0 k) = m ((c : Thread nD τ).loc main_arg5) (ix1 k) :=
  (iblk5_apply m c t 0 k).trans (row128_apply _ k)

/-- The array of the queries the programs agree on, in a core's memory. -/
abbrev resq (c : Dev nD) : FVec Ideal S8x256x1024 .bf16 :=
  Gq (m ((c : Thread nD τ).loc main_arg0)) (m ((c : Thread nD τ).loc main_arg1)) (m ((c : Thread nD τ).loc main_arg2)) (m ((c : Thread nD τ).loc main_arg3)) (m ((c : Thread nD τ).loc main_arg4))

/-- What a grid point writes back of the queries is its block of the function. -/
theorem flushed_eq_q (c : Dev nD) (t : Fin cfg0.N) :
    (dats m 0 c).flushed 6 t = (win0_6.blk t).view.read (Elt Ideal) (resq m c) := by
  rw [Value.flushed6]
  funext i
  obtain ⟨a, r, k, rfl⟩ : ∃ (a : Fin 1) (r : Fin 256) (k : Fin 1024), i = ix3 a r k := ⟨i 0, i 1, i 2, eq_ix3 i⟩
  have hi := (idx_facts t).2.2.2.2.2.2.1
  refine (outq_apply _ _ _ _ _ _ a r k).trans ?_
  rw [View.read_apply]
  have e : (win0_6.blk t).view.emb (ix3 a r k) = ix3 (tb t) (tr t r) k := by
    funext d
    apply Fin.ext
    match d with
    | ⟨0, _⟩ => show win0_6.index t 0 * 1 + 1 * a.val = t.val; rw [hi.1]; omega
    | ⟨1, _⟩ => show win0_6.index t 1 * 256 + 1 * r.val = 0 + r.val; rw [hi.2.1]; omega
    | ⟨2, _⟩ => show win0_6.index t 2 * 1024 + 1 * k.val = k.val; rw [hi.2.2]; omega
  rw [e]
  simp only [pay_proj, iblk0_apply, iblk1_apply, iblk2_row, iblk3_apply, pay_qg, iblk4_row]
  rfl

/-- The blocks of the queries, by their rows. -/
theorem mem_blk_q (t : Fin cfg0.N) (i : S8x256x1024.Idx) :
    i ∈ ((cfg0.win 6).blk t).view.set
      ↔ (i 0 : Nat) = t.val ∧ 0 ≤ (i 1 : Nat) ∧ (i 1 : Nat) < 0 + 256 := by
  show i ∈ ((View.whole main_v3_0).slice (win0_6.rect t)).set ↔ _
  have hi := (idx_facts t).2.2.2.2.2.2.1
  have h2 : (i 2 : Nat) < 1024 := (i 2).isLt
  rw [View.set_slice_whole, Rect.mem_set_unit]
  refine ⟨fun h => ?_, fun h a => ?_⟩
  · have a0 : win0_6.index t 0 * 1 ≤ (i 0 : Nat) ∧ (i 0 : Nat) < win0_6.index t 0 * 1 + 1 := h 0
    have a1 : win0_6.index t 1 * 256 ≤ (i 1 : Nat) ∧ (i 1 : Nat) < win0_6.index t 1 * 256 + 256 := h 1
    rw [hi.1] at a0
    rw [hi.2.1] at a1
    omega
  · match a with
    | ⟨0, _⟩ => show win0_6.index t 0 * 1 ≤ (i 0 : Nat) ∧ (i 0 : Nat) < win0_6.index t 0 * 1 + 1; rw [hi.1]; omega
    | ⟨1, _⟩ => show win0_6.index t 1 * 256 ≤ (i 1 : Nat) ∧ (i 1 : Nat) < win0_6.index t 1 * 256 + 256; rw [hi.2.1]; omega
    | ⟨2, _⟩ => show win0_6.index t 2 * 1024 ≤ (i 2 : Nat) ∧ (i 2 : Nat) < win0_6.index t 2 * 1024 + 1024; rw [hi.2.2]; omega

/-- Every index of the queries lies in the block of a grid point that writes it back. -/
theorem cover_q (i : S8x256x1024.Idx) :
    ∃ t : Fin cfg0.N, (cfg0.win 6).flush t = true ∧ i ∈ ((cfg0.win 6).blk t).view.set := by
  have h0 : (i 0 : Nat) < 8 := (i 0).isLt
  have h1 : (i 1 : Nat) < 256 := (i 1).isLt
  have hN : cfg0.N = 8 := N_0
  refine ⟨⟨(i 0).val * 1 + (i 1).val / 256, by omega⟩, flush0_6 _, ?_⟩
  rw [mem_blk_q]
  dsimp only
  omega

/-- The array of the queries after the run. -/
theorem final_q (c : Dev nD) : (dats m 0 c).arrAt 6 cfg0.N = resq m c :=
  Dat.arrAt_eq_of_cover (dats m 0 c) 6 (resq m c) (fun t _ => flushed_eq_q m c t) cover_q

/-- The array of the keys the programs agree on, in a core's memory. -/
abbrev resk (c : Dev nD) : FVec Ideal S8x256x256 .bf16 :=
  Gk (m ((c : Thread nD τ).loc main_arg0)) (m ((c : Thread nD τ).loc main_arg1)) (m ((c : Thread nD τ).loc main_arg2)) (m ((c : Thread nD τ).loc main_arg3)) (m ((c : Thread nD τ).loc main_arg5))

/-- What a grid point writes back of the keys is its block of the function. -/
theorem flushed_eq_k (c : Dev nD) (t : Fin cfg0.N) :
    (dats m 0 c).flushed 7 t = (win0_7.blk t).view.read (Elt Ideal) (resk m c) := by
  rw [Value.flushed7]
  funext i
  obtain ⟨a, r, k, rfl⟩ : ∃ (a : Fin 1) (r : Fin 256) (k : Fin 256), i = ix3 a r k := ⟨i 0, i 1, i 2, eq_ix3 i⟩
  have hi := (idx_facts t).2.2.2.2.2.2.2.1
  refine (outk_apply _ _ _ _ _ _ a r k).trans ?_
  rw [View.read_apply]
  have e : (win0_7.blk t).view.emb (ix3 a r k) = ix3 (tb t) (tr t r) k := by
    funext d
    apply Fin.ext
    match d with
    | ⟨0, _⟩ => show win0_7.index t 0 * 1 + 1 * a.val = t.val; rw [hi.1]; omega
    | ⟨1, _⟩ => show win0_7.index t 1 * 256 + 1 * r.val = 0 + r.val; rw [hi.2.1]; omega
    | ⟨2, _⟩ => show win0_7.index t 2 * 256 + 1 * k.val = k.val; rw [hi.2.2]; omega
  rw [e]
  simp only [pay_proj, iblk0_apply, iblk1_apply, iblk2_row, iblk3_apply, pay_kg, iblk5_row]
  rfl

/-- The blocks of the keys, by their rows. -/
theorem mem_blk_k (t : Fin cfg0.N) (i : S8x256x256.Idx) :
    i ∈ ((cfg0.win 7).blk t).view.set
      ↔ (i 0 : Nat) = t.val ∧ 0 ≤ (i 1 : Nat) ∧ (i 1 : Nat) < 0 + 256 := by
  show i ∈ ((View.whole main_v3_1).slice (win0_7.rect t)).set ↔ _
  have hi := (idx_facts t).2.2.2.2.2.2.2.1
  have h2 : (i 2 : Nat) < 256 := (i 2).isLt
  rw [View.set_slice_whole, Rect.mem_set_unit]
  refine ⟨fun h => ?_, fun h a => ?_⟩
  · have a0 : win0_7.index t 0 * 1 ≤ (i 0 : Nat) ∧ (i 0 : Nat) < win0_7.index t 0 * 1 + 1 := h 0
    have a1 : win0_7.index t 1 * 256 ≤ (i 1 : Nat) ∧ (i 1 : Nat) < win0_7.index t 1 * 256 + 256 := h 1
    rw [hi.1] at a0
    rw [hi.2.1] at a1
    omega
  · match a with
    | ⟨0, _⟩ => show win0_7.index t 0 * 1 ≤ (i 0 : Nat) ∧ (i 0 : Nat) < win0_7.index t 0 * 1 + 1; rw [hi.1]; omega
    | ⟨1, _⟩ => show win0_7.index t 1 * 256 ≤ (i 1 : Nat) ∧ (i 1 : Nat) < win0_7.index t 1 * 256 + 256; rw [hi.2.1]; omega
    | ⟨2, _⟩ => show win0_7.index t 2 * 256 ≤ (i 2 : Nat) ∧ (i 2 : Nat) < win0_7.index t 2 * 256 + 256; rw [hi.2.2]; omega

/-- Every index of the keys lies in the block of a grid point that writes it back. -/
theorem cover_k (i : S8x256x256.Idx) :
    ∃ t : Fin cfg0.N, (cfg0.win 7).flush t = true ∧ i ∈ ((cfg0.win 7).blk t).view.set := by
  have h0 : (i 0 : Nat) < 8 := (i 0).isLt
  have h1 : (i 1 : Nat) < 256 := (i 1).isLt
  have hN : cfg0.N = 8 := N_0
  refine ⟨⟨(i 0).val * 1 + (i 1).val / 256, by omega⟩, flush0_7 _, ?_⟩
  rw [mem_blk_k]
  dsimp only
  omega

/-- The array of the keys after the run. -/
theorem final_k (c : Dev nD) : (dats m 0 c).arrAt 7 cfg0.N = resk m c :=
  Dat.arrAt_eq_of_cover (dats m 0 c) 7 (resk m c) (fun t _ => flushed_eq_k m c t) cover_k

/-- The array of the values the programs agree on, in a core's memory. -/
abbrev resv (c : Dev nD) : FVec Ideal S8x256x256 .bf16 :=
  Gv (m ((c : Thread nD τ).loc main_arg0)) (m ((c : Thread nD τ).loc main_arg1)) (m ((c : Thread nD τ).loc main_arg2)) (m ((c : Thread nD τ).loc main_arg3))

/-- What a grid point writes back of the values is its block of the function. -/
theorem flushed_eq_v (c : Dev nD) (t : Fin cfg0.N) :
    (dats m 0 c).flushed 8 t = (win0_8.blk t).view.read (Elt Ideal) (resv m c) := by
  rw [Value.flushed8]
  funext i
  obtain ⟨a, r, k, rfl⟩ : ∃ (a : Fin 1) (r : Fin 256) (k : Fin 256), i = ix3 a r k := ⟨i 0, i 1, i 2, eq_ix3 i⟩
  have hi := (idx_facts t).2.2.2.2.2.2.2.2
  refine (outv_apply _ _ _ _ _ _ a r k).trans ?_
  rw [View.read_apply]
  have e : (win0_8.blk t).view.emb (ix3 a r k) = ix3 (tb t) (tr t r) k := by
    funext d
    apply Fin.ext
    match d with
    | ⟨0, _⟩ => show win0_8.index t 0 * 1 + 1 * a.val = t.val; rw [hi.1]; omega
    | ⟨1, _⟩ => show win0_8.index t 1 * 256 + 1 * r.val = 0 + r.val; rw [hi.2.1]; omega
    | ⟨2, _⟩ => show win0_8.index t 2 * 256 + 1 * k.val = k.val; rw [hi.2.2]; omega
  rw [e]
  simp only [pay_proj, iblk0_apply, iblk1_apply, iblk2_row, iblk3_apply]
  rfl

/-- The blocks of the values, by their rows. -/
theorem mem_blk_v (t : Fin cfg0.N) (i : S8x256x256.Idx) :
    i ∈ ((cfg0.win 8).blk t).view.set
      ↔ (i 0 : Nat) = t.val ∧ 0 ≤ (i 1 : Nat) ∧ (i 1 : Nat) < 0 + 256 := by
  show i ∈ ((View.whole main_v3_2).slice (win0_8.rect t)).set ↔ _
  have hi := (idx_facts t).2.2.2.2.2.2.2.2
  have h2 : (i 2 : Nat) < 256 := (i 2).isLt
  rw [View.set_slice_whole, Rect.mem_set_unit]
  refine ⟨fun h => ?_, fun h a => ?_⟩
  · have a0 : win0_8.index t 0 * 1 ≤ (i 0 : Nat) ∧ (i 0 : Nat) < win0_8.index t 0 * 1 + 1 := h 0
    have a1 : win0_8.index t 1 * 256 ≤ (i 1 : Nat) ∧ (i 1 : Nat) < win0_8.index t 1 * 256 + 256 := h 1
    rw [hi.1] at a0
    rw [hi.2.1] at a1
    omega
  · match a with
    | ⟨0, _⟩ => show win0_8.index t 0 * 1 ≤ (i 0 : Nat) ∧ (i 0 : Nat) < win0_8.index t 0 * 1 + 1; rw [hi.1]; omega
    | ⟨1, _⟩ => show win0_8.index t 1 * 256 ≤ (i 1 : Nat) ∧ (i 1 : Nat) < win0_8.index t 1 * 256 + 256; rw [hi.2.1]; omega
    | ⟨2, _⟩ => show win0_8.index t 2 * 256 ≤ (i 2 : Nat) ∧ (i 2 : Nat) < win0_8.index t 2 * 256 + 256; rw [hi.2.2]; omega

/-- Every index of the values lies in the block of a grid point that writes it back. -/
theorem cover_v (i : S8x256x256.Idx) :
    ∃ t : Fin cfg0.N, (cfg0.win 8).flush t = true ∧ i ∈ ((cfg0.win 8).blk t).view.set := by
  have h0 : (i 0 : Nat) < 8 := (i 0).isLt
  have h1 : (i 1 : Nat) < 256 := (i 1).isLt
  have hN : cfg0.N = 8 := N_0
  refine ⟨⟨(i 0).val * 1 + (i 1).val / 256, by omega⟩, flush0_8 _, ?_⟩
  rw [mem_blk_v]
  dsimp only
  omega

/-- The array of the values after the run. -/
theorem final_v (c : Dev nD) : (dats m 0 c).arrAt 8 cfg0.N = resv m c :=
  Dat.arrAt_eq_of_cover (dats m 0 c) 8 (resv m c) (fun t _ => flushed_eq_v m c t) cover_v

end Cert.QkvCtxIdeal.RefValue

/-! ## The reference -/

namespace Cert.QkvCtxRefIdeal.RefValue

open Cert.QkvCtxRefIdeal Cert.QkvCtxRefIdeal.Read
open Cert.FfnIdeal.RefValue (rms hid proj)
open Cert.QkvCtxIdeal.RefValue (PP)
open Cert.Heads

variable (x0 : FVec Ideal S8x256x1024 .f32) (x1 : FVec Ideal S1x3x1024 .f32) (x2 : FVec Ideal S1024 .f32)
  (x3 : FVec Ideal S1024x1536 .bf16) (x4 x5 : FVec Ideal S128 .f32)

/-- The reference's hidden rows. -/
theorem ref_hid (b : Fin 8) (r : Fin 256) (k : Fin 1024) :
    val_main_v20 (F := Ideal) x0 x1 x2 (ix3 b r k)
      = hid (fun k => x0 (ix3 b r k)) (fun k => x2 (ix1 k)) (fun k => x1 (ix3 0 1 k)) (fun k => x1 (ix3 0 0 k)) k := by
  unfold hid rms
  rw [← mul_assoc]
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The reference's projection. -/
theorem ref_proj (b : Fin 8) (r : Fin 256) (f : Fin 1536) :
    val_main_v22 (F := Ideal) x0 x1 x2 x3 (ix3 b r f) = PP x0 x1 x2 x3 b r f := by
  unfold val_main_v22 PP proj
  simp only [← ref_hid]
  generalize val_main_v20 (F := Ideal) x0 x1 x2 = h
  pointwise [val_main_v21]

/-- A query head of the reference, cut out of the projection. -/
theorem ref_qcut (b : Fin 8) (r : Fin 256) (h : Fin 8) (d : Fin 128) :
    val_main_v24 (F := Ideal) x0 x1 x2 x3 (ix4 b r h d)
      = val_main_v22 (F := Ideal) x0 x1 x2 x3 (ix3 b r ⟨h.val * 128 + d.val, by have := h.isLt; have := d.isLt; omega⟩) := by
  unfold val_main_v24 val_main_v23
  generalize val_main_v22 (F := Ideal) x0 x1 x2 x3 = p
  pointwise

/-- A query head of the reference, normalised and scaled. -/
theorem ref_qhead (b : Fin 8) (r : Fin 256) (h : Fin 8) (d : Fin 128) :
    val_main_v42 (F := Ideal) x0 x1 x2 x3 x4 (ix4 b r h d)
      = headn (fun j => val_main_v24 (F := Ideal) x0 x1 x2 x3 (ix4 b r h j)) (fun j => x4 (ix1 j)) d * qs := by
  unfold headn qs val_main_v42 val_main_v40 val_main_v37 val_main_v36 val_main_v35 val_main_v34 val_main_v32 val_main_v30 val_main_v29 val_main_v28
  generalize val_main_v24 (F := Ideal) x0 x1 x2 x3 = p
  pointwise [val_main_v41, val_main_v39, val_main_v38, val_main_v33, val_main_v31, val_main_cst_3, val_main_cst_4, val_main_cst_5, val_main_cst_6]

/-- A key head of the reference, cut out of the projection. -/
theorem ref_kcut (b : Fin 8) (r : Fin 256) (h : Fin 2) (d : Fin 128) :
    val_main_v26 (F := Ideal) x0 x1 x2 x3 (ix4 b r h d)
      = val_main_v22 (F := Ideal) x0 x1 x2 x3 (ix3 b r ⟨1024 + (h.val * 128 + d.val), by have := h.isLt; have := d.isLt; omega⟩) := by
  unfold val_main_v26 val_main_v25
  generalize val_main_v22 (F := Ideal) x0 x1 x2 x3 = p
  pointwise

/-- A key head of the reference, normalised. -/
theorem ref_khead (b : Fin 8) (r : Fin 256) (h : Fin 2) (d : Fin 128) :
    val_main_v55 (F := Ideal) x0 x1 x2 x3 x5 (ix4 b r h d)
      = headn (fun j => val_main_v26 (F := Ideal) x0 x1 x2 x3 (ix4 b r h j)) (fun j => x5 (ix1 j)) d := by
  unfold headn val_main_v55 val_main_v52 val_main_v51 val_main_v50 val_main_v49 val_main_v47 val_main_v45 val_main_v44 val_main_v43
  generalize val_main_v26 (F := Ideal) x0 x1 x2 x3 = p
  pointwise [val_main_v54, val_main_v53, val_main_v48, val_main_v46, val_main_cst_7, val_main_cst_8, val_main_cst_9]

/-- The reference's queries are the same function of the arguments. -/
theorem ref_q : val_main_v57 (F := Ideal) x0 x1 x2 x3 x4 = Cert.QkvCtxIdeal.RefValue.Gq x0 x1 x2 x3 x4 := by
  funext i
  obtain ⟨b, r, l, rfl⟩ : ∃ (b : Fin 8) (r : Fin 256) (l : Fin 1024), i = ix3 b r l := ⟨i 0, i 1, i 2, eq_ix3 i⟩
  have hl := l.isLt
  have e : val_main_v57 (F := Ideal) x0 x1 x2 x3 x4 (ix3 b r l)
      = val_main_v42 (F := Ideal) x0 x1 x2 x3 x4 (ix4 b r ⟨l.val / 128, by omega⟩ ⟨l.val % 128, by omega⟩) := by
    unfold val_main_v57 val_main_v56
    generalize val_main_v42 (F := Ideal) x0 x1 x2 x3 x4 = p
    pointwise
  rw [e, ref_qhead]
  simp only [ref_qcut, ref_proj]
  rfl

/-- The reference's keys are the same function of the arguments. -/
theorem ref_k : val_main_v59 (F := Ideal) x0 x1 x2 x3 x5 = Cert.QkvCtxIdeal.RefValue.Gk x0 x1 x2 x3 x5 := by
  funext i
  obtain ⟨b, r, l, rfl⟩ : ∃ (b : Fin 8) (r : Fin 256) (l : Fin 256), i = ix3 b r l := ⟨i 0, i 1, i 2, eq_ix3 i⟩
  have hl := l.isLt
  have e : val_main_v59 (F := Ideal) x0 x1 x2 x3 x5 (ix3 b r l)
      = val_main_v55 (F := Ideal) x0 x1 x2 x3 x5 (ix4 b r ⟨l.val / 128, by omega⟩ ⟨l.val % 128, by omega⟩) := by
    unfold val_main_v59 val_main_v58
    generalize val_main_v55 (F := Ideal) x0 x1 x2 x3 x5 = p
    pointwise
  rw [e, ref_khead]
  simp only [ref_kcut, ref_proj, ← Nat.add_assoc]
  rfl

/-- The reference's values are the same function of the arguments. -/
theorem ref_v : val_main_v60 (F := Ideal) x0 x1 x2 x3 = Cert.QkvCtxIdeal.RefValue.Gv x0 x1 x2 x3 := by
  funext i
  obtain ⟨b, r, l, rfl⟩ : ∃ (b : Fin 8) (r : Fin 256) (l : Fin 256), i = ix3 b r l := ⟨i 0, i 1, i 2, eq_ix3 i⟩
  show _ = PP x0 x1 x2 x3 b r (vc l)
  rw [← ref_proj]
  unfold vc val_main_v60 val_main_v27
  generalize val_main_v22 (F := Ideal) x0 x1 x2 x3 = p
  pointwise

end Cert.QkvCtxRefIdeal.RefValue

namespace Cert.Proof

/-- The query, key and value projection of the context stream and its reference compute the same three arrays. -/
theorem algebraic_qkv_ctx : Cert.algebraic_QkvCtxIdeal_QkvCtxRefIdeal := by
  intro m ρ m' ρ' _ hagree
  refine ⟨fun c => Cert.QkvCtxIdeal.RefValue.resq m c, fun c => Cert.QkvCtxIdeal.RefValue.resk m c, fun c => Cert.QkvCtxIdeal.RefValue.resv m c, ?_, ?_⟩
  · exact (θ_run Cert.QkvCtxIdeal.defs _ _).mono
      (fun _ h c => ⟨(h c).1.trans (Cert.QkvCtxIdeal.RefValue.final_q m c), (h c).2.1.trans (Cert.QkvCtxIdeal.RefValue.final_k m c),
        (h c).2.2.1.trans (Cert.QkvCtxIdeal.RefValue.final_v m c), (h c).2.2.2⟩)
      (Cert.QkvCtxIdeal.Value.run_blocks (F := Ideal) m ρ)
  · refine (θ_run Cert.QkvCtxRefIdeal.defs _ _).mono
      (fun _ h c => ⟨(h c).1.trans ?_, (h c).2.1.trans ?_, (h c).2.2.1.trans ?_, (h c).2.2.2⟩) (Cert.QkvCtxRefIdeal.Value.run (F := Ideal) m' ρ')
    · rw [Cert.QkvCtxRefIdeal.Read.val_main_v57_eq, Cert.QkvCtxRefIdeal.RefValue.ref_q, (hagree c).1, (hagree c).2.1, (hagree c).2.2.1,
        (hagree c).2.2.2.1, (hagree c).2.2.2.2.1]
    · rw [Cert.QkvCtxRefIdeal.Read.val_main_v59_eq, Cert.QkvCtxRefIdeal.RefValue.ref_k, (hagree c).1, (hagree c).2.1, (hagree c).2.2.1,
        (hagree c).2.2.2.1, (hagree c).2.2.2.2.2]
    · rw [Cert.QkvCtxRefIdeal.Read.val_main_v60_eq, Cert.QkvCtxRefIdeal.RefValue.ref_v, (hagree c).1, (hagree c).2.1, (hagree c).2.2.1,
        (hagree c).2.2.2.1]

end Cert.Proof

end
-- ==== Proof.QkvRope.lean ====
/-
  The query, key and value projection of the latent stream: the turning of the heads by their
  places, the tables the kernel is handed, and the functions both programs compute.
-/
module

public import proofs.«01_k».proof.Defs
public import proofs.«01_k».proof.Proof.Ffn
public import proofs.«01_k».proof.Proof.QkvCtx
public import proofs.«01_k».proof.Proof.Gen.QkvIdeal.Frame
public import proofs.«01_k».proof.Proof.Gen.QkvIdeal.Value
public import proofs.«01_k».proof.Proof.Gen.QkvRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.QkvIdeal.RefValue

open Cert.QkvIdeal Cert.QkvIdeal.Gen
open Cert.Heads

/-- The rotation's frequency. -/
def freq (k : Fin 32) : EReal :=
  Ideal.pow (Ideal.ofBits FTy.f32 0x461C4000#32)
    (Ideal.div (-(FloatOps.sitofp FTy.f32 (BitVec.ofNat 32 k.val) : Ideal .f32)) (Ideal.ofBits FTy.f32 0x42000000#32))

/-- The rotation's angle at a token, on one of the grid's two axes: the token's row or its column, times a frequency. -/
def ang (r : Fin 4096) (x : Fin 2) (k : Fin 32) : EReal :=
  (FloatOps.sitofp FTy.f32 (BitVec.ofNat 32 (if x.val = 0 then r.val / 64 else r.val % 64)) : Ideal .f32) * freq k

/-- The axis a place of a head is turned on. -/
def ax (d : Fin 128) : Fin 2 := ⟨d.val / 64, by have := d.isLt; omega⟩
/-- The frequency a place of a head is turned by. -/
def fr (d : Fin 128) : Fin 32 := ⟨d.val % 32, by omega⟩

/-- A vector turned pairwise: each of its two halves holds 32 pairs, whose members lie 32 places apart. -/
def rot (u : Fin 128 → EReal) (A : Fin 2 → Fin 32 → EReal) (d : Fin 128) : EReal :=
  if h : d.val % 64 < 32 then u d * Ideal.cos (A (ax d) (fr d)) - u ⟨d.val + 32, by have := d.isLt; omega⟩ * Ideal.sin (A (ax d) (fr d))
  else u d * Ideal.cos (A (ax d) (fr d)) + u ⟨d.val - 32, by have := d.isLt; omega⟩ * Ideal.sin (A (ax d) (fr d))

/-- A head normalised and turned. -/
def roped (p g : Fin 128 → EReal) (A : Fin 2 → Fin 32 → EReal) (d : Fin 128) : EReal := rot (headn p g) A d

/-- The kernel's way of turning: the head, and the head shifted both ways, each times a table. -/
def rk (c1 c2 c3 p g : Fin 128 → EReal) (d : Fin 128) : EReal :=
  headn p g d * c1 d + headn p g ⟨(d.val + 128 - 96) % 128, by omega⟩ * c2 d + headn p g ⟨(d.val + 128 - 32) % 128, by omega⟩ * c3 d

/-- The cosines' table. -/
def tcos (A : Fin 2 → Fin 32 → EReal) (d : Fin 128) : EReal := Ideal.cos (A (ax d) (fr d))
/-- The table of the sines of the places in the first half of a pair. -/
def tlo (A : Fin 2 → Fin 32 → EReal) (d : Fin 128) : EReal := if d.val % 64 < 32 then -Ideal.sin (A (ax d) (fr d)) else 0
/-- The table of the sines of the places in the second half of a pair. -/
def thi (A : Fin 2 → Fin 32 → EReal) (d : Fin 128) : EReal := if d.val % 64 < 32 then 0 else Ideal.sin (A (ax d) (fr d))

/-- With these tables the kernel's way turns the head. -/
theorem rk_eq (A : Fin 2 → Fin 32 → EReal) (p g : Fin 128 → EReal) (d : Fin 128) :
    rk (fun j => tcos A j) (fun j => tlo A j) (fun j => thi A j) p g d = roped p g A d := by
  have hd := d.isLt
  unfold rk roped rot tcos tlo thi
  dsimp only
  by_cases h : d.val % 64 < 32
  · rw [if_pos h, if_pos h, dif_pos h, mul_zero, add_zero, mul_neg, sub_eq_add_neg]
    have e : (⟨(d.val + 128 - 96) % 128, by omega⟩ : Fin 128) = ⟨d.val + 32, by omega⟩ := Fin.ext (by show (d.val + 128 - 96) % 128 = d.val + 32; omega)
    rw [e]
  · rw [if_neg h, if_neg h, dif_neg h, mul_zero, add_zero]
    have e : (⟨(d.val + 128 - 32) % 128, by omega⟩ : Fin 128) = ⟨d.val - 32, by omega⟩ := Fin.ext (by show (d.val + 128 - 32) % 128 = d.val - 32; omega)
    rw [e]

/-! ## The tables the kernel is handed -/

/-- The grid's width, as the host program writes it. -/
def wid : IVec S_ 32 := constantI S_ 32 64#32
/-- One integer at every token. -/
def all (v : IVec S_ 32) : IVec S4096 32 := broadcastInDim S4096 ![] bcast_S_S4096 v
/-- The tokens' places. -/
def pos : IVec S4096 32 := iotaInDim S4096 32 0

/-- The tokens' rows, as the host program computes them: a division rounded down. -/
def rowI : IVec S4096 32 :=
  select (andi (cmpi .ne (signi pos) (all (signi wid))) (cmpi .ne (Host.remsi pos (all wid)) (all (constantI S_ 32 0#32))))
    (subi (Host.divsi pos (all wid)) (all (constantI S_ 32 1#32))) (Host.divsi pos (all wid))

/-- The divisor of the tokens' columns. -/
def dvs : IVec S_ 32 := select (cmpi .eq wid (constantI S_ 32 0#32)) (constantI S_ 32 1#32) wid
/-- The remainder the tokens' columns come from. -/
def remI : IVec S4096 32 := Host.remsi pos (all dvs)
/-- The tokens' columns, as the host program computes them. -/
def colI : IVec S4096 32 :=
  select (andi (cmpi .ne (cmpi .slt remI (all (constantI S_ 32 0#32))) (broadcastInDim S4096 ![] bcast_S_S4096 (cmpi .slt dvs (constantI S_ 32 0#32))))
    (cmpi .ne remI (all (constantI S_ 32 0#32)))) (addi remI (all dvs)) remI

/-- The computed rows are the tokens' rows. -/
theorem row_apply (r : Fin 4096) : rowI (ix1 r) = BitVec.ofNat 32 (r.val / 64) := by
  have e : ∀ r : Fin 4096, rowI (ix1 r) = BitVec.ofNat 32 (r.val / 64) := by decide +kernel
  exact e r

/-- The computed columns are the tokens' columns. -/
theorem col_apply (r : Fin 4096) : colI (ix1 r) = BitVec.ofNat 32 (r.val % 64) := by
  have e : ∀ r : Fin 4096, colI (ix1 r) = BitVec.ofNat 32 (r.val % 64) := by decide +kernel
  exact e r

/-- The frequencies, as the host program computes them. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of one axis, as the host program computes them. -/
def angs (v : IVec S4096 32) : FVec Ideal S4096x32 .f32 :=
  mulf (broadcastInDim S4096x32 ![0, 1] bcast_S4096x1_S4096x32_0_1 (broadcastInDim S4096x1 ![0] bcast_S4096_S4096x1_0 (sitofp .f32 v)))
    (broadcastInDim S4096x32 ![0, 1] bcast_S1x32_S4096x32_0_1 (broadcastInDim S1x32 ![1] bcast_S32_S1x32_1 freqs))

/-- Zeros. -/
def zers : FVec Ideal S4096x32 .f32 := broadcastInDim S4096x32 ![] bcast_S_S4096x32 (constant S_ .f32 0x00000000#32)

/-- Four blocks of 32 columns side by side. -/
def side (a b c d : FVec Ideal S4096x32 .f32) : FVec Ideal S4096x128 .f32 :=
  concatenate S4096x128 1 [⟨S4096x32, a⟩, ⟨S4096x32, b⟩, ⟨S4096x32, c⟩, ⟨S4096x32, d⟩] concatenates_S4096x32_S4096x32_S4096x32_S4096x32_S4096x128_d1

/-- The angles of the rows. -/
theorem angs_row (r : Fin 4096) (k : Fin 32) : angs rowI (ix2 r k) = ang r 0 k := by
  have e : angs rowI (ix2 r k) = (FloatOps.sitofp FTy.f32 (rowI (ix1 r)) : Ideal .f32) * freq k := by
    unfold freq angs
    generalize rowI = v
    pointwise [freqs]
  rw [e, row_apply]
  rfl

/-- The angles of the columns. -/
theorem angs_col (r : Fin 4096) (k : Fin 32) : angs colI (ix2 r k) = ang r 1 k := by
  have e : angs colI (ix2 r k) = (FloatOps.sitofp FTy.f32 (colI (ix1 r)) : Ideal .f32) * freq k := by
    unfold freq angs
    generalize colI = v
    pointwise [freqs]
  rw [e, col_apply]
  rfl

/-- Four blocks side by side, read at a column. -/
theorem side_apply (a b c e : FVec Ideal S4096x32 .f32) (r : Fin 4096) (d : Fin 128) :
    side a b c e (ix2 r d) = if d.val < 32 then a (ix2 r (fr d)) else if d.val < 64 then b (ix2 r (fr d)) else if d.val < 96 then c (ix2 r (fr d)) else e (ix2 r (fr d)) := by
  have hd := d.isLt
  have e : side a b c e (ix2 r d) = if h : d.val < 32 then a (ix2 r ⟨d.val, h⟩) else if h : d.val - 32 < 32 then b (ix2 r ⟨d.val - 32, h⟩)
      else if h : d.val - 32 - 32 < 32 then c (ix2 r ⟨d.val - 32 - 32, h⟩) else e (ix2 r ⟨d.val - 32 - 32 - 32, by omega⟩) := by
    pointwise [side]
  rw [e]
  have ef : ∀ (n : Nat) (hn : n < 32), d.val % 32 = n → (⟨n, hn⟩ : Fin 32) = fr d := fun n hn h => Fin.ext h.symm
  split_ifs <;> first | omega | rw [ef _ _ (by omega)]

/-- The first table holds the cosines. -/
theorem cos_tab (r : Fin 4096) (d : Fin 128) :
    side (Host.cos (angs rowI)) (Host.cos (angs rowI)) (Host.cos (angs colI)) (Host.cos (angs colI)) (ix2 r d) = tcos (ang r) d := by
  have hd := d.isLt
  rw [side_apply]
  show (if d.val < 32 then Ideal.cos (angs rowI (ix2 r (fr d))) else if d.val < 64 then Ideal.cos (angs rowI (ix2 r (fr d)))
    else if d.val < 96 then Ideal.cos (angs colI (ix2 r (fr d))) else Ideal.cos (angs colI (ix2 r (fr d)))) = _
  rw [angs_row, angs_col]
  unfold tcos
  have e0 : d.val < 64 → ax d = 0 := fun h => Fin.ext (by show d.val / 64 = 0; omega)
  have e1 : ¬ d.val < 64 → ax d = 1 := fun h => Fin.ext (by show d.val / 64 = 1; omega)
  split_ifs <;> first | rw [e0 (by omega)] | rw [e1 (by omega)]

/-- The second table holds the negated sines of the first members' places. -/
theorem lo_tab (r : Fin 4096) (d : Fin 128) :
    side (Host.negf (Host.sin (angs rowI))) zers (Host.negf (Host.sin (angs colI))) zers (ix2 r d) = tlo (ang r) d := by
  have hd := d.isLt
  have ez : zers (ix2 r (fr d)) = 0 := by pointwise [zers]
  rw [side_apply]
  show (if d.val < 32 then -Ideal.sin (angs rowI (ix2 r (fr d))) else if d.val < 64 then zers (ix2 r (fr d))
    else if d.val < 96 then -Ideal.sin (angs colI (ix2 r (fr d))) else zers (ix2 r (fr d))) = _
  rw [angs_row, angs_col, ez]
  unfold tlo
  have e0 : d.val < 64 → ax d = 0 := fun h => Fin.ext (by show d.val / 64 = 0; omega)
  have e1 : ¬ d.val < 64 → ax d = 1 := fun h => Fin.ext (by show d.val / 64 = 1; omega)
  split_ifs <;> first | omega | rfl | rw [e0 (by omega)] | rw [e1 (by omega)]

/-- The third table holds the sines of the second members' places. -/
theorem hi_tab (r : Fin 4096) (d : Fin 128) :
    side zers (Host.sin (angs rowI)) zers (Host.sin (angs colI)) (ix2 r d) = thi (ang r) d := by
  have hd := d.isLt
  have ez : zers (ix2 r (fr d)) = 0 := by pointwise [zers]
  rw [side_apply]
  show (if d.val < 32 then zers (ix2 r (fr d)) else if d.val < 64 then Ideal.sin (angs rowI (ix2 r (fr d)))
    else if d.val < 96 then zers (ix2 r (fr d)) else Ideal.sin (angs colI (ix2 r (fr d)))) = _
  rw [angs_row, angs_col, ez]
  unfold thi
  have e0 : d.val < 64 → ax d = 0 := fun h => Fin.ext (by show d.val / 64 = 0; omega)
  have e1 : ¬ d.val < 64 → ax d = 1 := fun h => Fin.ext (by show d.val / 64 = 1; omega)
  split_ifs <;> first | omega | rfl | rw [e0 (by omega)] | rw [e1 (by omega)]

end Cert.QkvIdeal.RefValue

namespace Cert.QkvIdeal.RefValue

open Cert.QkvIdeal Cert.QkvIdeal.Gen
open Cert.FfnIdeal.RefValue (rms hid proj)
open Cert.Heads

/-- The projection of a token's normalised row. -/
def PP (x : FVec Ideal S8x4096x1024 .f32) (mod : FVec Ideal S8x3x1024 .f32) (g : FVec Ideal S1024 .f32) (w : FVec Ideal S1024x1536 .bf16)
    (b : Fin 8) (r : Fin 4096) (f : Fin 1536) : EReal :=
  proj (hid (fun k => x (ix3 b r k)) (fun k => g (ix1 k)) (fun k => mod (ix3 b 1 k)) (fun k => mod (ix3 b 0 k))) fun j => w (ix2 j f)

/-- The queries both programs compute. -/
def Gq (x : FVec Ideal S8x4096x1024 .f32) (mod : FVec Ideal S8x3x1024 .f32) (g : FVec Ideal S1024 .f32) (w : FVec Ideal S1024x1536 .bf16)
    (qg : FVec Ideal S128 .f32) : FVec Ideal S8x4096x1024 .bf16 := fun i =>
  roped (fun j => PP x mod g w (i 0) (i 1) (qc (i 2) j)) (fun j => qg (ix1 j)) (ang (i 1)) (dq (i 2)) * qs

/-- The keys both programs compute. -/
def Gk (x : FVec Ideal S8x4096x1024 .f32) (mod : FVec Ideal S8x3x1024 .f32) (g : FVec Ideal S1024 .f32) (w : FVec Ideal S1024x1536 .bf16)
    (kg : FVec Ideal S128 .f32) : FVec Ideal S8x4096x256 .bf16 := fun i =>
  roped (fun j => PP x mod g w (i 0) (i 1) (kc (i 2) j)) (fun j => kg (ix1 j)) (ang (i 1)) (dk (i 2))

/-- The values both programs compute. -/
def Gv (x : FVec Ideal S8x4096x1024 .f32) (mod : FVec Ideal S8x3x1024 .f32) (g : FVec Ideal S1024 .f32) (w : FVec Ideal S1024x1536 .bf16) :
    FVec Ideal S8x4096x256 .bf16 := fun i => PP x mod g w (i 0) (i 1) (vc (i 2))

end Cert.QkvIdeal.RefValue

end
-- ==== Proof.QkvTile.lean ====
/-
  The query, key and value projection of the latent stream: what the kernel leaves in its three
  result arrays.
-/
module

public import proofs.«01_k».proof.Defs
public import proofs.«01_k».proof.Proof.QkvRope
public import proofs.«01_k».proof.Proof.Gen.QkvIdeal.Frame
public import proofs.«01_k».proof.Proof.Gen.QkvIdeal.Value
public import proofs.«01_k».proof.Proof.Gen.QkvRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.QkvIdeal.RefValue

open Cert.QkvIdeal Cert.QkvIdeal.Gen
open Cert.FfnIdeal.RefValue (rms hid proj)
open Cert.Heads

/-! ## The kernel's tile -/

/-- The tile's projection at a row and a column. -/
theorem proj_apply (v0 : Vec Ideal S1x512x1024 .f32) (v2 : Vec Ideal S1x1024 .f32) (v9 v21 : Vec Ideal S1x1x1024 .f32)
    (v26 : Vec Ideal S1024x1536 .bf16) (r : Fin 512) (f : Fin 1536) :
    k0_pay6 v0 v2 v9 v21 v26 (ix2 r f)
      = proj (hid (fun j => v0 (ix3 0 r j)) (fun j => v2 (ix2 0 j)) (fun j => v9 (ix3 0 0 j)) (fun j => v21 (ix3 0 0 j)))
          fun j => v26 (ix2 j f) := by
  unfold proj hid rms
  pointwise [k0_pay6]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- The tile's projection in the window's blocks. -/
theorem pay_proj (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (r : Fin 512) (f : Fin 1536) :
    k0_pay29 x0 x1 x2 x3 x4 x5 x6 x7 x8 (ix2 r f)
      = proj (hid (fun j => x0 (ix3 0 r j)) (fun j => x2 (ix2 0 j)) (fun j => x1 (ix3 0 1 j)) (fun j => x1 (ix3 0 0 j)))
          fun j => x3 (ix2 j f) := by
  unfold k0_pay29
  rw [proj_apply]
  unfold proj hid rms
  pointwise

/-- The queries' gain, read in its block. -/
theorem pay_qg (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (j : Fin 128) :
    k0_pay30 x0 x1 x2 x3 x4 x5 x6 x7 x8 (ix2 0 j) = x4 (ix2 0 j) := by
  pointwise [k0_pay30, k0_pay7]

/-- The keys' gain, read in its block. -/
theorem pay_kg (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (j : Fin 128) :
    k0_pay31 x0 x1 x2 x3 x4 x5 x6 x7 x8 (ix2 0 j) = x5 (ix2 0 j) := by
  pointwise [k0_pay31, k0_pay8]

/-- The head at column 896. -/
theorem q7 (c1 c2 c3 : FVec Ideal S512x128 .f32) (p : FVec Ideal S512x1536 .f32) (g : FVec Ideal S1x128 .f32) (a : Fin 1) (r : Fin 512) (d : Fin 128) :
    k0_pay21 c1 c2 c3 p g (ix3 a r d)
      = rk (fun j => c1 (ix2 r j)) (fun j => c2 (ix2 r j)) (fun j => c3 (ix2 r j)) (fun j => p (ix2 r ⟨896 + j.val, by have := j.isLt; omega⟩)) (fun j => g (ix2 0 j)) d * qs := by
  unfold rk headn qs
  pointwise [k0_pay21]

/-- The head at column 768. -/
theorem q6 (c1 c2 c3 : FVec Ideal S512x128 .f32) (p : FVec Ideal S512x1536 .f32) (g : FVec Ideal S1x128 .f32) (a : Fin 1) (r : Fin 512) (d : Fin 128) :
    k0_pay20 c1 c2 c3 (k0_pay19 p g) (ix3 a r d)
      = rk (fun j => c1 (ix2 r j)) (fun j => c2 (ix2 r j)) (fun j => c3 (ix2 r j)) (fun j => p (ix2 r ⟨768 + j.val, by have := j.isLt; omega⟩)) (fun j => g (ix2 0 j)) d * qs := by
  unfold rk headn qs
  pointwise [k0_pay20, k0_pay19]

/-- The head at column 640. -/
theorem q5 (c1 c2 c3 : FVec Ideal S512x128 .f32) (p : FVec Ideal S512x1536 .f32) (g : FVec Ideal S1x128 .f32) (a : Fin 1) (r : Fin 512) (d : Fin 128) :
    k0_pay18 c1 c2 c3 p g (ix3 a r d)
      = rk (fun j => c1 (ix2 r j)) (fun j => c2 (ix2 r j)) (fun j => c3 (ix2 r j)) (fun j => p (ix2 r ⟨640 + j.val, by have := j.isLt; omega⟩)) (fun j => g (ix2 0 j)) d * qs := by
  unfold rk headn qs
  pointwise [k0_pay18]

/-- The head at column 512. -/
theorem q4 (c1 c2 c3 : FVec Ideal S512x128 .f32) (p : FVec Ideal S512x1536 .f32) (g : FVec Ideal S1x128 .f32) (a : Fin 1) (r : Fin 512) (d : Fin 128) :
    k0_pay17 (k0_pay16 c1 c2 c3 p g) (ix3 a r d)
      = rk (fun j => c1 (ix2 r j)) (fun j => c2 (ix2 r j)) (fun j => c3 (ix2 r j)) (fun j => p (ix2 r ⟨512 + j.val, by have := j.isLt; omega⟩)) (fun j => g (ix2 0 j)) d * qs := by
  unfold rk headn qs
  pointwise [k0_pay17, k0_pay16]

/-- The head at column 384. -/
theorem q3 (c1 c2 c3 : FVec Ideal S512x128 .f32) (p : FVec Ideal S512x1536 .f32) (g : FVec Ideal S1x128 .f32) (a : Fin 1) (r : Fin 512) (d : Fin 128) :
    k0_pay15 c1 c2 c3 g (k0_pay13 p) (k0_pay14 p) (ix3 a r d)
      = rk (fun j => c1 (ix2 r j)) (fun j => c2 (ix2 r j)) (fun j => c3 (ix2 r j)) (fun j => p (ix2 r ⟨384 + j.val, by have := j.isLt; omega⟩)) (fun j => g (ix2 0 j)) d * qs := by
  unfold rk headn qs
  pointwise [k0_pay15, k0_pay13, k0_pay14]

/-- The head at column 256. -/
theorem q2 (c1 c2 c3 : FVec Ideal S512x128 .f32) (p : FVec Ideal S512x1536 .f32) (g : FVec Ideal S1x128 .f32) (a : Fin 1) (r : Fin 512) (d : Fin 128) :
    k0_pay12 c1 c2 c3 p g (ix3 a r d)
      = rk (fun j => c1 (ix2 r j)) (fun j => c2 (ix2 r j)) (fun j => c3 (ix2 r j)) (fun j => p (ix2 r ⟨256 + j.val, by have := j.isLt; omega⟩)) (fun j => g (ix2 0 j)) d * qs := by
  unfold rk headn qs
  pointwise [k0_pay12]

/-- The head at column 128. -/
theorem q1 (c1 c2 c3 : FVec Ideal S512x128 .f32) (p : FVec Ideal S512x1536 .f32) (g : FVec Ideal S1x128 .f32) (a : Fin 1) (r : Fin 512) (d : Fin 128) :
    k0_pay11 c1 c2 c3 (k0_pay10 p g) (ix3 a r d)
      = rk (fun j => c1 (ix2 r j)) (fun j => c2 (ix2 r j)) (fun j => c3 (ix2 r j)) (fun j => p (ix2 r ⟨128 + j.val, by have := j.isLt; omega⟩)) (fun j => k0_pay7 (F := Ideal) g (ix2 0 j)) d * qs := by
  unfold rk headn qs
  pointwise [k0_pay11, k0_pay10, k0_pay7]

/-- The head at column 0. -/
theorem q0 (c1 c2 c3 : FVec Ideal S512x128 .f32) (p : FVec Ideal S512x1536 .f32) (g : FVec Ideal S1x128 .f32) (a : Fin 1) (r : Fin 512) (d : Fin 128) :
    k0_pay9 c1 c2 c3 p g (ix3 a r d)
      = rk (fun j => c1 (ix2 r j)) (fun j => c2 (ix2 r j)) (fun j => c3 (ix2 r j)) (fun j => p (ix2 r ⟨j.val, by have := j.isLt; omega⟩)) (fun j => k0_pay7 (F := Ideal) g (ix2 0 j)) d * qs := by
  unfold rk headn qs
  pointwise [k0_pay9, k0_pay7]

/-- The head at column 1152. -/
theorem k1 (c1 c2 c3 : FVec Ideal S512x128 .f32) (p : FVec Ideal S512x1536 .f32) (g : FVec Ideal S1x128 .f32) (a : Fin 1) (r : Fin 512) (d : Fin 128) :
    k0_pay1 (k0_pay25 c1 c2 c3 p g) (ix3 a r d)
      = rk (fun j => c1 (ix2 r j)) (fun j => c2 (ix2 r j)) (fun j => c3 (ix2 r j)) (fun j => p (ix2 r ⟨1152 + j.val, by have := j.isLt; omega⟩)) (fun j => g (ix2 0 j)) d := by
  unfold rk headn
  pointwise [k0_pay1, k0_pay25]

/-- The head at column 1024. -/
theorem k0 (c1 c2 c3 : FVec Ideal S512x128 .f32) (p : FVec Ideal S512x1536 .f32) (g : FVec Ideal S1x128 .f32) (a : Fin 1) (r : Fin 512) (d : Fin 128) :
    k0_pay24 c1 c2 c3 g (k0_pay22 p) (k0_pay23 p) (ix3 a r d)
      = rk (fun j => c1 (ix2 r j)) (fun j => c2 (ix2 r j)) (fun j => c3 (ix2 r j)) (fun j => p (ix2 r ⟨1024 + j.val, by have := j.isLt; omega⟩)) (fun j => g (ix2 0 j)) d := by
  unfold rk headn
  pointwise [k0_pay24, k0_pay22, k0_pay23]

/-- The values' columns. -/
theorem v_apply (p : FVec Ideal S512x1536 .f32) (a : Fin 1) (r : Fin 512) (l : Fin 256) :
    k0_pay2 p (ix3 a r l) = p (ix2 r (vc l)) := by
  unfold vc
  pointwise [k0_pay2]

/-- The cosines, read in their block. -/
theorem pay_cos (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (r : Fin 512) (j : Fin 128) :
    k0_pay26 x0 x1 x2 x3 x4 x5 x6 x7 x8 (ix2 r j) = x6 (ix2 r j) := by
  pointwise [k0_pay26, k0_pay3]

/-- The negated sines, read in their block. -/
theorem pay_lo (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (r : Fin 512) (j : Fin 128) :
    k0_pay27 x0 x1 x2 x3 x4 x5 x6 x7 x8 (ix2 r j) = x7 (ix2 r j) := by
  pointwise [k0_pay27, k0_pay4]

/-- The sines, read in their block. -/
theorem pay_hi (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (r : Fin 512) (j : Fin 128) :
    k0_pay28 x0 x1 x2 x3 x4 x5 x6 x7 x8 (ix2 r j) = x8 (ix2 r j) := by
  pointwise [k0_pay28, k0_pay5]

/-- A head's entry depends on the row, the head's columns and the place in the head. -/
theorem head_congr (c1 c2 c3 : FVec Ideal S512x128 .f32) (p : FVec Ideal S512x1536 .f32) (g : Fin 128 → EReal) {r r' : Fin 512} (hr : r = r') {q q' : Fin 128 → Fin 1536} (hq : q = q')
    {d d' : Fin 128} (hd : d = d') :
    rk (fun j => c1 (ix2 r j)) (fun j => c2 (ix2 r j)) (fun j => c3 (ix2 r j)) (fun j => p (ix2 r (q j))) g d = rk (fun j => c1 (ix2 r' j)) (fun j => c2 (ix2 r' j)) (fun j => c3 (ix2 r' j)) (fun j => p (ix2 r' (q' j))) g d' := by
  rw [hr, hq, hd]

/-- What one grid point leaves in the tile of the queries. -/
theorem outq_apply (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (a : Fin 1) (r : Fin 512) (l : Fin 1024) :
    out0_9 x0 x1 x2 x3 x4 x5 x6 x7 x8 (ix3 a r l)
      = rk (fun j => k0_pay26 x0 x1 x2 x3 x4 x5 x6 x7 x8 (ix2 r j)) (fun j => k0_pay27 x0 x1 x2 x3 x4 x5 x6 x7 x8 (ix2 r j)) (fun j => k0_pay28 x0 x1 x2 x3 x4 x5 x6 x7 x8 (ix2 r j)) (fun j => k0_pay29 x0 x1 x2 x3 x4 x5 x6 x7 x8 (ix2 r (qc l j))) (fun j => k0_pay30 x0 x1 x2 x3 x4 x5 x6 x7 x8 (ix2 0 j)) (dq l) * qs := by
  unfold out0_9
  refine View.canon_apply_of_pieces (Val := Elt Ideal) (e := .bf16) (S := S1x512x1024)
    (fun y => rk (fun j => k0_pay26 x0 x1 x2 x3 x4 x5 x6 x7 x8 (ix2 (y 1) j)) (fun j => k0_pay27 x0 x1 x2 x3 x4 x5 x6 x7 x8 (ix2 (y 1) j)) (fun j => k0_pay28 x0 x1 x2 x3 x4 x5 x6 x7 x8 (ix2 (y 1) j)) (fun j => k0_pay29 x0 x1 x2 x3 x4 x5 x6 x7 x8 (ix2 (y 1) (qc (y 2) j))) (fun j => k0_pay30 x0 x1 x2 x3 x4 x5 x6 x7 x8 (ix2 0 j)) (dq (y 2)) * qs) _ ?_ (ix3 a r l) (cover0_9 _ _ _ _ _ _ _ _ (ix3 a r l))
  simp only [List.mem_cons, List.not_mem_nil, or_false]
  rintro z (rfl | rfl | rfl | rfl | rfl | rfl | rfl | rfl) x
  all_goals
    obtain ⟨a, r, d, rfl⟩ : ∃ (a : Fin 1) (r : Fin 512) (d : Fin 128), x = ix3 a r d := ⟨x 0, x 1, x 2, eq_ix3 x⟩
    have eL : ∀ (o : Nat) (L : Fin 1024), L.val = o + 1 * d.val → L.val = o + d.val := fun o L h => by omega
    have eR : ∀ Q : Fin 512, Q.val = 0 + 1 * r.val → r = Q := fun Q h => Fin.ext (by omega)
    dsimp only
  · refine (q7 _ _ _ _ _ a r d).trans ?_
    exact congrArg (· * qs) (head_congr _ _ _ _ _ (eR _ rfl) (qc_eq 896 (by omega) d _ (eL 896 _ rfl) _ fun j => by show _ = _; simp only [Nat.zero_add, Nat.reduceAdd]) (dq_eq 896 (by omega) d _ (eL 896 _ rfl)))
  · refine (q6 _ _ _ _ _ a r d).trans ?_
    exact congrArg (· * qs) (head_congr _ _ _ _ _ (eR _ rfl) (qc_eq 768 (by omega) d _ (eL 768 _ rfl) _ fun j => by show _ = _; simp only [Nat.zero_add, Nat.reduceAdd]) (dq_eq 768 (by omega) d _ (eL 768 _ rfl)))
  · refine (q5 _ _ _ _ _ a r d).trans ?_
    exact congrArg (· * qs) (head_congr _ _ _ _ _ (eR _ rfl) (qc_eq 640 (by omega) d _ (eL 640 _ rfl) _ fun j => by show _ = _; simp only [Nat.zero_add, Nat.reduceAdd]) (dq_eq 640 (by omega) d _ (eL 640 _ rfl)))
  · refine (q4 _ _ _ _ _ a r d).trans ?_
    exact congrArg (· * qs) (head_congr _ _ _ _ _ (eR _ rfl) (qc_eq 512 (by omega) d _ (eL 512 _ rfl) _ fun j => by show _ = _; simp only [Nat.zero_add, Nat.reduceAdd]) (dq_eq 512 (by omega) d _ (eL 512 _ rfl)))
  · refine (q3 _ _ _ _ _ a r d).trans ?_
    exact congrArg (· * qs) (head_congr _ _ _ _ _ (eR _ rfl) (qc_eq 384 (by omega) d _ (eL 384 _ rfl) _ fun j => by show _ = _; simp only [Nat.zero_add, Nat.reduceAdd]) (dq_eq 384 (by omega) d _ (eL 384 _ rfl)))
  · refine (q2 _ _ _ _ _ a r d).trans ?_
    exact congrArg (· * qs) (head_congr _ _ _ _ _ (eR _ rfl) (qc_eq 256 (by omega) d _ (eL 256 _ rfl) _ fun j => by show _ = _; simp only [Nat.zero_add, Nat.reduceAdd]) (dq_eq 256 (by omega) d _ (eL 256 _ rfl)))
  · refine (q1 _ _ _ _ _ a r d).trans ?_
    exact congrArg (· * qs) (head_congr _ _ _ _ _ (eR _ rfl) (qc_eq 128 (by omega) d _ (eL 128 _ rfl) _ fun j => by show _ = _; simp only [Nat.zero_add, Nat.reduceAdd]) (dq_eq 128 (by omega) d _ (eL 128 _ rfl)))
  · refine (q0 _ _ _ _ _ a r d).trans ?_
    exact congrArg (· * qs) (head_congr _ _ _ _ _ (eR _ rfl) (qc_eq 0 (by omega) d _ (eL 0 _ rfl) _ fun j => by show _ = _; simp only [Nat.zero_add, Nat.reduceAdd]) (dq_eq 0 (by omega) d _ (eL 0 _ rfl)))

/-- What one grid point leaves in the tile of the keys. -/
theorem outk_apply (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (a : Fin 1) (r : Fin 512) (l : Fin 256) :
    out0_10 x0 x1 x2 x3 x4 x5 x6 x7 x8 (ix3 a r l)
      = rk (fun j => k0_pay26 x0 x1 x2 x3 x4 x5 x6 x7 x8 (ix2 r j)) (fun j => k0_pay27 x0 x1 x2 x3 x4 x5 x6 x7 x8 (ix2 r j)) (fun j => k0_pay28 x0 x1 x2 x3 x4 x5 x6 x7 x8 (ix2 r j)) (fun j => k0_pay29 x0 x1 x2 x3 x4 x5 x6 x7 x8 (ix2 r (kc l j))) (fun j => k0_pay31 x0 x1 x2 x3 x4 x5 x6 x7 x8 (ix2 0 j)) (dk l) := by
  unfold out0_10
  refine View.canon_apply_of_pieces (Val := Elt Ideal) (e := .bf16) (S := S1x512x256)
    (fun y => rk (fun j => k0_pay26 x0 x1 x2 x3 x4 x5 x6 x7 x8 (ix2 (y 1) j)) (fun j => k0_pay27 x0 x1 x2 x3 x4 x5 x6 x7 x8 (ix2 (y 1) j)) (fun j => k0_pay28 x0 x1 x2 x3 x4 x5 x6 x7 x8 (ix2 (y 1) j)) (fun j => k0_pay29 x0 x1 x2 x3 x4 x5 x6 x7 x8 (ix2 (y 1) (kc (y 2) j))) (fun j => k0_pay31 x0 x1 x2 x3 x4 x5 x6 x7 x8 (ix2 0 j)) (dk (y 2))) _ ?_ (ix3 a r l) (cover0_10 _ _ (ix3 a r l))
  simp only [List.mem_cons, List.not_mem_nil, or_false]
  rintro z (rfl | rfl) x
  all_goals
    obtain ⟨a, r, d, rfl⟩ : ∃ (a : Fin 1) (r : Fin 512) (d : Fin 128), x = ix3 a r d := ⟨x 0, x 1, x 2, eq_ix3 x⟩
    have eL : ∀ (o : Nat) (L : Fin 256), L.val = o + 1 * d.val → L.val = o + d.val := fun o L h => by omega
    have eR : ∀ Q : Fin 512, Q.val = 0 + 1 * r.val → r = Q := fun Q h => Fin.ext (by omega)
    dsimp only
  · refine (k1 _ _ _ _ _ a r d).trans ?_
    exact head_congr _ _ _ _ _ (eR _ rfl) (kc_eq 128 (by omega) d _ (eL 128 _ rfl) _ fun j => by show _ = _; simp only [Nat.zero_add, Nat.reduceAdd]) (dk_eq 128 (by omega) d _ (eL 128 _ rfl))
  · refine (k0 _ _ _ _ _ a r d).trans ?_
    exact head_congr _ _ _ _ _ (eR _ rfl) (kc_eq 0 (by omega) d _ (eL 0 _ rfl) _ fun j => by show _ = _; simp only [Nat.zero_add, Nat.reduceAdd]) (dk_eq 0 (by omega) d _ (eL 0 _ rfl))

/-- What one grid point leaves in the tile of the values. -/
theorem outv_apply (x0 : Vec Ideal S1x512x1024 .f32) (x1 : Vec Ideal S1x3x1024 .f32) (x2 : Vec Ideal S1x1024 .f32) (x3 : Vec Ideal S1024x1536 .bf16) (x4 x5 : Vec Ideal S1x128 .f32) (x6 x7 x8 : Vec Ideal S512x128 .f32) (a : Fin 1) (r : Fin 512) (l : Fin 256) :
    out0_11 x0 x1 x2 x3 x4 x5 x6 x7 x8 (ix3 a r l) = k0_pay29 x0 x1 x2 x3 x4 x5 x6 x7 x8 (ix2 r (vc l)) := by
  unfold out0_11
  rw [View.canon_unit_zero hz3, v_apply]

/-! ## From the tile to the array -/

variable (m : (ℓ : Loc nD τ sig) → Buf (Elt Ideal) ℓ) (ρ : Dev nD → PrngReg)

/-- The batch entry a grid point works on. -/
def tb (t : Fin cfg0.N) : Fin 8 := ⟨t.val / 8, by have : cfg0.N = 64 := N_0; have := t.isLt; omega⟩
/-- The first row of the tile a grid point works on, plus a row of the tile. -/
def tr (t : Fin cfg0.N) (r : Fin 512) : Fin 4096 := ⟨t.val % 8 * 512 + r.val, by have := r.isLt; omega⟩

/-- Where each window stands at a grid point. -/
theorem idx_facts : ∀ t : Fin grid0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val % 8 ∧ win0_6.index t 1 = 0)
    ∧ (win0_7.index t 0 = t.val % 8 ∧ win0_7.index t 1 = 0)
    ∧ (win0_8.index t 0 = t.val % 8 ∧ win0_8.index t 1 = 0)
    ∧ (win0_9.index t 0 = t.val / 8 ∧ win0_9.index t 1 = t.val % 8 ∧ win0_9.index t 2 = 0)
    ∧ (win0_10.index t 0 = t.val / 8 ∧ win0_10.index t 1 = t.val % 8 ∧ win0_10.index t 2 = 0)
    ∧ (win0_11.index t 0 = t.val / 8 ∧ win0_11.index t 1 = t.val % 8 ∧ win0_11.index t 2 = 0) := by
  decide +kernel

/-- The vector argument as the kernel is handed it: laid out as one row. -/
theorem V_main_v35 (c : Dev nD) : V m c main_v35
    = (shapeCast S1x1024 (m ((c : Thread nD τ).loc main_arg2) : Vec Ideal S1024 .f32) shapeCasts_S1024_S1x1024 : Vec Ideal S1x1024 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The vector argument as the kernel is handed it: laid out as one row. -/
theorem V_main_v36 (c : Dev nD) : V m c main_v36
    = (shapeCast S1x128 (m ((c : Thread nD τ).loc main_arg4) : Vec Ideal S128 .f32) shapeCasts_S128_S1x128 : Vec Ideal S1x128 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The vector argument as the kernel is handed it: laid out as one row. -/
theorem V_main_v37 (c : Dev nD) : V m c main_v37
    = (shapeCast S1x128 (m ((c : Thread nD τ).loc main_arg5) : Vec Ideal S128 .f32) shapeCasts_S128_S1x128 : Vec Ideal S1x128 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The tile's block, read in the array. -/
theorem iblk0_apply (c : Dev nD) (t : Fin cfg0.N) (a : Fin 1) (r : Fin 512) (k : Fin 1024) :
    (iblk m c 0 t : Vec Ideal S1x512x1024 .f32) (ix3 a r k) = m ((c : Thread nD τ).loc main_arg0) (ix3 (tb t) (tr t r) k) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val / 8; rw [hi.1]; omega
  | ⟨1, _⟩ => show win0_0.index t 1 * 512 + 1 * r.val = t.val % 8 * 512 + r.val; rw [hi.2.1]; omega
  | ⟨2, _⟩ => show win0_0.index t 2 * 1024 + 1 * k.val = k.val; rw [hi.2.2]; omega

/-- The modulation's block, read in the array. -/
theorem iblk1_apply (c : Dev nD) (t : Fin cfg0.N) (a : Fin 1) (r : Fin 3) (k : Fin 1024) :
    (iblk m c 1 t : Vec Ideal S1x3x1024 .f32) (ix3 a r k) = m ((c : Thread nD τ).loc main_arg1) (ix3 (tb t) r k) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = t.val / 8; rw [hi.1]; omega
  | ⟨1, _⟩ => show win0_1.index t 1 * 3 + 1 * r.val = r.val; rw [hi.2.1]; omega
  | ⟨2, _⟩ => show win0_1.index t 2 * 1024 + 1 * k.val = k.val; rw [hi.2.2]; omega

/-- The weight. -/
theorem iblk3_apply (c : Dev nD) (t : Fin cfg0.N) (r : Fin 1024) (k : Fin 1536) :
    (iblk m c 3 t : Vec Ideal S1024x1536 .bf16) (ix2 r k) = m ((c : Thread nD τ).loc main_arg3) (ix2 r k) := by
  have hi := (idx_facts t).2.2.2.1
  unfold iblk
  rw [View.read_apply]
  show V m c main_arg3 _ = _
  rw [V_main_arg3]
  congr 1
  funext d
  apply Fin.ext
  match d with
  | ⟨0, _⟩ => show win0_3.index t 0 * 1024 + 1 * r.val = r.val; rw [hi.1]; omega
  | ⟨1, _⟩ => show win0_3.index t 1 * 1536 + 1 * k.val = k.val; rw [hi.2]; omega

/-- A vector laid out as one row, read at a column. -/
theorem row1024_apply (v : Vec Ideal S1024 .f32) (k : Fin 1024) :
    (shapeCast S1x1024 v shapeCasts_S1024_S1x1024 : Vec Ideal S1x1024 .f32) (ix2 0 k) = v (ix1 k) := by
  pointwise

/-- A vector laid out as one row, read at a column. -/
theorem row128_apply (v : Vec Ideal S128 .f32) (k : Fin 128) :
    (shapeCast S1x128 v shapeCasts_S128_S1x128 : Vec Ideal S1x128 .f32) (ix2 0 k) = v (ix1 k) := by
  pointwise

/-- The row of a vector argument. -/
theorem iblk2_apply (c : Dev nD) (t : Fin cfg0.N) (r : Fin 1) (k : Fin 1024) :
    (iblk m c 2 t : Vec Ideal S1x1024 .f32) (ix2 r k) = (shapeCast S1x1024 (m ((c : Thread nD τ).loc main_arg2) : Vec Ideal S1024 .f32) shapeCasts_S1024_S1x1024 : Vec Ideal S1x1024 .f32) (ix2 r k) := by
  have hi := (idx_facts t).2.2.1
  unfold iblk
  rw [View.read_apply]
  show V m c main_v35 _ = _
  rw [V_main_v35]
  congr 1
  funext d
  apply Fin.ext
  match d with
  | ⟨0, _⟩ => show win0_2.index t 0 * 1 + 1 * r.val = r.val; rw [hi.1]; omega
  | ⟨1, _⟩ => show win0_2.index t 1 * 1024 + 1 * k.val = k.val; rw [hi.2]; omega

/-- The row's block, read in the argument. -/
theorem iblk2_row (c : Dev nD) (t : Fin cfg0.N) (k : Fin 1024) :
    (iblk m c 2 t : Vec Ideal S1x1024 .f32) (ix2 0 k) = m ((c : Thread nD τ).loc main_arg2) (ix1 k) :=
  (iblk2_apply m c t 0 k).trans (row1024_apply _ k)

/-- The row of a vector argument. -/
theorem iblk4_apply (c : Dev nD) (t : Fin cfg0.N) (r : Fin 1) (k : Fin 128) :
    (iblk m c 4 t : Vec Ideal S1x128 .f32) (ix2 r k) = (shapeCast S1x128 (m ((c : Thread nD τ).loc main_arg4) : Vec Ideal S128 .f32) shapeCasts_S128_S1x128 : Vec Ideal S1x128 .f32) (ix2 r k) := by
  have hi := (idx_facts t).2.2.2.2.1
  unfold iblk
  rw [View.read_apply]
  show V m c main_v36 _ = _
  rw [V_main_v36]
  congr 1
  funext d
  apply Fin.ext
  match d with
  | ⟨0, _⟩ => show win0_4.index t 0 * 1 + 1 * r.val = r.val; rw [hi.1]; omega
  | ⟨1, _⟩ => show win0_4.index t 1 * 128 + 1 * k.val = k.val; rw [hi.2]; omega

/-- The row's block, read in the argument. -/
theorem iblk4_row (c : Dev nD) (t : Fin cfg0.N) (k : Fin 128) :
    (iblk m c 4 t : Vec Ideal S1x128 .f32) (ix2 0 k) = m ((c : Thread nD τ).loc main_arg4) (ix1 k) :=
  (iblk4_apply m c t 0 k).trans (row128_apply _ k)

/-- The row of a vector argument. -/
theorem iblk5_apply (c : Dev nD) (t : Fin cfg0.N) (r : Fin 1) (k : Fin 128) :
    (iblk m c 5 t : Vec Ideal S1x128 .f32) (ix2 r k) = (shapeCast S1x128 (m ((c : Thread nD τ).loc main_arg5) : Vec Ideal S128 .f32) shapeCasts_S128_S1x128 : Vec Ideal S1x128 .f32) (ix2 r k) := by
  have hi := (idx_facts t).2.2.2.2.2.1
  unfold iblk
  rw [View.read_apply]
  show V m c main_v37 _ = _
  rw [V_main_v37]
  congr 1
  funext d
  apply Fin.ext
  match d with
  | ⟨0, _⟩ => show win0_5.index t 0 * 1 + 1 * r.val = r.val; rw [hi.1]; omega
  | ⟨1, _⟩ => show win0_5.index t 1 * 128 + 1 * k.val = k.val; rw [hi.2]; omega

/-- The row's block, read in the argument. -/
theorem iblk5_row (c : Dev nD) (t : Fin cfg0.N) (k : Fin 128) :
    (iblk m c 5 t : Vec Ideal S1x128 .f32) (ix2 0 k) = m ((c : Thread nD τ).loc main_arg5) (ix1 k) :=
  (iblk5_apply m c t 0 k).trans (row128_apply _ k)

/-- A table the kernel is handed, as the host program computes it. -/
theorem V_main_v26 (c : Dev nD) : V m c main_v26
    = (side (Host.cos (angs rowI)) (Host.cos (angs rowI)) (Host.cos (angs colI)) (Host.cos (angs colI)) : FVec Ideal S4096x128 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The table's block, read in the table. -/
theorem iblk6_apply (c : Dev nD) (t : Fin cfg0.N) (r : Fin 512) (k : Fin 128) :
    (iblk m c 6 t : Vec Ideal S512x128 .f32) (ix2 r k) = (side (Host.cos (angs rowI)) (Host.cos (angs rowI)) (Host.cos (angs colI)) (Host.cos (angs colI)) : FVec Ideal S4096x128 .f32) (ix2 (tr t r) k) := by
  have hi := (idx_facts t).2.2.2.2.2.2.1
  unfold iblk
  rw [View.read_apply]
  show V m c main_v26 _ = _
  rw [V_main_v26]
  congr 1
  funext d
  apply Fin.ext
  match d with
  | ⟨0, _⟩ => show win0_6.index t 0 * 512 + 1 * r.val = t.val % 8 * 512 + r.val; rw [hi.1]; omega
  | ⟨1, _⟩ => show win0_6.index t 1 * 128 + 1 * k.val = k.val; rw [hi.2]; omega

/-- The table's block at a row of the tile. -/
theorem iblk6_tab (c : Dev nD) (t : Fin cfg0.N) (r : Fin 512) (k : Fin 128) :
    (iblk m c 6 t : Vec Ideal S512x128 .f32) (ix2 r k) = tcos (ang (tr t r)) k :=
  (iblk6_apply m c t r k).trans (cos_tab _ k)

/-- A table the kernel is handed, as the host program computes it. -/
theorem V_main_v31 (c : Dev nD) : V m c main_v31
    = (side (Host.negf (Host.sin (angs rowI))) zers (Host.negf (Host.sin (angs colI))) zers : FVec Ideal S4096x128 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The table's block, read in the table. -/
theorem iblk7_apply (c : Dev nD) (t : Fin cfg0.N) (r : Fin 512) (k : Fin 128) :
    (iblk m c 7 t : Vec Ideal S512x128 .f32) (ix2 r k) = (side (Host.negf (Host.sin (angs rowI))) zers (Host.negf (Host.sin (angs colI))) zers : FVec Ideal S4096x128 .f32) (ix2 (tr t r) k) := by
  have hi := (idx_facts t).2.2.2.2.2.2.2.1
  unfold iblk
  rw [View.read_apply]
  show V m c main_v31 _ = _
  rw [V_main_v31]
  congr 1
  funext d
  apply Fin.ext
  match d with
  | ⟨0, _⟩ => show win0_7.index t 0 * 512 + 1 * r.val = t.val % 8 * 512 + r.val; rw [hi.1]; omega
  | ⟨1, _⟩ => show win0_7.index t 1 * 128 + 1 * k.val = k.val; rw [hi.2]; omega

/-- The table's block at a row of the tile. -/
theorem iblk7_tab (c : Dev nD) (t : Fin cfg0.N) (r : Fin 512) (k : Fin 128) :
    (iblk m c 7 t : Vec Ideal S512x128 .f32) (ix2 r k) = tlo (ang (tr t r)) k :=
  (iblk7_apply m c t r k).trans (lo_tab _ k)

/-- A table the kernel is handed, as the host program computes it. -/
theorem V_main_v34 (c : Dev nD) : V m c main_v34
    = (side zers (Host.sin (angs rowI)) zers (Host.sin (angs colI)) : FVec Ideal S4096x128 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The table's block, read in the table. -/
theorem iblk8_apply (c : Dev nD) (t : Fin cfg0.N) (r : Fin 512) (k : Fin 128) :
    (iblk m c 8 t : Vec Ideal S512x128 .f32) (ix2 r k) = (side zers (Host.sin (angs rowI)) zers (Host.sin (angs colI)) : FVec Ideal S4096x128 .f32) (ix2 (tr t r) k) := by
  have hi := (idx_facts t).2.2.2.2.2.2.2.2.1
  unfold iblk
  rw [View.read_apply]
  show V m c main_v34 _ = _
  rw [V_main_v34]
  congr 1
  funext d
  apply Fin.ext
  match d with
  | ⟨0, _⟩ => show win0_8.index t 0 * 512 + 1 * r.val = t.val % 8 * 512 + r.val; rw [hi.1]; omega
  | ⟨1, _⟩ => show win0_8.index t 1 * 128 + 1 * k.val = k.val; rw [hi.2]; omega

/-- The table's block at a row of the tile. -/
theorem iblk8_tab (c : Dev nD) (t : Fin cfg0.N) (r : Fin 512) (k : Fin 128) :
    (iblk m c 8 t : Vec Ideal S512x128 .f32) (ix2 r k) = thi (ang (tr t r)) k :=
  (iblk8_apply m c t r k).trans (hi_tab _ k)

/-- The array of the queries the programs agree on, in a core's memory. -/
abbrev resq (c : Dev nD) : FVec Ideal S8x4096x1024 .bf16 :=
  Gq (m ((c : Thread nD τ).loc main_arg0)) (m ((c : Thread nD τ).loc main_arg1)) (m ((c : Thread nD τ).loc main_arg2)) (m ((c : Thread nD τ).loc main_arg3)) (m ((c : Thread nD τ).loc main_arg4))

/-- What a grid point writes back of the queries is its block of the function. -/
theorem flushed_eq_q (c : Dev nD) (t : Fin cfg0.N) :
    (dats m 0 c).flushed 9 t = (win0_9.blk t).view.read (Elt Ideal) (resq m c) := by
  rw [Value.flushed9]
  funext i
  obtain ⟨a, r, k, rfl⟩ : ∃ (a : Fin 1) (r : Fin 512) (k : Fin 1024), i = ix3 a r k := ⟨i 0, i 1, i 2, eq_ix3 i⟩
  have hi := (idx_facts t).2.2.2.2.2.2.2.2.2.1
  refine (outq_apply _ _ _ _ _ _ _ _ _ a r k).trans ?_
  rw [View.read_apply]
  have e : (win0_9.blk t).view.emb (ix3 a r k) = ix3 (tb t) (tr t r) k := by
    funext d
    apply Fin.ext
    match d with
    | ⟨0, _⟩ => show win0_9.index t 0 * 1 + 1 * a.val = t.val / 8; rw [hi.1]; omega
    | ⟨1, _⟩ => show win0_9.index t 1 * 512 + 1 * r.val = t.val % 8 * 512 + r.val; rw [hi.2.1]; omega
    | ⟨2, _⟩ => show win0_9.index t 2 * 1024 + 1 * k.val = k.val; rw [hi.2.2]; omega
  rw [e]
  simp only [pay_proj, iblk0_apply, iblk1_apply, iblk2_row, iblk3_apply, pay_qg, iblk4_row, pay_cos, pay_lo, pay_hi, iblk6_tab, iblk7_tab, iblk8_tab]
  rw [rk_eq]
  rfl

/-- The blocks of the queries, by their rows. -/
theorem mem_blk_q (t : Fin cfg0.N) (i : S8x4096x1024.Idx) :
    i ∈ ((cfg0.win 9).blk t).view.set
      ↔ (i 0 : Nat) = t.val / 8 ∧ t.val % 8 * 512 ≤ (i 1 : Nat) ∧ (i 1 : Nat) < t.val % 8 * 512 + 512 := by
  show i ∈ ((View.whole main_v38_0).slice (win0_9.rect t)).set ↔ _
  have hi := (idx_facts t).2.2.2.2.2.2.2.2.2.1
  have h2 : (i 2 : Nat) < 1024 := (i 2).isLt
  rw [View.set_slice_whole, Rect.mem_set_unit]
  refine ⟨fun h => ?_, fun h a => ?_⟩
  · have a0 : win0_9.index t 0 * 1 ≤ (i 0 : Nat) ∧ (i 0 : Nat) < win0_9.index t 0 * 1 + 1 := h 0
    have a1 : win0_9.index t 1 * 512 ≤ (i 1 : Nat) ∧ (i 1 : Nat) < win0_9.index t 1 * 512 + 512 := h 1
    rw [hi.1] at a0
    rw [hi.2.1] at a1
    omega
  · match a with
    | ⟨0, _⟩ => show win0_9.index t 0 * 1 ≤ (i 0 : Nat) ∧ (i 0 : Nat) < win0_9.index t 0 * 1 + 1; rw [hi.1]; omega
    | ⟨1, _⟩ => show win0_9.index t 1 * 512 ≤ (i 1 : Nat) ∧ (i 1 : Nat) < win0_9.index t 1 * 512 + 512; rw [hi.2.1]; omega
    | ⟨2, _⟩ => show win0_9.index t 2 * 1024 ≤ (i 2 : Nat) ∧ (i 2 : Nat) < win0_9.index t 2 * 1024 + 1024; rw [hi.2.2]; omega

/-- Every index of the queries lies in the block of a grid point that writes it back. -/
theorem cover_q (i : S8x4096x1024.Idx) :
    ∃ t : Fin cfg0.N, (cfg0.win 9).flush t = true ∧ i ∈ ((cfg0.win 9).blk t).view.set := by
  have h0 : (i 0 : Nat) < 8 := (i 0).isLt
  have h1 : (i 1 : Nat) < 4096 := (i 1).isLt
  have hN : cfg0.N = 64 := N_0
  refine ⟨⟨(i 0).val * 8 + (i 1).val / 512, by omega⟩, flush0_9 _, ?_⟩
  rw [mem_blk_q]
  dsimp only
  omega

/-- The array of the queries after the run. -/
theorem final_q (c : Dev nD) : (dats m 0 c).arrAt 9 cfg0.N = resq m c :=
  Dat.arrAt_eq_of_cover (dats m 0 c) 9 (resq m c) (fun t _ => flushed_eq_q m c t) cover_q

/-- The array of the keys the programs agree on, in a core's memory. -/
abbrev resk (c : Dev nD) : FVec Ideal S8x4096x256 .bf16 :=
  Gk (m ((c : Thread nD τ).loc main_arg0)) (m ((c : Thread nD τ).loc main_arg1)) (m ((c : Thread nD τ).loc main_arg2)) (m ((c : Thread nD τ).loc main_arg3)) (m ((c : Thread nD τ).loc main_arg5))

/-- What a grid point writes back of the keys is its block of the function. -/
theorem flushed_eq_k (c : Dev nD) (t : Fin cfg0.N) :
    (dats m 0 c).flushed 10 t = (win0_10.blk t).view.read (Elt Ideal) (resk m c) := by
  rw [Value.flushed10]
  funext i
  obtain ⟨a, r, k, rfl⟩ : ∃ (a : Fin 1) (r : Fin 512) (k : Fin 256), i = ix3 a r k := ⟨i 0, i 1, i 2, eq_ix3 i⟩
  have hi := (idx_facts t).2.2.2.2.2.2.2.2.2.2.1
  refine (outk_apply _ _ _ _ _ _ _ _ _ a r k).trans ?_
  rw [View.read_apply]
  have e : (win0_10.blk t).view.emb (ix3 a r k) = ix3 (tb t) (tr t r) k := by
    funext d
    apply Fin.ext
    match d with
    | ⟨0, _⟩ => show win0_10.index t 0 * 1 + 1 * a.val = t.val / 8; rw [hi.1]; omega
    | ⟨1, _⟩ => show win0_10.index t 1 * 512 + 1 * r.val = t.val % 8 * 512 + r.val; rw [hi.2.1]; omega
    | ⟨2, _⟩ => show win0_10.index t 2 * 256 + 1 * k.val = k.val; rw [hi.2.2]; omega
  rw [e]
  simp only [pay_proj, iblk0_apply, iblk1_apply, iblk2_row, iblk3_apply, pay_kg, iblk5_row, pay_cos, pay_lo, pay_hi, iblk6_tab, iblk7_tab, iblk8_tab]
  rw [rk_eq]
  rfl

/-- The blocks of the keys, by their rows. -/
theorem mem_blk_k (t : Fin cfg0.N) (i : S8x4096x256.Idx) :
    i ∈ ((cfg0.win 10).blk t).view.set
      ↔ (i 0 : Nat) = t.val / 8 ∧ t.val % 8 * 512 ≤ (i 1 : Nat) ∧ (i 1 : Nat) < t.val % 8 * 512 + 512 := by
  show i ∈ ((View.whole main_v38_1).slice (win0_10.rect t)).set ↔ _
  have hi := (idx_facts t).2.2.2.2.2.2.2.2.2.2.1
  have h2 : (i 2 : Nat) < 256 := (i 2).isLt
  rw [View.set_slice_whole, Rect.mem_set_unit]
  refine ⟨fun h => ?_, fun h a => ?_⟩
  · have a0 : win0_10.index t 0 * 1 ≤ (i 0 : Nat) ∧ (i 0 : Nat) < win0_10.index t 0 * 1 + 1 := h 0
    have a1 : win0_10.index t 1 * 512 ≤ (i 1 : Nat) ∧ (i 1 : Nat) < win0_10.index t 1 * 512 + 512 := h 1
    rw [hi.1] at a0
    rw [hi.2.1] at a1
    omega
  · match a with
    | ⟨0, _⟩ => show win0_10.index t 0 * 1 ≤ (i 0 : Nat) ∧ (i 0 : Nat) < win0_10.index t 0 * 1 + 1; rw [hi.1]; omega
    | ⟨1, _⟩ => show win0_10.index t 1 * 512 ≤ (i 1 : Nat) ∧ (i 1 : Nat) < win0_10.index t 1 * 512 + 512; rw [hi.2.1]; omega
    | ⟨2, _⟩ => show win0_10.index t 2 * 256 ≤ (i 2 : Nat) ∧ (i 2 : Nat) < win0_10.index t 2 * 256 + 256; rw [hi.2.2]; omega

/-- Every index of the keys lies in the block of a grid point that writes it back. -/
theorem cover_k (i : S8x4096x256.Idx) :
    ∃ t : Fin cfg0.N, (cfg0.win 10).flush t = true ∧ i ∈ ((cfg0.win 10).blk t).view.set := by
  have h0 : (i 0 : Nat) < 8 := (i 0).isLt
  have h1 : (i 1 : Nat) < 4096 := (i 1).isLt
  have hN : cfg0.N = 64 := N_0
  refine ⟨⟨(i 0).val * 8 + (i 1).val / 512, by omega⟩, flush0_10 _, ?_⟩
  rw [mem_blk_k]
  dsimp only
  omega

/-- The array of the keys after the run. -/
theorem final_k (c : Dev nD) : (dats m 0 c).arrAt 10 cfg0.N = resk m c :=
  Dat.arrAt_eq_of_cover (dats m 0 c) 10 (resk m c) (fun t _ => flushed_eq_k m c t) cover_k

/-- The array of the values the programs agree on, in a core's memory. -/
abbrev resv (c : Dev nD) : FVec Ideal S8x4096x256 .bf16 :=
  Gv (m ((c : Thread nD τ).loc main_arg0)) (m ((c : Thread nD τ).loc main_arg1)) (m ((c : Thread nD τ).loc main_arg2)) (m ((c : Thread nD τ).loc main_arg3))

/-- What a grid point writes back of the values is its block of the function. -/
theorem flushed_eq_v (c : Dev nD) (t : Fin cfg0.N) :
    (dats m 0 c).flushed 11 t = (win0_11.blk t).view.read (Elt Ideal) (resv m c) := by
  rw [Value.flushed11]
  funext i
  obtain ⟨a, r, k, rfl⟩ : ∃ (a : Fin 1) (r : Fin 512) (k : Fin 256), i = ix3 a r k := ⟨i 0, i 1, i 2, eq_ix3 i⟩
  have hi := (idx_facts t).2.2.2.2.2.2.2.2.2.2.2
  refine (outv_apply _ _ _ _ _ _ _ _ _ a r k).trans ?_
  rw [View.read_apply]
  have e : (win0_11.blk t).view.emb (ix3 a r k) = ix3 (tb t) (tr t r) k := by
    funext d
    apply Fin.ext
    match d with
    | ⟨0, _⟩ => show win0_11.index t 0 * 1 + 1 * a.val = t.val / 8; rw [hi.1]; omega
    | ⟨1, _⟩ => show win0_11.index t 1 * 512 + 1 * r.val = t.val % 8 * 512 + r.val; rw [hi.2.1]; omega
    | ⟨2, _⟩ => show win0_11.index t 2 * 256 + 1 * k.val = k.val; rw [hi.2.2]; omega
  rw [e]
  simp only [pay_proj, iblk0_apply, iblk1_apply, iblk2_row, iblk3_apply]
  rfl

/-- The blocks of the values, by their rows. -/
theorem mem_blk_v (t : Fin cfg0.N) (i : S8x4096x256.Idx) :
    i ∈ ((cfg0.win 11).blk t).view.set
      ↔ (i 0 : Nat) = t.val / 8 ∧ t.val % 8 * 512 ≤ (i 1 : Nat) ∧ (i 1 : Nat) < t.val % 8 * 512 + 512 := by
  show i ∈ ((View.whole main_v38_2).slice (win0_11.rect t)).set ↔ _
  have hi := (idx_facts t).2.2.2.2.2.2.2.2.2.2.2
  have h2 : (i 2 : Nat) < 256 := (i 2).isLt
  rw [View.set_slice_whole, Rect.mem_set_unit]
  refine ⟨fun h => ?_, fun h a => ?_⟩
  · have a0 : win0_11.index t 0 * 1 ≤ (i 0 : Nat) ∧ (i 0 : Nat) < win0_11.index t 0 * 1 + 1 := h 0
    have a1 : win0_11.index t 1 * 512 ≤ (i 1 : Nat) ∧ (i 1 : Nat) < win0_11.index t 1 * 512 + 512 := h 1
    rw [hi.1] at a0
    rw [hi.2.1] at a1
    omega
  · match a with
    | ⟨0, _⟩ => show win0_11.index t 0 * 1 ≤ (i 0 : Nat) ∧ (i 0 : Nat) < win0_11.index t 0 * 1 + 1; rw [hi.1]; omega
    | ⟨1, _⟩ => show win0_11.index t 1 * 512 ≤ (i 1 : Nat) ∧ (i 1 : Nat) < win0_11.index t 1 * 512 + 512; rw [hi.2.1]; omega
    | ⟨2, _⟩ => show win0_11.index t 2 * 256 ≤ (i 2 : Nat) ∧ (i 2 : Nat) < win0_11.index t 2 * 256 + 256; rw [hi.2.2]; omega

/-- Every index of the values lies in the block of a grid point that writes it back. -/
theorem cover_v (i : S8x4096x256.Idx) :
    ∃ t : Fin cfg0.N, (cfg0.win 11).flush t = true ∧ i ∈ ((cfg0.win 11).blk t).view.set := by
  have h0 : (i 0 : Nat) < 8 := (i 0).isLt
  have h1 : (i 1 : Nat) < 4096 := (i 1).isLt
  have hN : cfg0.N = 64 := N_0
  refine ⟨⟨(i 0).val * 8 + (i 1).val / 512, by omega⟩, flush0_11 _, ?_⟩
  rw [mem_blk_v]
  dsimp only
  omega

/-- The array of the values after the run. -/
theorem final_v (c : Dev nD) : (dats m 0 c).arrAt 11 cfg0.N = resv m c :=
  Dat.arrAt_eq_of_cover (dats m 0 c) 11 (resv m c) (fun t _ => flushed_eq_v m c t) cover_v

end Cert.QkvIdeal.RefValue

end
-- ==== Proof.QkvRead.lean ====
/-
  The query, key and value projection of the latent stream: what the reference computes.
-/
module

public import proofs.«01_k».proof.Defs
public import proofs.«01_k».proof.Proof.QkvRope
public import Idealize.ShloMosaic.Lib.ValueIdxRank6
public import proofs.«01_k».proof.Proof.Gen.QkvIdeal.Frame
public import proofs.«01_k».proof.Proof.Gen.QkvIdeal.Value
public import proofs.«01_k».proof.Proof.Gen.QkvRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! ## The reference -/

namespace Cert.QkvRefIdeal.RefValue

open Cert.QkvRefIdeal Cert.QkvRefIdeal.Read
open Cert.FfnIdeal.RefValue (rms hid proj)
open Cert.QkvIdeal.RefValue (PP freq ang roped rot ax fr)
open Cert.Heads

variable (x0 : FVec Ideal S8x4096x1024 .f32) (x1 : FVec Ideal S8x3x1024 .f32) (x2 : FVec Ideal S1024 .f32)
  (x3 : FVec Ideal S1024x1536 .bf16) (x4 x5 : FVec Ideal S128 .f32)

/-- The reference's hidden rows. -/
theorem ref_hid (b : Fin 8) (r : Fin 4096) (k : Fin 1024) :
    val_main_v20 (F := Ideal) x0 x1 x2 (ix3 b r k)
      = hid (fun k => x0 (ix3 b r k)) (fun k => x2 (ix1 k)) (fun k => x1 (ix3 b 1 k)) (fun k => x1 (ix3 b 0 k)) k := by
  unfold hid rms
  rw [← mul_assoc]
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The reference's projection. -/
theorem ref_proj (b : Fin 8) (r : Fin 4096) (f : Fin 1536) :
    val_main_v22 (F := Ideal) x0 x1 x2 x3 (ix3 b r f) = PP x0 x1 x2 x3 b r f := by
  unfold val_main_v22 PP proj
  simp only [← ref_hid]
  generalize val_main_v20 (F := Ideal) x0 x1 x2 = h
  pointwise [val_main_v21]

/-- The reference's angles. -/
theorem ref_row (r : Fin 4096) (k : Fin 32) : val_main_v47 (F := Ideal) (ix2 r k) = ang r 0 k := by
  unfold ang freq
  rw [if_pos (by rfl)]
  pointwise [val_main_v47, val_main_v46, val_main_v45, val_main_v44, val_main_v43, val_main_v42, val_main_v41, val_main_v40, val_main_v39, val_main_v38, val_main_v37, val_main_v36, val_main_v31, val_main_v30, val_main_v29, val_main_v28, val_main_cst_3, val_main_cst_4]

/-- The reference's angles of the columns. -/
theorem ref_col (r : Fin 4096) (k : Fin 32) : val_main_v53 (F := Ideal) (ix2 r k) = ang r 1 k := by
  unfold ang freq
  rw [if_neg (by decide)]
  pointwise [val_main_v53, val_main_v52, val_main_v51, val_main_v50, val_main_v49, val_main_v48, val_main_v41, val_main_v40, val_main_v39, val_main_v38, val_main_v37, val_main_v36, val_main_v35, val_main_v34, val_main_v33, val_main_v32, val_main_cst_3, val_main_cst_4]

/-- The reference's angles of both axes. -/
theorem ref_ang (r : Fin 4096) (x : Fin 2) (k : Fin 32) : val_main_v57 (F := Ideal) (ix4 r 0 x k) = ang r x k := by
  have e : val_main_v57 (F := Ideal) (ix4 r 0 x k) = if x.val = 0 then val_main_v47 (F := Ideal) (ix2 r k) else val_main_v53 (F := Ideal) (ix2 r k) := by
    unfold val_main_v57 val_main_v56 val_main_v55 val_main_v54
    generalize val_main_v47 (F := Ideal) = p
    generalize val_main_v53 (F := Ideal) = q
    fin_cases x <;> pointwise
  rw [e, ref_row, ref_col]
  fin_cases x <;> rfl

/-- A head of the reference, cut out of the projection. -/
theorem ref_qcut (b : Fin 8) (r : Fin 4096) (h : Fin 8) (d : Fin 128) :
    val_main_v24 (F := Ideal) x0 x1 x2 x3 (ix4 b r h d)
      = val_main_v22 (F := Ideal) x0 x1 x2 x3 (ix3 b r ⟨h.val * 128 + d.val, by have := h.isLt; have := d.isLt; omega⟩) := by
  unfold val_main_v24 val_main_v23
  generalize val_main_v22 (F := Ideal) x0 x1 x2 x3 = p
  pointwise

/-- A head of the reference, normalised. -/
theorem q_norm (b : Fin 8) (r : Fin 4096) (h : Fin 8) (d : Fin 128) :
    val_main_v72 (F := Ideal) x0 x1 x2 x3 x4 (ix4 b r h d)
      = headn (fun j => val_main_v24 (F := Ideal) x0 x1 x2 x3 (ix4 b r h j)) (fun j => x4 (ix1 j)) d := by
  unfold headn
  unfold val_main_v72 val_main_v69 val_main_v68 val_main_v67 val_main_v66 val_main_v64 val_main_v62 val_main_v61 val_main_v60
  generalize val_main_v24 (F := Ideal) x0 x1 x2 x3 = p
  pointwise [val_main_v71, val_main_v70, val_main_v65, val_main_v63, val_main_cst_5, val_main_cst_6, val_main_cst_7]

/-- The first members of a head's pairs. -/
theorem q_fst (b : Fin 8) (r : Fin 4096) (h : Fin 8) (x : Fin 2) (k : Fin 32) :
    val_main_v75 (F := Ideal) x0 x1 x2 x3 x4 (ix5 b r h x k) = val_main_v72 (F := Ideal) x0 x1 x2 x3 x4 (ix4 b r h ⟨x.val * 64 + 0 + k.val, by have := x.isLt; have := k.isLt; omega⟩) := by
  unfold val_main_v75 val_main_v74 val_main_v73
  generalize val_main_v72 (F := Ideal) x0 x1 x2 x3 x4 = p
  pointwise

/-- The second members of a head's pairs. -/
theorem q_snd (b : Fin 8) (r : Fin 4096) (h : Fin 8) (x : Fin 2) (k : Fin 32) :
    val_main_v77 (F := Ideal) x0 x1 x2 x3 x4 (ix5 b r h x k) = val_main_v72 (F := Ideal) x0 x1 x2 x3 x4 (ix4 b r h ⟨x.val * 64 + 32 + k.val, by have := x.isLt; have := k.isLt; omega⟩) := by
  unfold val_main_v77 val_main_v76 val_main_v73
  generalize val_main_v72 (F := Ideal) x0 x1 x2 x3 x4 = p
  pointwise

/-- The turned first members. -/
theorem q_dif (b : Fin 8) (r : Fin 4096) (h : Fin 8) (x : Fin 2) (k : Fin 32) :
    val_main_v84 (F := Ideal) x0 x1 x2 x3 x4 (ix5 b r h x k) = val_main_v75 (F := Ideal) x0 x1 x2 x3 x4 (ix5 b r h x k) * Ideal.cos (ang r x k) - val_main_v77 (F := Ideal) x0 x1 x2 x3 x4 (ix5 b r h x k) * Ideal.sin (ang r x k) := by
  rw [← ref_ang]
  unfold val_main_v84 val_main_v80 val_main_v83 val_main_v79 val_main_v78 val_main_v82 val_main_v81 val_main_v58 val_main_v59
  generalize val_main_v75 (F := Ideal) x0 x1 x2 x3 x4 = p
  generalize val_main_v77 (F := Ideal) x0 x1 x2 x3 x4 = q
  generalize val_main_v57 (F := Ideal) = z
  pointwise

/-- The turned second members. -/
theorem q_sum (b : Fin 8) (r : Fin 4096) (h : Fin 8) (x : Fin 2) (k : Fin 32) :
    val_main_v91 (F := Ideal) x0 x1 x2 x3 x4 (ix5 b r h x k) = val_main_v77 (F := Ideal) x0 x1 x2 x3 x4 (ix5 b r h x k) * Ideal.cos (ang r x k) + val_main_v75 (F := Ideal) x0 x1 x2 x3 x4 (ix5 b r h x k) * Ideal.sin (ang r x k) := by
  rw [← ref_ang]
  unfold val_main_v91 val_main_v87 val_main_v90 val_main_v86 val_main_v85 val_main_v89 val_main_v88 val_main_v58 val_main_v59
  generalize val_main_v75 (F := Ideal) x0 x1 x2 x3 x4 = p
  generalize val_main_v77 (F := Ideal) x0 x1 x2 x3 x4 = q
  generalize val_main_v57 (F := Ideal) = z
  pointwise

/-- The members put together again, by which member of a pair it is. -/
theorem q_mem (b : Fin 8) (r : Fin 4096) (h : Fin 8) (x s : Fin 2) (k : Fin 32) :
    val_main_v94 (F := Ideal) x0 x1 x2 x3 x4 (ix6 b r h x s k) = if s.val = 0 then val_main_v84 (F := Ideal) x0 x1 x2 x3 x4 (ix5 b r h x k) else val_main_v91 (F := Ideal) x0 x1 x2 x3 x4 (ix5 b r h x k) := by
  unfold val_main_v94 val_main_v92 val_main_v93
  generalize val_main_v84 (F := Ideal) x0 x1 x2 x3 x4 = p
  generalize val_main_v91 (F := Ideal) x0 x1 x2 x3 x4 = q
  fin_cases s <;> pointwise

/-- The members put together again. -/
theorem q_cat (b : Fin 8) (r : Fin 4096) (h : Fin 8) (d : Fin 128) :
    val_main_v95 (F := Ideal) x0 x1 x2 x3 x4 (ix4 b r h d) = if d.val % 64 < 32 then val_main_v84 (F := Ideal) x0 x1 x2 x3 x4 (ix5 b r h (ax d) (fr d)) else val_main_v91 (F := Ideal) x0 x1 x2 x3 x4 (ix5 b r h (ax d) (fr d)) := by
  have hd := d.isLt
  have e : val_main_v95 (F := Ideal) x0 x1 x2 x3 x4 (ix4 b r h d) = val_main_v94 (F := Ideal) x0 x1 x2 x3 x4 (ix6 b r h (ax d) ⟨d.val / 32 % 2, by omega⟩ (fr d)) := by
    unfold val_main_v95 ax fr
    generalize val_main_v94 (F := Ideal) x0 x1 x2 x3 x4 = p
    pointwise
  rw [e, q_mem]
  dsimp only
  by_cases hc : d.val % 64 < 32
  · rw [if_pos hc, if_pos (by omega)]
  · rw [if_neg hc, if_neg (by omega)]

/-- A head of the reference, turned. -/
theorem q_rot (b : Fin 8) (r : Fin 4096) (h : Fin 8) (d : Fin 128) :
    val_main_v95 (F := Ideal) x0 x1 x2 x3 x4 (ix4 b r h d) = rot (fun j => val_main_v72 (F := Ideal) x0 x1 x2 x3 x4 (ix4 b r h j)) (ang r) d := by
  have hd := d.isLt
  rw [q_cat, q_dif, q_sum]
  simp only [q_fst, q_snd]
  unfold rot
  have h1 : d.val % 64 < 32 → (⟨(ax d).val * 64 + 0 + (fr d).val, by have := (ax d).isLt; have := (fr d).isLt; omega⟩ : Fin 128) = d := fun hc =>
    Fin.ext (by show d.val / 64 * 64 + 0 + d.val % 32 = d.val; omega)
  have h2 : ∀ hc : d.val % 64 < 32, (⟨(ax d).val * 64 + 32 + (fr d).val, by have := (ax d).isLt; have := (fr d).isLt; omega⟩ : Fin 128) = ⟨d.val + 32, by omega⟩ := fun hc =>
    Fin.ext (by show d.val / 64 * 64 + 32 + d.val % 32 = d.val + 32; omega)
  have h3 : ¬ d.val % 64 < 32 → (⟨(ax d).val * 64 + 32 + (fr d).val, by have := (ax d).isLt; have := (fr d).isLt; omega⟩ : Fin 128) = d := fun hc =>
    Fin.ext (by show d.val / 64 * 64 + 32 + d.val % 32 = d.val; omega)
  have h4 : ¬ d.val % 64 < 32 → (⟨(ax d).val * 64 + 0 + (fr d).val, by have := (ax d).isLt; have := (fr d).isLt; omega⟩ : Fin 128) = ⟨d.val - 32, by omega⟩ := fun hc =>
    Fin.ext (by show d.val / 64 * 64 + 0 + d.val % 32 = d.val - 32; omega)
  by_cases hc : d.val % 64 < 32
  · rw [if_pos hc, dif_pos hc, h1 hc, h2 hc]
  · rw [if_neg hc, dif_neg hc, h3 hc, h4 hc]

/-- The factor the reference scales the queries by. -/
theorem ref_qs (b : Fin 8) (r : Fin 4096) (h : Fin 8) (d : Fin 128) : val_main_v96 (F := Ideal) (ix4 b r h d) = qs := by
  unfold qs
  pointwise [val_main_v96, val_main_cst_8]

/-- A product of two extended reals, as the reference writes it. -/
theorem mul_apply (a b : Ideal .f32) : FloatOps.mulf a b = (a * b : EReal) := rfl

/-- A query head of the reference, normalised and turned. -/
theorem q_turned (b : Fin 8) (r : Fin 4096) (h : Fin 8) (d : Fin 128) :
    val_main_v95 (F := Ideal) x0 x1 x2 x3 x4 (ix4 b r h d)
      = roped (fun j => val_main_v24 (F := Ideal) x0 x1 x2 x3 (ix4 b r h j)) (fun j => x4 (ix1 j)) (ang r) d := by
  rw [q_rot]
  exact congrArg (fun u => rot u (ang r) d) (funext fun j => q_norm x0 x1 x2 x3 x4 b r h j)

/-- A query head of the reference, normalised, turned and scaled. -/
theorem ref_qhead (b : Fin 8) (r : Fin 4096) (h : Fin 8) (d : Fin 128) :
    val_main_v97 (F := Ideal) x0 x1 x2 x3 x4 (ix4 b r h d)
      = roped (fun j => val_main_v24 (F := Ideal) x0 x1 x2 x3 (ix4 b r h j)) (fun j => x4 (ix1 j)) (ang r) d * qs := by
  rw [val_main_v97_apply, mul_apply, ref_qs, q_turned]

/-- A head of the reference, cut out of the projection. -/
theorem ref_kcut (b : Fin 8) (r : Fin 4096) (h : Fin 2) (d : Fin 128) :
    val_main_v26 (F := Ideal) x0 x1 x2 x3 (ix4 b r h d)
      = val_main_v22 (F := Ideal) x0 x1 x2 x3 (ix3 b r ⟨1024 + (h.val * 128 + d.val), by have := h.isLt; have := d.isLt; omega⟩) := by
  unfold val_main_v26 val_main_v25
  generalize val_main_v22 (F := Ideal) x0 x1 x2 x3 = p
  pointwise

/-- A head of the reference, normalised. -/
theorem k_norm (b : Fin 8) (r : Fin 4096) (h : Fin 2) (d : Fin 128) :
    val_main_v110 (F := Ideal) x0 x1 x2 x3 x5 (ix4 b r h d)
      = headn (fun j => val_main_v26 (F := Ideal) x0 x1 x2 x3 (ix4 b r h j)) (fun j => x5 (ix1 j)) d := by
  unfold headn
  unfold val_main_v110 val_main_v107 val_main_v106 val_main_v105 val_main_v104 val_main_v102 val_main_v100 val_main_v99 val_main_v98
  generalize val_main_v26 (F := Ideal) x0 x1 x2 x3 = p
  pointwise [val_main_v109, val_main_v108, val_main_v103, val_main_v101, val_main_cst_9, val_main_cst_10, val_main_cst_11]

/-- The first members of a head's pairs. -/
theorem k_fst (b : Fin 8) (r : Fin 4096) (h : Fin 2) (x : Fin 2) (k : Fin 32) :
    val_main_v113 (F := Ideal) x0 x1 x2 x3 x5 (ix5 b r h x k) = val_main_v110 (F := Ideal) x0 x1 x2 x3 x5 (ix4 b r h ⟨x.val * 64 + 0 + k.val, by have := x.isLt; have := k.isLt; omega⟩) := by
  unfold val_main_v113 val_main_v112 val_main_v111
  generalize val_main_v110 (F := Ideal) x0 x1 x2 x3 x5 = p
  pointwise

/-- The second members of a head's pairs. -/
theorem k_snd (b : Fin 8) (r : Fin 4096) (h : Fin 2) (x : Fin 2) (k : Fin 32) :
    val_main_v115 (F := Ideal) x0 x1 x2 x3 x5 (ix5 b r h x k) = val_main_v110 (F := Ideal) x0 x1 x2 x3 x5 (ix4 b r h ⟨x.val * 64 + 32 + k.val, by have := x.isLt; have := k.isLt; omega⟩) := by
  unfold val_main_v115 val_main_v114 val_main_v111
  generalize val_main_v110 (F := Ideal) x0 x1 x2 x3 x5 = p
  pointwise

/-- The turned first members. -/
theorem k_dif (b : Fin 8) (r : Fin 4096) (h : Fin 2) (x : Fin 2) (k : Fin 32) :
    val_main_v122 (F := Ideal) x0 x1 x2 x3 x5 (ix5 b r h x k) = val_main_v113 (F := Ideal) x0 x1 x2 x3 x5 (ix5 b r h x k) * Ideal.cos (ang r x k) - val_main_v115 (F := Ideal) x0 x1 x2 x3 x5 (ix5 b r h x k) * Ideal.sin (ang r x k) := by
  rw [← ref_ang]
  unfold val_main_v122 val_main_v118 val_main_v121 val_main_v117 val_main_v116 val_main_v120 val_main_v119 val_main_v58 val_main_v59
  generalize val_main_v113 (F := Ideal) x0 x1 x2 x3 x5 = p
  generalize val_main_v115 (F := Ideal) x0 x1 x2 x3 x5 = q
  generalize val_main_v57 (F := Ideal) = z
  pointwise

/-- The turned second members. -/
theorem k_sum (b : Fin 8) (r : Fin 4096) (h : Fin 2) (x : Fin 2) (k : Fin 32) :
    val_main_v129 (F := Ideal) x0 x1 x2 x3 x5 (ix5 b r h x k) = val_main_v115 (F := Ideal) x0 x1 x2 x3 x5 (ix5 b r h x k) * Ideal.cos (ang r x k) + val_main_v113 (F := Ideal) x0 x1 x2 x3 x5 (ix5 b r h x k) * Ideal.sin (ang r x k) := by
  rw [← ref_ang]
  unfold val_main_v129 val_main_v125 val_main_v128 val_main_v124 val_main_v123 val_main_v127 val_main_v126 val_main_v58 val_main_v59
  generalize val_main_v113 (F := Ideal) x0 x1 x2 x3 x5 = p
  generalize val_main_v115 (F := Ideal) x0 x1 x2 x3 x5 = q
  generalize val_main_v57 (F := Ideal) = z
  pointwise

/-- The members put together again, by which member of a pair it is. -/
theorem k_mem (b : Fin 8) (r : Fin 4096) (h : Fin 2) (x s : Fin 2) (k : Fin 32) :
    val_main_v132 (F := Ideal) x0 x1 x2 x3 x5 (ix6 b r h x s k) = if s.val = 0 then val_main_v122 (F := Ideal) x0 x1 x2 x3 x5 (ix5 b r h x k) else val_main_v129 (F := Ideal) x0 x1 x2 x3 x5 (ix5 b r h x k) := by
  unfold val_main_v132 val_main_v130 val_main_v131
  generalize val_main_v122 (F := Ideal) x0 x1 x2 x3 x5 = p
  generalize val_main_v129 (F := Ideal) x0 x1 x2 x3 x5 = q
  fin_cases s <;> pointwise

/-- The members put together again. -/
theorem k_cat (b : Fin 8) (r : Fin 4096) (h : Fin 2) (d : Fin 128) :
    val_main_v133 (F := Ideal) x0 x1 x2 x3 x5 (ix4 b r h d) = if d.val % 64 < 32 then val_main_v122 (F := Ideal) x0 x1 x2 x3 x5 (ix5 b r h (ax d) (fr d)) else val_main_v129 (F := Ideal) x0 x1 x2 x3 x5 (ix5 b r h (ax d) (fr d)) := by
  have hd := d.isLt
  have e : val_main_v133 (F := Ideal) x0 x1 x2 x3 x5 (ix4 b r h d) = val_main_v132 (F := Ideal) x0 x1 x2 x3 x5 (ix6 b r h (ax d) ⟨d.val / 32 % 2, by omega⟩ (fr d)) := by
    unfold val_main_v133 ax fr
    generalize val_main_v132 (F := Ideal) x0 x1 x2 x3 x5 = p
    pointwise
  rw [e, k_mem]
  dsimp only
  by_cases hc : d.val % 64 < 32
  · rw [if_pos hc, if_pos (by omega)]
  · rw [if_neg hc, if_neg (by omega)]

/-- A head of the reference, turned. -/
theorem k_rot (b : Fin 8) (r : Fin 4096) (h : Fin 2) (d : Fin 128) :
    val_main_v133 (F := Ideal) x0 x1 x2 x3 x5 (ix4 b r h d) = rot (fun j => val_main_v110 (F := Ideal) x0 x1 x2 x3 x5 (ix4 b r h j)) (ang r) d := by
  have hd := d.isLt
  rw [k_cat, k_dif, k_sum]
  simp only [k_fst, k_snd]
  unfold rot
  have h1 : d.val % 64 < 32 → (⟨(ax d).val * 64 + 0 + (fr d).val, by have := (ax d).isLt; have := (fr d).isLt; omega⟩ : Fin 128) = d := fun hc =>
    Fin.ext (by show d.val / 64 * 64 + 0 + d.val % 32 = d.val; omega)
  have h2 : ∀ hc : d.val % 64 < 32, (⟨(ax d).val * 64 + 32 + (fr d).val, by have := (ax d).isLt; have := (fr d).isLt; omega⟩ : Fin 128) = ⟨d.val + 32, by omega⟩ := fun hc =>
    Fin.ext (by show d.val / 64 * 64 + 32 + d.val % 32 = d.val + 32; omega)
  have h3 : ¬ d.val % 64 < 32 → (⟨(ax d).val * 64 + 32 + (fr d).val, by have := (ax d).isLt; have := (fr d).isLt; omega⟩ : Fin 128) = d := fun hc =>
    Fin.ext (by show d.val / 64 * 64 + 32 + d.val % 32 = d.val; omega)
  have h4 : ¬ d.val % 64 < 32 → (⟨(ax d).val * 64 + 0 + (fr d).val, by have := (ax d).isLt; have := (fr d).isLt; omega⟩ : Fin 128) = ⟨d.val - 32, by omega⟩ := fun hc =>
    Fin.ext (by show d.val / 64 * 64 + 0 + d.val % 32 = d.val - 32; omega)
  by_cases hc : d.val % 64 < 32
  · rw [if_pos hc, dif_pos hc, h1 hc, h2 hc]
  · rw [if_neg hc, dif_neg hc, h3 hc, h4 hc]

/-- A key head of the reference, normalised and turned. -/
theorem ref_khead (b : Fin 8) (r : Fin 4096) (h : Fin 2) (d : Fin 128) :
    val_main_v133 (F := Ideal) x0 x1 x2 x3 x5 (ix4 b r h d)
      = roped (fun j => val_main_v26 (F := Ideal) x0 x1 x2 x3 (ix4 b r h j)) (fun j => x5 (ix1 j)) (ang r) d := by
  rw [k_rot]
  exact congrArg (fun u => rot u (ang r) d) (funext fun j => k_norm x0 x1 x2 x3 x5 b r h j)

/-- The queries both programs compute, at an index. -/
theorem Gq_apply (b : Fin 8) (r : Fin 4096) (l : Fin 1024) :
    Cert.QkvIdeal.RefValue.Gq x0 x1 x2 x3 x4 (ix3 b r l)
      = roped (fun j => PP x0 x1 x2 x3 b r (qc l j)) (fun j => x4 (ix1 j)) (ang r) (dq l) * qs := rfl

/-- The head a query column lies in, in the projection. -/
theorem ref_qcols (b : Fin 8) (r : Fin 4096) (l : Fin 1024) :
    roped (fun j => val_main_v24 (F := Ideal) x0 x1 x2 x3 (ix4 b r ⟨l.val / 128, by have := l.isLt; omega⟩ j)) (fun j => x4 (ix1 j)) (ang r) ⟨l.val % 128, by omega⟩
      = roped (fun j => PP x0 x1 x2 x3 b r (qc l j)) (fun j => x4 (ix1 j)) (ang r) (dq l) := by
  simp only [ref_qcut, ref_proj]
  rfl

/-- The reference's queries are the same function of the arguments. -/
theorem ref_q : val_main_v135 (F := Ideal) x0 x1 x2 x3 x4 = Cert.QkvIdeal.RefValue.Gq x0 x1 x2 x3 x4 := by
  funext i
  obtain ⟨b, r, l, rfl⟩ : ∃ (b : Fin 8) (r : Fin 4096) (l : Fin 1024), i = ix3 b r l := ⟨i 0, i 1, i 2, eq_ix3 i⟩
  have hl := l.isLt
  have e : val_main_v135 (F := Ideal) x0 x1 x2 x3 x4 (ix3 b r l)
      = val_main_v97 (F := Ideal) x0 x1 x2 x3 x4 (ix4 b r ⟨l.val / 128, by omega⟩ ⟨l.val % 128, by omega⟩) := by
    unfold val_main_v135 val_main_v134
    generalize val_main_v97 (F := Ideal) x0 x1 x2 x3 x4 = p
    pointwise
  rw [e, ref_qhead, ref_qcols, Gq_apply]

/-- Keys laid out by heads, read back as columns. -/
theorem flat_apply (hs : S8x4096x2x128.ShapeCasts S8x4096x256) (p : FVec Ideal S8x4096x2x128 .f32) (b : Fin 8) (r : Fin 4096) (l : Fin 256) :
    (shapeCast S8x4096x256 p hs : FVec Ideal S8x4096x256 .f32) (ix3 b r l)
      = p (ix4 b r ⟨l.val / 128, by have := l.isLt; omega⟩ ⟨l.val % 128, by omega⟩) := by
  pointwise

/-- Narrowing an extended real changes nothing. -/
theorem trunc_apply (h : FTy.bits .bf16 < FTy.bits .f32) (a : Ideal .f32) : (FloatOps.truncf .bf16 h a : Ideal .bf16) = a := rfl

/-- The reference's keys, by heads. -/
theorem ref_kflat (b : Fin 8) (r : Fin 4096) (l : Fin 256) : val_main_v137 (F := Ideal) x0 x1 x2 x3 x5 (ix3 b r l)
      = val_main_v133 (F := Ideal) x0 x1 x2 x3 x5 (ix4 b r ⟨l.val / 128, by have := l.isLt; omega⟩ ⟨l.val % 128, by omega⟩) := by
  rw [val_main_v137_apply, trunc_apply]
  exact flat_apply _ (val_main_v133 (F := Ideal) x0 x1 x2 x3 x5) b r l

/-- The keys both programs compute, at an index. -/
theorem Gk_apply (b : Fin 8) (r : Fin 4096) (l : Fin 256) :
    Cert.QkvIdeal.RefValue.Gk x0 x1 x2 x3 x5 (ix3 b r l)
      = roped (fun j => PP x0 x1 x2 x3 b r (kc l j)) (fun j => x5 (ix1 j)) (ang r) (dk l) := rfl

/-- The head a key column lies in, in the projection. -/
theorem ref_kcols (b : Fin 8) (r : Fin 4096) (l : Fin 256) :
    roped (fun j => val_main_v26 (F := Ideal) x0 x1 x2 x3 (ix4 b r ⟨l.val / 128, by have := l.isLt; omega⟩ j)) (fun j => x5 (ix1 j)) (ang r) ⟨l.val % 128, by omega⟩
      = roped (fun j => PP x0 x1 x2 x3 b r (kc l j)) (fun j => x5 (ix1 j)) (ang r) (dk l) := by
  simp only [ref_kcut, ref_proj, ← Nat.add_assoc]
  rfl

/-- The reference's keys are the same function of the arguments. -/
theorem ref_k : val_main_v137 (F := Ideal) x0 x1 x2 x3 x5 = Cert.QkvIdeal.RefValue.Gk x0 x1 x2 x3 x5 := by
  funext i
  obtain ⟨b, r, l, rfl⟩ : ∃ (b : Fin 8) (r : Fin 4096) (l : Fin 256), i = ix3 b r l := ⟨i 0, i 1, i 2, eq_ix3 i⟩
  have hl := l.isLt
  rw [ref_kflat, ref_khead, ref_kcols, Gk_apply]

/-- The reference's values are the same function of the arguments. -/
theorem ref_v : val_main_v138 (F := Ideal) x0 x1 x2 x3 = Cert.QkvIdeal.RefValue.Gv x0 x1 x2 x3 := by
  funext i
  obtain ⟨b, r, l, rfl⟩ : ∃ (b : Fin 8) (r : Fin 4096) (l : Fin 256), i = ix3 b r l := ⟨i 0, i 1, i 2, eq_ix3 i⟩
  show _ = PP x0 x1 x2 x3 b r (vc l)
  rw [← ref_proj]
  unfold vc val_main_v138 val_main_v27
  generalize val_main_v22 (F := Ideal) x0 x1 x2 x3 = p
  pointwise

end Cert.QkvRefIdeal.RefValue

end
-- ==== Proof.Qkv.lean ====
/-
  The query, key and value projection of the latent stream: the two programs compute the same
  three arrays.
-/
module

public import proofs.«01_k».proof.Defs
public import proofs.«01_k».proof.Proof.QkvTile
public import proofs.«01_k».proof.Proof.QkvRead
public import proofs.«01_k».proof.Proof.Gen.QkvIdeal.Frame
public import proofs.«01_k».proof.Proof.Gen.QkvIdeal.Value
public import proofs.«01_k».proof.Proof.Gen.QkvRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Proof

/-- The query, key and value projection of the latent stream and its reference compute the same three arrays. -/
theorem algebraic_qkv : Cert.algebraic_QkvIdeal_QkvRefIdeal := by
  intro m ρ m' ρ' _ hagree
  refine ⟨fun c => Cert.QkvIdeal.RefValue.resq m c, fun c => Cert.QkvIdeal.RefValue.resk m c, fun c => Cert.QkvIdeal.RefValue.resv m c, ?_, ?_⟩
  · exact (θ_run Cert.QkvIdeal.defs _ _).mono
      (fun _ h c => ⟨(h c).1.trans (Cert.QkvIdeal.RefValue.final_q m c), (h c).2.1.trans (Cert.QkvIdeal.RefValue.final_k m c),
        (h c).2.2.1.trans (Cert.QkvIdeal.RefValue.final_v m c), (h c).2.2.2⟩)
      (Cert.QkvIdeal.Value.run_blocks (F := Ideal) m ρ)
  · refine (θ_run Cert.QkvRefIdeal.defs _ _).mono
      (fun _ h c => ⟨(h c).1.trans ?_, (h c).2.1.trans ?_, (h c).2.2.1.trans ?_, (h c).2.2.2⟩) (Cert.QkvRefIdeal.Value.run (F := Ideal) m' ρ')
    · rw [Cert.QkvRefIdeal.Read.val_main_v135_eq, Cert.QkvRefIdeal.RefValue.ref_q, (hagree c).1, (hagree c).2.1, (hagree c).2.2.1,
        (hagree c).2.2.2.1, (hagree c).2.2.2.2.1]
    · rw [Cert.QkvRefIdeal.Read.val_main_v137_eq, Cert.QkvRefIdeal.RefValue.ref_k, (hagree c).1, (hagree c).2.1, (hagree c).2.2.1,
        (hagree c).2.2.2.1, (hagree c).2.2.2.2.2]
    · rw [Cert.QkvRefIdeal.Read.val_main_v138_eq, Cert.QkvRefIdeal.RefValue.ref_v, (hagree c).1, (hagree c).2.1, (hagree c).2.2.1,
        (hagree c).2.2.2.1]

end Cert.Proof

end
-- ==== Proof.Oproj.lean ====
/-
  The output projection: what the kernel leaves in its result array, what the reference computes, and that they are
  one function of the arguments.
-/
module

public import proofs.«01_k».proof.Defs
public import proofs.«01_k».proof.Proof.Gen.Oproj.Frame
public import proofs.«01_k».proof.Proof.Gen.OprojIdeal.Frame
public import proofs.«01_k».proof.Proof.Gen.OprojIdeal.Value
public import proofs.«01_k».proof.Proof.Gen.OprojRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.OprojIdeal.RefValue

open Cert.OprojIdeal Cert.OprojIdeal.Gen

variable (m : (ℓ : Loc nD τ sig) → Buf (Elt Ideal) ℓ) (ρ : Dev nD → PrngReg)

/-- One token's projection with its gate and residual: the function both programs compute. -/
def G (x : FVec Ideal S8x4096x1024 .f32) (o : FVec Ideal S8x4096x1024 .bf16) (mod : FVec Ideal S8x3x1024 .f32)
    (w : FVec Ideal S1024x1024 .bf16) : FVec Ideal S8x4096x1024 .f32 := fun i =>
  x i + mod (ix3 (i 0) 2 (i 2)) * ∑ k : Fin 1024, o (ix3 (i 0) (i 1) k) * w (ix2 k (i 2))

/-- The batch entry a grid point works on. -/
def tb (t : Fin cfg0.N) : Fin 8 := ⟨t.val / 8, by have : cfg0.N = 64 := N_0; have := t.isLt; omega⟩
/-- The first row of the tile a grid point works on, plus a row of the tile. -/
def tr (t : Fin cfg0.N) (r : Fin 512) : Fin 4096 := ⟨t.val % 8 * 512 + r.val, by have := r.isLt; omega⟩

/-- Where each window stands at a grid point. -/
theorem idx_facts : ∀ t : Fin grid0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = 0 ∧ win0_2.index t 2 = 0)
    ∧ (win0_3.index t 0 = 0 ∧ win0_3.index t 1 = 0)
    ∧ (win0_4.index t 0 = t.val / 8 ∧ win0_4.index t 1 = t.val % 8 ∧ win0_4.index t 2 = 0) := by
  decide +kernel

/-- The residual's block, read in the array. -/
theorem iblk0_apply (c : Dev nD) (t : Fin cfg0.N) (a : Fin 1) (r : Fin 512) (k : Fin 1024) :
    (iblk m c 0 t : Vec Ideal S1x512x1024 .f32) (ix3 a r k) = m ((c : Thread nD τ).loc main_arg0) (ix3 (tb t) (tr t r) k) := by
  have hi := (idx_facts t).1
  unfold iblk
  rw [View.read_apply]
  show V m c main_arg0 _ = m (c.tc.loc main_arg0) _
  unfold V
  congr 1
  funext d
  apply Fin.ext
  match d with
  | ⟨0, _⟩ => show win0_0.index t 0 * 1 + 1 * a.val = t.val / 8; rw [hi.1]; omega
  | ⟨1, _⟩ => show win0_0.index t 1 * 512 + 1 * r.val = t.val % 8 * 512 + r.val; rw [hi.2.1]; omega
  | ⟨2, _⟩ => show win0_0.index t 2 * 1024 + 1 * k.val = k.val; rw [hi.2.2]; omega

/-- The attention output's block, read in the array. -/
theorem iblk1_apply (c : Dev nD) (t : Fin cfg0.N) (a : Fin 1) (r : Fin 512) (k : Fin 1024) :
    (iblk m c 1 t : Vec Ideal S1x512x1024 .bf16) (ix3 a r k) = m ((c : Thread nD τ).loc main_arg1) (ix3 (tb t) (tr t r) k) := by
  have hi := (idx_facts t).2.1
  unfold iblk
  rw [View.read_apply]
  show V m c main_arg1 _ = m (c.tc.loc main_arg1) _
  unfold V
  congr 1
  funext d
  apply Fin.ext
  match d with
  | ⟨0, _⟩ => show win0_1.index t 0 * 1 + 1 * a.val = t.val / 8; rw [hi.1]; omega
  | ⟨1, _⟩ => show win0_1.index t 1 * 512 + 1 * r.val = t.val % 8 * 512 + r.val; rw [hi.2.1]; omega
  | ⟨2, _⟩ => show win0_1.index t 2 * 1024 + 1 * k.val = k.val; rw [hi.2.2]; omega

/-- The modulation block, read in the array. -/
theorem iblk2_apply (c : Dev nD) (t : Fin cfg0.N) (a : Fin 1) (r : Fin 3) (k : Fin 1024) :
    (iblk m c 2 t : Vec Ideal S1x3x1024 .f32) (ix3 a r k) = m ((c : Thread nD τ).loc main_arg2) (ix3 (tb t) r k) := by
  have hi := (idx_facts t).2.2.1
  unfold iblk
  rw [View.read_apply]
  show V m c main_arg2 _ = m (c.tc.loc main_arg2) _
  unfold V
  congr 1
  funext d
  apply Fin.ext
  match d with
  | ⟨0, _⟩ => show win0_2.index t 0 * 1 + 1 * a.val = t.val / 8; rw [hi.1]; omega
  | ⟨1, _⟩ => show win0_2.index t 1 * 3 + 1 * r.val = r.val; rw [hi.2.1]; omega
  | ⟨2, _⟩ => show win0_2.index t 2 * 1024 + 1 * k.val = k.val; rw [hi.2.2]; omega

/-- The weight's block is the weight. -/
theorem iblk3_apply (c : Dev nD) (t : Fin cfg0.N) (r : Fin 1024) (k : Fin 1024) :
    (iblk m c 3 t : Vec Ideal S1024x1024 .bf16) (ix2 r k) = m ((c : Thread nD τ).loc main_arg3) (ix2 r k) := by
  have hi := (idx_facts t).2.2.2.1
  unfold iblk
  rw [View.read_apply]
  show V m c main_arg3 _ = m (c.tc.loc main_arg3) _
  unfold V
  congr 1
  funext d
  apply Fin.ext
  match d with
  | ⟨0, _⟩ => show win0_3.index t 0 * 1024 + 1 * r.val = r.val; rw [hi.1]; omega
  | ⟨1, _⟩ => show win0_3.index t 1 * 1024 + 1 * k.val = k.val; rw [hi.2]; omega

/-- The stored tile, read at a row and a column. -/
theorem pay_apply (x : Vec Ideal S1x512x1024 .f32) (g : Vec Ideal S1x1x1024 .f32) (o : Vec Ideal S1x512x1024 .bf16)
    (w : Vec Ideal S1024x1024 .bf16) (a : Fin 1) (r : Fin 512) (k : Fin 1024) :
    k0_pay1 x g o w (ix3 a r k) = x (ix3 0 r k) + g (ix3 0 0 k) * ∑ j : Fin 1024, o (ix3 0 r j) * w (ix2 j k) := by
  pointwise [k0_pay1]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- What one grid point leaves in the result's tile, read at a row and a column. -/
theorem out_apply (x0 : Vec Ideal S1x512x1024 .f32) (x1 : Vec Ideal S1x512x1024 .bf16) (x2 : Vec Ideal S1x3x1024 .f32)
    (x3 : Vec Ideal S1024x1024 .bf16) (a : Fin 1) (r : Fin 512) (k : Fin 1024) :
    out0_4 x0 x1 x2 x3 (ix3 a r k) = x0 (ix3 0 r k) + x2 (ix3 0 2 k) * ∑ j : Fin 1024, x1 (ix3 0 r j) * x3 (ix2 j k) := by
  unfold out0_4
  rw [View.canon_unit_zero hz3, View.ld_unit_zero hz3, View.ld_unit_zero hz3, View.ld_unit_zero hz2, pay_apply]
  pointwise

/-- The value the result array is shown to hold. -/
abbrev res (c : Dev nD) : FVec Ideal S8x4096x1024 .f32 :=
  G (m ((c : Thread nD τ).loc main_arg0)) (m ((c : Thread nD τ).loc main_arg1)) (m ((c : Thread nD τ).loc main_arg2))
    (m ((c : Thread nD τ).loc main_arg3))

/-- What a grid point writes back is its block of the whole result. -/
theorem flushed_eq (c : Dev nD) (t : Fin cfg0.N) :
    (dats m 0 c).flushed 4 t = (win0_4.blk t).view.read (Elt Ideal) (res m c) := by
  rw [Value.flushed4]
  funext i
  obtain ⟨a, r, k, rfl⟩ : ∃ (a : Fin 1) (r : Fin 512) (k : Fin 1024), i = ix3 a r k := ⟨i 0, i 1, i 2, eq_ix3 i⟩
  have hi := (idx_facts t).2.2.2.2
  refine (out_apply _ _ _ _ a r k).trans ?_
  rw [View.read_apply]
  have e : (win0_4.blk t).view.emb (ix3 a r k) = ix3 (tb t) (tr t r) k := by
    funext d
    apply Fin.ext
    match d with
    | ⟨0, _⟩ => show win0_4.index t 0 * 1 + 1 * a.val = t.val / 8; rw [hi.1]; omega
    | ⟨1, _⟩ => show win0_4.index t 1 * 512 + 1 * r.val = t.val % 8 * 512 + r.val; rw [hi.2.1]; omega
    | ⟨2, _⟩ => show win0_4.index t 2 * 1024 + 1 * k.val = k.val; rw [hi.2.2]; omega
  rw [e]
  simp only [iblk0_apply, iblk1_apply, iblk2_apply, iblk3_apply]
  rfl

/-- The result's blocks, by their rows. -/
theorem mem_blk (t : Fin cfg0.N) (i : S8x4096x1024.Idx) :
    i ∈ ((cfg0.win 4).blk t).view.set
      ↔ (i 0 : Nat) = t.val / 8 ∧ t.val % 8 * 512 ≤ (i 1 : Nat) ∧ (i 1 : Nat) < t.val % 8 * 512 + 512 := by
  show i ∈ ((View.whole main_v0).slice (win0_4.rect t)).set ↔ _
  have hi := (idx_facts t).2.2.2.2
  have h2 : (i 2 : Nat) < 1024 := (i 2).isLt
  rw [View.set_slice_whole, Rect.mem_set_unit]
  refine ⟨fun h => ?_, fun h a => ?_⟩
  · have a0 : win0_4.index t 0 * 1 ≤ (i 0 : Nat) ∧ (i 0 : Nat) < win0_4.index t 0 * 1 + 1 := h 0
    have a1 : win0_4.index t 1 * 512 ≤ (i 1 : Nat) ∧ (i 1 : Nat) < win0_4.index t 1 * 512 + 512 := h 1
    rw [hi.1] at a0
    rw [hi.2.1] at a1
    omega
  · match a with
    | ⟨0, _⟩ => show win0_4.index t 0 * 1 ≤ (i 0 : Nat) ∧ (i 0 : Nat) < win0_4.index t 0 * 1 + 1; rw [hi.1]; omega
    | ⟨1, _⟩ => show win0_4.index t 1 * 512 ≤ (i 1 : Nat) ∧ (i 1 : Nat) < win0_4.index t 1 * 512 + 512; rw [hi.2.1]; omega
    | ⟨2, _⟩ => show win0_4.index t 2 * 1024 ≤ (i 2 : Nat) ∧ (i 2 : Nat) < win0_4.index t 2 * 1024 + 1024; rw [hi.2.2]; omega

/-- Every index of the result lies in the block of a grid point that writes it back. -/
theorem cover (i : S8x4096x1024.Idx) :
    ∃ t : Fin cfg0.N, (cfg0.win 4).flush t = true ∧ i ∈ ((cfg0.win 4).blk t).view.set := by
  have h0 : (i 0 : Nat) < 8 := (i 0).isLt
  have h1 : (i 1 : Nat) < 4096 := (i 1).isLt
  have hN : cfg0.N = 64 := N_0
  refine ⟨⟨(i 0).val * 8 + (i 1).val / 512, by omega⟩, flush0_4 _, ?_⟩
  rw [mem_blk]
  dsimp only
  omega

/-- The result array after the run. -/
theorem final (c : Dev nD) : (dats m 0 c).arrAt 4 cfg0.N = res m c :=
  Dat.arrAt_eq_of_cover (dats m 0 c) 4 (res m c) (fun t _ => flushed_eq m c t) cover

end Cert.OprojIdeal.RefValue

namespace Cert.OprojRefIdeal.RefValue

open Cert.OprojRefIdeal Cert.OprojRefIdeal.Read

/-- The reference's result is the same function of the arguments. -/
theorem ref_eq (x : FVec Ideal S8x4096x1024 .f32) (o : FVec Ideal S8x4096x1024 .bf16) (mod : FVec Ideal S8x3x1024 .f32)
    (w : FVec Ideal S1024x1024 .bf16) : val_main_v6 (F := Ideal) x o mod w = Cert.OprojIdeal.RefValue.G x o mod w := by
  funext i
  obtain ⟨b, r, k, rfl⟩ : ∃ (b : Fin 8) (r : Fin 4096) (k : Fin 1024), i = ix3 b r k := ⟨i 0, i 1, i 2, eq_ix3 i⟩
  show _ = x (ix3 b r k) + mod (ix3 b 2 k) * ∑ j : Fin 1024, o (ix3 b r j) * w (ix2 j k)
  pointwise [val_main_v6, val_main_v5, val_main_v4, val_main_v3, val_main_v2, val_main_v1, val_main_v0]

end Cert.OprojRefIdeal.RefValue

namespace Cert.Proof

/-- The output projection and its reference compute one array. -/
theorem algebraic_oproj : Cert.algebraic_OprojIdeal_OprojRefIdeal := by
  intro m ρ m' ρ' _ hagree
  refine ⟨fun c => Cert.OprojIdeal.RefValue.res m c, ?_, ?_⟩
  · exact (θ_run Cert.OprojIdeal.defs _ _).mono
      (fun _ h c => ⟨(h c).1.trans (Cert.OprojIdeal.RefValue.final m c), (h c).2⟩)
      (Cert.OprojIdeal.Value.run_blocks (F := Ideal) m ρ)
  · refine (θ_run Cert.OprojRefIdeal.defs _ _).mono
      (fun _ h c => ⟨(h c).1.trans ?_, (h c).2⟩) (Cert.OprojRefIdeal.Value.run (F := Ideal) m' ρ')
    rw [Cert.OprojRefIdeal.Read.val_main_v6_eq, Cert.OprojRefIdeal.RefValue.ref_eq, (hagree c).1, (hagree c).2.1, (hagree c).2.2.1,
      (hagree c).2.2.2]

end Cert.Proof

end
-- ==== Proof.Ada.lean ====
/-
  The modulation table: what the kernel leaves in its result array, what the reference computes, and that they are
  one function of the arguments.
-/
module

public import proofs.«01_k».proof.Defs
public import proofs.«01_k».proof.Proof.Gen.AdaIdeal.Frame
public import proofs.«01_k».proof.Proof.Gen.AdaIdeal.Value
public import proofs.«01_k».proof.Proof.Gen.AdaRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.AdaIdeal.RefValue

open Cert.AdaIdeal Cert.AdaIdeal.Gen

/-- The smooth gate of one number. -/
def silu (a : EReal) : EReal := a * Ideal.div 1 (1 + Ideal.exp (0 - a))

/-- The function of the argument arrays both programs compute. -/
def G (x : FVec Ideal S16x1024 .f32) (w : FVec Ideal S4x1024x9216 .f32) (b : FVec Ideal S4x9216 .f32) :
    FVec Ideal S4x16x9216 .f32 := fun i =>
  (∑ d : Fin 1024, silu (x (ix2 (i 1) d)) * w (ix3 (i 0) d (i 2))) + b (ix2 (i 0) (i 2))

/-! ## The kernel's tile -/

/-- The tile's result at a row and a column. -/
theorem pay1_apply (v0 : Vec Ideal S16x1024 .f32) (v10 : Vec Ideal S1x1024x1024 .f32) (v14 : Vec Ideal S1x1x1024 .f32)
    (a : Fin 1) (r : Fin 16) (k : Fin 1024) :
    k0_pay1 v0 v10 v14 (ix3 a r k) = (∑ d : Fin 1024, silu (v0 (ix2 r d)) * v10 (ix3 0 d k)) + v14 (ix3 0 0 k) := by
  unfold silu
  pointwise [k0_pay1]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- What one grid point leaves in the result's tile, read at a row and a column. -/
theorem out_apply (x0 : Vec Ideal S16x1024 .f32) (x1 : Vec Ideal S1x1024x1024 .f32) (x2 : Vec Ideal S1x1x1024 .f32)
    (a : Fin 1) (r : Fin 16) (k : Fin 1024) :
    out0_3 x0 x1 x2 (ix3 a r k) = (∑ d : Fin 1024, silu (x0 (ix2 r d)) * x1 (ix3 0 d k)) + x2 (ix3 0 0 k) := by
  unfold out0_3
  rw [View.canon_unit_zero hz3, View.ld_unit_zero hz2, View.ld_unit_zero hz3, View.ld_unit_zero hz3, pay1_apply]

/-! ## From the tile to the array -/

variable (m : (ℓ : Loc nD τ sig) → Buf (Elt Ideal) ℓ) (ρ : Dev nD → PrngReg)

/-- The layer a grid point works on. -/
def tb (t : Fin cfg0.N) : Fin 4 := ⟨t.val / 9, by have : cfg0.N = 36 := N_0; have := t.isLt; omega⟩
/-- The first column of the tile a grid point works on, plus a column of the tile. -/
def tl (t : Fin cfg0.N) (k : Fin 1024) : Fin 9216 := ⟨t.val % 9 * 1024 + k.val, by have := k.isLt; omega⟩

/-- Where each window stands at a grid point. -/
theorem idx_facts : ∀ t : Fin grid0.N,
    (win0_0.index t 0 = 0 ∧ win0_0.index t 1 = 0)
    ∧ (win0_1.index t 0 = t.val / 9 ∧ win0_1.index t 1 = 0 ∧ win0_1.index t 2 = t.val % 9)
    ∧ (win0_2.index t 0 = t.val / 9 ∧ win0_2.index t 1 = 0 ∧ win0_2.index t 2 = t.val % 9)
    ∧ (win0_3.index t 0 = t.val / 9 ∧ win0_3.index t 1 = 0 ∧ win0_3.index t 2 = t.val % 9) := by
  decide +kernel

/-- The bias as the kernel is handed it: the argument with an axis of length one inserted. -/
theorem V_main_v0 (c : Dev nD) : V m c main_v0
    = (shapeCast S4x1x9216 (m ((c : Thread nD τ).loc main_arg2) : Vec Ideal S4x9216 .f32) shapeCasts_S4x9216_S4x1x9216 : Vec Ideal S4x1x9216 .f32) := by
  unfold_abbrev_sides
  after_results
  rfl

/-- The conditioning vectors. -/
theorem iblk0_apply (c : Dev nD) (t : Fin cfg0.N) (r : Fin 16) (k : Fin 1024) :
    (iblk m c 0 t : Vec Ideal S16x1024 .f32) (ix2 r k) = m ((c : Thread nD τ).loc main_arg0) (ix2 r k) := by
  have hi := (idx_facts t).1
  unfold iblk
  rw [View.read_apply]
  show V m c main_arg0 _ = _
  rw [V_main_arg0]
  congr 1
  funext d
  apply Fin.ext
  match d with
  | ⟨0, _⟩ => show win0_0.index t 0 * 16 + 1 * r.val = r.val; rw [hi.1]; omega
  | ⟨1, _⟩ => show win0_0.index t 1 * 1024 + 1 * k.val = k.val; rw [hi.2]; omega

/-- The weight's block. -/
theorem iblk1_apply (c : Dev nD) (t : Fin cfg0.N) (a : Fin 1) (r : Fin 1024) (k : Fin 1024) :
    (iblk m c 1 t : Vec Ideal S1x1024x1024 .f32) (ix3 a r k) = m ((c : Thread nD τ).loc main_arg1) (ix3 (tb t) r (tl t k)) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = t.val / 9; rw [hi.1]; omega
  | ⟨1, _⟩ => show win0_1.index t 1 * 1024 + 1 * r.val = r.val; rw [hi.2.1]; omega
  | ⟨2, _⟩ => show win0_1.index t 2 * 1024 + 1 * k.val = t.val % 9 * 1024 + k.val; rw [hi.2.2]; omega

/-- The bias's block. -/
theorem iblk2_apply (c : Dev nD) (t : Fin cfg0.N) (a : Fin 1) (r : Fin 1) (k : Fin 1024) :
    (iblk m c 2 t : Vec Ideal S1x1x1024 .f32) (ix3 a r k) = (shapeCast S4x1x9216 (m ((c : Thread nD τ).loc main_arg2) : Vec Ideal S4x9216 .f32) shapeCasts_S4x9216_S4x1x9216 : Vec Ideal S4x1x9216 .f32) (ix3 (tb t) r (tl t k)) := by
  have hi := (idx_facts t).2.2.1
  unfold iblk
  rw [View.read_apply]
  show V m c main_v0 _ = _
  rw [V_main_v0]
  congr 1
  funext d
  apply Fin.ext
  match d with
  | ⟨0, _⟩ => show win0_2.index t 0 * 1 + 1 * a.val = t.val / 9; rw [hi.1]; omega
  | ⟨1, _⟩ => show win0_2.index t 1 * 1 + 1 * r.val = r.val; rw [hi.2.1]; omega
  | ⟨2, _⟩ => show win0_2.index t 2 * 1024 + 1 * k.val = t.val % 9 * 1024 + k.val; rw [hi.2.2]; omega

/-- An array with an axis of length one inserted, read at an index. -/
theorem bias_apply (v : Vec Ideal S4x9216 .f32) (b : Fin 4) (k : Fin 9216) :
    (shapeCast S4x1x9216 v shapeCasts_S4x9216_S4x1x9216 : Vec Ideal S4x1x9216 .f32) (ix3 b 0 k) = v (ix2 b k) := by
  pointwise

/-- The bias's block, read in the argument. -/
theorem iblk2_row (c : Dev nD) (t : Fin cfg0.N) (k : Fin 1024) :
    (iblk m c 2 t : Vec Ideal S1x1x1024 .f32) (ix3 0 0 k) = m ((c : Thread nD τ).loc main_arg2) (ix2 (tb t) (tl t k)) :=
  (iblk2_apply m c t 0 0 k).trans (bias_apply _ _ _)

/-- The value the result array is shown to hold. -/
abbrev res (c : Dev nD) : FVec Ideal S4x16x9216 .f32 :=
  G (m ((c : Thread nD τ).loc main_arg0)) (m ((c : Thread nD τ).loc main_arg1)) (m ((c : Thread nD τ).loc main_arg2))

/-- What a grid point writes back is its block of the whole result. -/
theorem flushed_eq (c : Dev nD) (t : Fin cfg0.N) :
    (dats m 0 c).flushed 3 t = (win0_3.blk t).view.read (Elt Ideal) (res m c) := by
  rw [Value.flushed3]
  funext i
  obtain ⟨a, r, k, rfl⟩ : ∃ (a : Fin 1) (r : Fin 16) (k : Fin 1024), i = ix3 a r k := ⟨i 0, i 1, i 2, eq_ix3 i⟩
  have hi := (idx_facts t).2.2.2
  refine (out_apply _ _ _ a r k).trans ?_
  rw [View.read_apply]
  have e : (win0_3.blk t).view.emb (ix3 a r k) = ix3 (tb t) r (tl t k) := by
    funext d
    apply Fin.ext
    match d with
    | ⟨0, _⟩ => show win0_3.index t 0 * 1 + 1 * a.val = t.val / 9; rw [hi.1]; omega
    | ⟨1, _⟩ => show win0_3.index t 1 * 16 + 1 * r.val = r.val; rw [hi.2.1]; omega
    | ⟨2, _⟩ => show win0_3.index t 2 * 1024 + 1 * k.val = t.val % 9 * 1024 + k.val; rw [hi.2.2]; omega
  rw [e]
  simp only [iblk0_apply, iblk1_apply, iblk2_row]
  rfl

/-- The result's blocks, by their rows and columns. -/
theorem mem_blk (t : Fin cfg0.N) (i : S4x16x9216.Idx) :
    i ∈ ((cfg0.win 3).blk t).view.set
      ↔ (i 0 : Nat) = t.val / 9 ∧ t.val % 9 * 1024 ≤ (i 2 : Nat) ∧ (i 2 : Nat) < t.val % 9 * 1024 + 1024 := by
  show i ∈ ((View.whole main_v1).slice (win0_3.rect t)).set ↔ _
  have hi := (idx_facts t).2.2.2
  have h1 : (i 1 : Nat) < 16 := (i 1).isLt
  rw [View.set_slice_whole, Rect.mem_set_unit]
  refine ⟨fun h => ?_, fun h a => ?_⟩
  · have a0 : win0_3.index t 0 * 1 ≤ (i 0 : Nat) ∧ (i 0 : Nat) < win0_3.index t 0 * 1 + 1 := h 0
    have a2 : win0_3.index t 2 * 1024 ≤ (i 2 : Nat) ∧ (i 2 : Nat) < win0_3.index t 2 * 1024 + 1024 := h 2
    rw [hi.1] at a0
    rw [hi.2.2] at a2
    omega
  · match a with
    | ⟨0, _⟩ => show win0_3.index t 0 * 1 ≤ (i 0 : Nat) ∧ (i 0 : Nat) < win0_3.index t 0 * 1 + 1; rw [hi.1]; omega
    | ⟨1, _⟩ => show win0_3.index t 1 * 16 ≤ (i 1 : Nat) ∧ (i 1 : Nat) < win0_3.index t 1 * 16 + 16; rw [hi.2.1]; omega
    | ⟨2, _⟩ => show win0_3.index t 2 * 1024 ≤ (i 2 : Nat) ∧ (i 2 : Nat) < win0_3.index t 2 * 1024 + 1024; rw [hi.2.2]; omega

/-- Every index of the result lies in the block of a grid point that writes it back. -/
theorem cover (i : S4x16x9216.Idx) :
    ∃ t : Fin cfg0.N, (cfg0.win 3).flush t = true ∧ i ∈ ((cfg0.win 3).blk t).view.set := by
  have h0 : (i 0 : Nat) < 4 := (i 0).isLt
  have h2 : (i 2 : Nat) < 9216 := (i 2).isLt
  have hN : cfg0.N = 36 := N_0
  refine ⟨⟨(i 0).val * 9 + (i 2).val / 1024, by omega⟩, flush0_3 _, ?_⟩
  rw [mem_blk]
  dsimp only
  omega

/-- The result array after the run. -/
theorem final (c : Dev nD) : (dats m 0 c).arrAt 3 cfg0.N = res m c :=
  Dat.arrAt_eq_of_cover (dats m 0 c) 3 (res m c) (fun t _ => flushed_eq m c t) cover

end Cert.AdaIdeal.RefValue

/-! ## The reference -/

namespace Cert.AdaRefIdeal.RefValue

open Cert.AdaRefIdeal Cert.AdaRefIdeal.Read Cert.AdaIdeal.RefValue

variable (x0 : FVec Ideal S16x1024 .f32) (x1 : FVec Ideal S4x1024x9216 .f32) (x2 : FVec Ideal S4x9216 .f32)

/-- The reference's gated vectors. -/
theorem ref_silu (r : Fin 16) (d : Fin 1024) : val_main_v0 (F := Ideal) x0 (ix2 r d) = silu (x0 (ix2 r d)) := by
  unfold silu
  rw [zero_sub]
  pointwise [val_main_v0, val_main_call0_v5, val_main_call0_v4, val_main_call0_v3, val_main_call0_v2, val_main_call0_v1, val_main_call0_v0,
    val_main_call0_cst, val_main_call0_cst_0]

/-- The reference's result is the same function of the arguments. -/
theorem ref_eq : val_main_v5 (F := Ideal) x0 x1 x2 = Cert.AdaIdeal.RefValue.G x0 x1 x2 := by
  funext i
  obtain ⟨b, r, k, rfl⟩ : ∃ (b : Fin 4) (r : Fin 16) (k : Fin 9216), i = ix3 b r k := ⟨i 0, i 1, i 2, eq_ix3 i⟩
  show _ = (∑ d : Fin 1024, silu (x0 (ix2 r d)) * x1 (ix3 b d k)) + x2 (ix2 b k)
  simp only [← ref_silu, mul_comm (val_main_v0 (F := Ideal) x0 _)]
  unfold val_main_v5 val_main_v2 val_main_v1
  generalize val_main_v0 (F := Ideal) x0 = h
  pointwise [val_main_v4, val_main_v3]

end Cert.AdaRefIdeal.RefValue

namespace Cert.Proof

/-- The modulation kernel and its reference compute one array. -/
theorem algebraic_ada : Cert.algebraic_AdaIdeal_AdaRefIdeal := by
  intro m ρ m' ρ' _ hagree
  refine ⟨fun c => Cert.AdaIdeal.RefValue.res m c, ?_, ?_⟩
  · exact (θ_run Cert.AdaIdeal.defs _ _).mono
      (fun _ h c => ⟨(h c).1.trans (Cert.AdaIdeal.RefValue.final m c), (h c).2⟩)
      (Cert.AdaIdeal.Value.run_blocks (F := Ideal) m ρ)
  · refine (θ_run Cert.AdaRefIdeal.defs _ _).mono
      (fun _ h c => ⟨(h c).1.trans ?_, (h c).2⟩) (Cert.AdaRefIdeal.Value.run (F := Ideal) m' ρ')
    rw [Cert.AdaRefIdeal.Read.val_main_v5_eq, Cert.AdaRefIdeal.RefValue.ref_eq, (hagree c).1, (hagree c).2.1, (hagree c).2.2]

end Cert.Proof

end
-- ==== Proof.FfnMid.lean ====
/-
  The feed-forward layer without the closing normalisation: what the kernel leaves in its result array, what the
  reference computes, and that they are one function of the arguments.
-/
module

public import proofs.«01_k».proof.Defs
public import proofs.«01_k».proof.Proof.Ffn
public import proofs.«01_k».proof.Proof.Gen.FfnMidIdeal.Frame
public import proofs.«01_k».proof.Proof.Gen.FfnMidIdeal.Value
public import proofs.«01_k».proof.Proof.Gen.FfnMidRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfnMidIdeal.RefValue

open Cert.FfnMidIdeal Cert.FfnMidIdeal.Gen

open Cert.FfnIdeal.RefValue (rms hid act proj mid sum_chunks)

/-- The function of the argument arrays both programs compute. -/
def G (x : FVec Ideal S8x4096x1024 .f32) (mod : FVec Ideal S8x3x1024 .f32) (g : FVec Ideal S1024 .f32)
    (wi : FVec Ideal S1024x5632 .bf16) (wo : FVec Ideal S2816x1024 .bf16) :
    FVec Ideal S8x4096x1024 .f32 := fun i =>
  mid (fun k => x (ix3 (i 0) (i 1) k)) (fun k => g (ix1 k)) (fun k => mod (ix3 (i 0) 1 k)) (fun k => mod (ix3 (i 0) 0 k))
    (fun k => mod (ix3 (i 0) 2 k)) (fun j f => wi (ix2 j f)) (fun f k => wo (ix2 f k)) (i 2)

/-! ## The kernel's tile -/

/-- The normalised tile at a row and a column. -/
theorem pay3_apply (v0 : Vec Ideal S1x512x1024 .f32) (v2 : Vec Ideal S1x1024 .f32) (v9 v21 : Vec Ideal S1x1x1024 .f32)
    (r : Fin 512) (k : Fin 1024) :
    k0_pay3 v0 v2 v9 v21 (ix2 r k) = hid (fun j => v0 (ix3 0 r j)) (fun j => v2 (ix2 0 j)) (fun j => v9 (ix3 0 0 j))
      (fun j => v21 (ix3 0 0 j)) k := by
  unfold hid rms
  pointwise [k0_pay3, k0_pay2]

/-- The first two chunks of the hidden layer, projected back. -/
theorem pay7_apply (h : FVec Ideal S512x1024 .bf16) (u v w : FVec Ideal S512x1024 .f32)
    (o1 g2 u2 o2 : Vec Ideal S1024x1024 .bf16) (r : Fin 512) (k : Fin 1024) :
    k0_pay7 h u v w o1 g2 u2 o2 (ix2 r k)
      = (∑ f : Fin 1024, u (ix2 r f) * Ideal.div 1 (w (ix2 r f)) * v (ix2 r f) * o1 (ix2 f k))
        + ∑ f : Fin 1024, act (proj (fun j => h (ix2 r j)) fun j => g2 (ix2 j f)) (proj (fun j => h (ix2 r j)) fun j => u2 (ix2 j f))
            * o2 (ix2 f k) := by
  unfold act proj
  pointwise [k0_pay7]

/-- A projection of the tile's normalised rows by one chunk of a weight. -/
theorem pay4_apply (v0 : Vec Ideal S1x512x1024 .f32) (v2 : Vec Ideal S1x1024 .f32) (v9 v21 : Vec Ideal S1x1x1024 .f32)
    (w : Vec Ideal S1024x1024 .bf16) (r : Fin 512) (f : Fin 1024) :
    k0_pay4 v0 v2 v9 v21 w (ix2 r f) = proj (fun j => k0_pay3 v0 v2 v9 v21 (ix2 r j)) fun j => w (ix2 j f) := by
  unfold proj k0_pay4
  generalize k0_pay3 v0 v2 v9 v21 = h
  pointwise

/-- A projection of the tile's normalised rows by one chunk of the other weight. -/
theorem pay5_apply (v0 : Vec Ideal S1x512x1024 .f32) (v2 : Vec Ideal S1x1024 .f32) (v9 v21 : Vec Ideal S1x1x1024 .f32)
    (w : Vec Ideal S1024x1024 .bf16) (r : Fin 512) (f : Fin 1024) :
    k0_pay5 v0 v2 v9 v21 w (ix2 r f) = proj (fun j => k0_pay3 v0 v2 v9 v21 (ix2 r j)) fun j => w (ix2 j f) := by
  unfold proj k0_pay5
  generalize k0_pay3 v0 v2 v9 v21 = h
  pointwise

/-- The denominator of a chunk's gate. -/
theorem pay6_apply (v0 : Vec Ideal S1x512x1024 .f32) (v2 : Vec Ideal S1x1024 .f32) (v9 v21 : Vec Ideal S1x1x1024 .f32)
    (w : Vec Ideal S1024x1024 .bf16) (r : Fin 512) (f : Fin 1024) :
    k0_pay6 v0 v2 v9 v21 w (ix2 r f) = 1 + Ideal.exp (0 - k0_pay4 v0 v2 v9 v21 w (ix2 r f)) := by
  unfold k0_pay6
  generalize k0_pay4 v0 v2 v9 v21 w = h
  pointwise

/-- The last chunk's first projection. -/
theorem pay8_apply (h : FVec Ideal S512x1024 .bf16) (w : Vec Ideal S1024x768 .bf16) (r : Fin 512) (f : Fin 768) :
    k0_pay8 h w (ix2 r f) = proj (fun j => h (ix2 r j)) fun j => w (ix2 j f) := by
  unfold proj
  pointwise [k0_pay8]

/-- The last chunk's second projection. -/
theorem pay9_apply (h : FVec Ideal S512x1024 .bf16) (w : Vec Ideal S1024x768 .bf16) (r : Fin 512) (f : Fin 768) :
    k0_pay9 h w (ix2 r f) = proj (fun j => h (ix2 r j)) fun j => w (ix2 j f) := by
  unfold proj
  pointwise [k0_pay9]

/-- The last chunk's sigmoid. -/
theorem pay10_apply (h : FVec Ideal S512x1024 .bf16) (w : Vec Ideal S1024x768 .bf16) (r : Fin 512) (f : Fin 768) :
    k0_pay10 h w (ix2 r f) = Ideal.div 1 (1 + Ideal.exp (0 - proj (fun j => h (ix2 r j)) fun j => w (ix2 j f))) := by
  unfold proj
  pointwise [k0_pay10, k0_pay8]

/-- The stored tile at a row and a column. -/
theorem pay1_apply (x acc : FVec Ideal S512x1024 .f32) (ga up si : FVec Ideal S512x768 .f32) (o : Vec Ideal S768x1024 .bf16)
    (gt : Vec Ideal S1x1x1024 .f32) (a : Fin 1) (r : Fin 512) (k : Fin 1024) :
    k0_pay1 x acc ga up si o gt (ix3 a r k)
      = x (ix2 r k) + Ideal.ofBits FTy.f32 0x3F000000#32 * gt (ix3 0 0 k)
          * (acc (ix2 r k) + ∑ f : Fin 768, ga (ix2 r f) * si (ix2 r f) * up (ix2 r f) * o (ix2 f k)) := by
  pointwise [k0_pay1]

/-- The tile's rows without the batch axis. -/
theorem pay2_apply (v0 : Vec Ideal S1x512x1024 .f32) (r : Fin 512) (k : Fin 1024) :
    k0_pay2 v0 (ix2 r k) = v0 (ix3 0 r k) := by
  pointwise [k0_pay2]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- What one grid point leaves in the result's tile, read at a row and a column. -/
theorem out_apply (x0 : Vec Ideal S1x512x1024 .f32) (x1 : Vec Ideal S1x3x1024 .f32) (x2 : Vec Ideal S1x1024 .f32)
    (x3 : Vec Ideal S1024x5632 .bf16) (x4 : Vec Ideal S2816x1024 .bf16) (a : Fin 1) (r : Fin 512) (k : Fin 1024) :
    out0_5 x0 x1 x2 x3 x4 (ix3 a r k)
      = mid (fun k => x0 (ix3 0 r k)) (fun k => x2 (ix2 0 k)) (fun k => x1 (ix3 0 1 k)) (fun k => x1 (ix3 0 0 k))
          (fun k => x1 (ix3 0 2 k)) (fun j f => x3 (ix2 j f)) (fun f k => x4 (ix2 f k)) k := by
  unfold out0_5
  rw [View.canon_unit_zero hz3, pay1_apply]
  unfold mid
  rw [sum_chunks]
  simp only [pay7_apply, pay8_apply, pay9_apply, pay10_apply, pay6_apply, pay4_apply, pay5_apply, pay2_apply, k0_pay11, pay3_apply]
  unfold act
  pointwise
  simp only [← Nat.add_assoc, Nat.reduceAdd]

/-! ## From the tile to the array -/

variable (m : (ℓ : Loc nD τ sig) → Buf (Elt Ideal) ℓ) (ρ : Dev nD → PrngReg)

/-- The batch entry a grid point works on. -/
def tb (t : Fin cfg0.N) : Fin 8 := ⟨t.val / 8, by have : cfg0.N = 64 := N_0; have := t.isLt; omega⟩
/-- The first row of the tile a grid point works on, plus a row of the tile. -/
def tr (t : Fin cfg0.N) (r : Fin 512) : Fin 4096 := ⟨t.val % 8 * 512 + r.val, by have := r.isLt; omega⟩

/-- Where each window stands at a grid point. -/
theorem idx_facts : ∀ t : Fin grid0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val / 8 ∧ win0_5.index t 1 = t.val % 8 ∧ win0_5.index t 2 = 0) := by
  decide +kernel

/-- The gain as the kernel is handed it: the argument laid out as one row. -/
theorem V_main_v0 (c : Dev nD) : V m c main_v0
    = (shapeCast S1x1024 (m ((c : Thread nD τ).loc main_arg2) : Vec Ideal S1024 .f32) shapeCasts_S1024_S1x1024 : Vec Ideal S1x1024 .f32) := by
  unfold_abbrev_sides
  after_results
  rfl

/-- The residual's block, read in the array. -/
theorem iblk0_apply (c : Dev nD) (t : Fin cfg0.N) (a : Fin 1) (r : Fin 512) (k : Fin 1024) :
    (iblk m c 0 t : Vec Ideal S1x512x1024 .f32) (ix3 a r k) = m ((c : Thread nD τ).loc main_arg0) (ix3 (tb t) (tr t r) k) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val / 8; rw [hi.1]; omega
  | ⟨1, _⟩ => show win0_0.index t 1 * 512 + 1 * r.val = t.val % 8 * 512 + r.val; rw [hi.2.1]; omega
  | ⟨2, _⟩ => show win0_0.index t 2 * 1024 + 1 * k.val = k.val; rw [hi.2.2]; omega

/-- The modulation's block, read in the array. -/
theorem iblk1_apply (c : Dev nD) (t : Fin cfg0.N) (a : Fin 1) (r : Fin 3) (k : Fin 1024) :
    (iblk m c 1 t : Vec Ideal S1x3x1024 .f32) (ix3 a r k) = m ((c : Thread nD τ).loc main_arg1) (ix3 (tb t) r k) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = t.val / 8; rw [hi.1]; omega
  | ⟨1, _⟩ => show win0_1.index t 1 * 3 + 1 * r.val = r.val; rw [hi.2.1]; omega
  | ⟨2, _⟩ => show win0_1.index t 2 * 1024 + 1 * k.val = k.val; rw [hi.2.2]; omega

/-- The gain row. -/
theorem iblk2_apply (c : Dev nD) (t : Fin cfg0.N) (r : Fin 1) (k : Fin 1024) :
    (iblk m c 2 t : Vec Ideal S1x1024 .f32) (ix2 r k) = (shapeCast S1x1024 (m ((c : Thread nD τ).loc main_arg2) : Vec Ideal S1024 .f32) shapeCasts_S1024_S1x1024 : Vec Ideal S1x1024 .f32) (ix2 r k) := by
  have hi := (idx_facts t).2.2.1
  unfold iblk
  rw [View.read_apply]
  show V m c main_v0 _ = _
  rw [V_main_v0]
  congr 1
  funext d
  apply Fin.ext
  match d with
  | ⟨0, _⟩ => show win0_2.index t 0 * 1 + 1 * r.val = r.val; rw [hi.1]; omega
  | ⟨1, _⟩ => show win0_2.index t 1 * 1024 + 1 * k.val = k.val; rw [hi.2]; omega

/-- The first weight. -/
theorem iblk3_apply (c : Dev nD) (t : Fin cfg0.N) (r : Fin 1024) (k : Fin 5632) :
    (iblk m c 3 t : Vec Ideal S1024x5632 .bf16) (ix2 r k) = m ((c : Thread nD τ).loc main_arg3) (ix2 r k) := by
  have hi := (idx_facts t).2.2.2.1
  unfold iblk
  rw [View.read_apply]
  show V m c main_arg3 _ = _
  rw [V_main_arg3]
  congr 1
  funext d
  apply Fin.ext
  match d with
  | ⟨0, _⟩ => show win0_3.index t 0 * 1024 + 1 * r.val = r.val; rw [hi.1]; omega
  | ⟨1, _⟩ => show win0_3.index t 1 * 5632 + 1 * k.val = k.val; rw [hi.2]; omega

/-- The second weight. -/
theorem iblk4_apply (c : Dev nD) (t : Fin cfg0.N) (r : Fin 2816) (k : Fin 1024) :
    (iblk m c 4 t : Vec Ideal S2816x1024 .bf16) (ix2 r k) = m ((c : Thread nD τ).loc main_arg4) (ix2 r k) := by
  have hi := (idx_facts t).2.2.2.2.1
  unfold iblk
  rw [View.read_apply]
  show V m c main_arg4 _ = _
  rw [V_main_arg4]
  congr 1
  funext d
  apply Fin.ext
  match d with
  | ⟨0, _⟩ => show win0_4.index t 0 * 2816 + 1 * r.val = r.val; rw [hi.1]; omega
  | ⟨1, _⟩ => show win0_4.index t 1 * 1024 + 1 * k.val = k.val; rw [hi.2]; omega

/-- A vector laid out as one row, read at a column. -/
theorem row_apply (v : Vec Ideal S1024 .f32) (k : Fin 1024) :
    (shapeCast S1x1024 v shapeCasts_S1024_S1x1024 : Vec Ideal S1x1024 .f32) (ix2 0 k) = v (ix1 k) := by
  pointwise

/-- The gain's block, read in the argument. -/
theorem iblk2_row (c : Dev nD) (t : Fin cfg0.N) (k : Fin 1024) :
    (iblk m c 2 t : Vec Ideal S1x1024 .f32) (ix2 0 k) = m ((c : Thread nD τ).loc main_arg2) (ix1 k) :=
  (iblk2_apply m c t 0 k).trans (row_apply _ k)

/-- The value the result array is shown to hold. -/
abbrev res (c : Dev nD) : FVec Ideal S8x4096x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- What a grid point writes back is its block of the whole result. -/
theorem flushed_eq (c : Dev nD) (t : Fin cfg0.N) :
    (dats m 0 c).flushed 5 t = (win0_5.blk t).view.read (Elt Ideal) (res m c) := by
  rw [Value.flushed5]
  funext i
  obtain ⟨a, r, k, rfl⟩ : ∃ (a : Fin 1) (r : Fin 512) (k : Fin 1024), i = ix3 a r k := ⟨i 0, i 1, i 2, eq_ix3 i⟩
  have hi := (idx_facts t).2.2.2.2.2
  refine (out_apply _ _ _ _ _ a r k).trans ?_
  rw [View.read_apply]
  have e : (win0_5.blk t).view.emb (ix3 a r k) = ix3 (tb t) (tr t r) k := by
    funext d
    apply Fin.ext
    match d with
    | ⟨0, _⟩ => show win0_5.index t 0 * 1 + 1 * a.val = t.val / 8; rw [hi.1]; omega
    | ⟨1, _⟩ => show win0_5.index t 1 * 512 + 1 * r.val = t.val % 8 * 512 + r.val; rw [hi.2.1]; omega
    | ⟨2, _⟩ => show win0_5.index t 2 * 1024 + 1 * k.val = k.val; rw [hi.2.2]; omega
  rw [e]
  simp only [iblk0_apply, iblk1_apply, iblk2_row, iblk3_apply, iblk4_apply]
  rfl

/-- The result's blocks, by their rows. -/
theorem mem_blk (t : Fin cfg0.N) (i : S8x4096x1024.Idx) :
    i ∈ ((cfg0.win 5).blk t).view.set
      ↔ (i 0 : Nat) = t.val / 8 ∧ t.val % 8 * 512 ≤ (i 1 : Nat) ∧ (i 1 : Nat) < t.val % 8 * 512 + 512 := by
  show i ∈ ((View.whole main_v1).slice (win0_5.rect t)).set ↔ _
  have hi := (idx_facts t).2.2.2.2.2
  have h2 : (i 2 : Nat) < 1024 := (i 2).isLt
  rw [View.set_slice_whole, Rect.mem_set_unit]
  refine ⟨fun h => ?_, fun h a => ?_⟩
  · have a0 : win0_5.index t 0 * 1 ≤ (i 0 : Nat) ∧ (i 0 : Nat) < win0_5.index t 0 * 1 + 1 := h 0
    have a1 : win0_5.index t 1 * 512 ≤ (i 1 : Nat) ∧ (i 1 : Nat) < win0_5.index t 1 * 512 + 512 := h 1
    rw [hi.1] at a0
    rw [hi.2.1] at a1
    omega
  · match a with
    | ⟨0, _⟩ => show win0_5.index t 0 * 1 ≤ (i 0 : Nat) ∧ (i 0 : Nat) < win0_5.index t 0 * 1 + 1; rw [hi.1]; omega
    | ⟨1, _⟩ => show win0_5.index t 1 * 512 ≤ (i 1 : Nat) ∧ (i 1 : Nat) < win0_5.index t 1 * 512 + 512; rw [hi.2.1]; omega
    | ⟨2, _⟩ => show win0_5.index t 2 * 1024 ≤ (i 2 : Nat) ∧ (i 2 : Nat) < win0_5.index t 2 * 1024 + 1024; rw [hi.2.2]; omega

/-- Every index of the result lies in the block of a grid point that writes it back. -/
theorem cover (i : S8x4096x1024.Idx) :
    ∃ t : Fin cfg0.N, (cfg0.win 5).flush t = true ∧ i ∈ ((cfg0.win 5).blk t).view.set := by
  have h0 : (i 0 : Nat) < 8 := (i 0).isLt
  have h1 : (i 1 : Nat) < 4096 := (i 1).isLt
  have hN : cfg0.N = 64 := N_0
  refine ⟨⟨(i 0).val * 8 + (i 1).val / 512, by omega⟩, flush0_5 _, ?_⟩
  rw [mem_blk]
  dsimp only
  omega

/-- The result array after the run. -/
theorem final (c : Dev nD) : (dats m 0 c).arrAt 5 cfg0.N = res m c :=
  Dat.arrAt_eq_of_cover (dats m 0 c) 5 (res m c) (fun t _ => flushed_eq m c t) cover

end Cert.FfnMidIdeal.RefValue

/-! ## The reference -/

namespace Cert.FfnMidRefIdeal.RefValue

open Cert.FfnMidRefIdeal Cert.FfnMidRefIdeal.Read
open Cert.FfnIdeal.RefValue (rms hid act proj mid)

variable (x0 : FVec Ideal S8x4096x1024 .f32) (x1 : FVec Ideal S8x3x1024 .f32) (x2 : FVec Ideal S1024 .f32)
  (x3 : FVec Ideal S1024x5632 .bf16) (x4 : FVec Ideal S2816x1024 .bf16)

/-- The reference's hidden rows. -/
theorem ref_hid (b : Fin 8) (r : Fin 4096) (k : Fin 1024) :
    val_main_v20 (F := Ideal) x0 x1 x2 (ix3 b r k)
      = hid (fun k => x0 (ix3 b r k)) (fun k => x2 (ix1 k)) (fun k => x1 (ix3 b 1 k)) (fun k => x1 (ix3 b 0 k)) k := by
  unfold hid rms
  rw [← mul_assoc]
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The reference's first projection. -/
theorem ref_proj (b : Fin 8) (r : Fin 4096) (f : Fin 5632) :
    val_main_v26 (F := Ideal) x0 x1 x2 x3 (ix3 b r f)
      = proj (hid (fun k => x0 (ix3 b r k)) (fun k => x2 (ix1 k)) (fun k => x1 (ix3 b 1 k)) (fun k => x1 (ix3 b 0 k)))
          fun j => x3 (ix2 j f) := by
  unfold val_main_v26 proj
  simp only [← ref_hid]
  generalize val_main_v20 (F := Ideal) x0 x1 x2 = h
  pointwise [val_main_v24]

/-- The reference's gated hidden layer. -/
theorem ref_act (b : Fin 8) (r : Fin 4096) (f : Fin 2816) :
    val_main_v30 (F := Ideal) x0 x1 x2 x3 (ix3 b r f)
      = act (val_main_v26 (F := Ideal) x0 x1 x2 x3 (ix3 b r ⟨f.val, by have := f.isLt; omega⟩))
          (val_main_v26 (F := Ideal) x0 x1 x2 x3 (ix3 b r ⟨2816 + f.val, by have := f.isLt; omega⟩)) := by
  unfold act val_main_v30 val_main_v29 val_main_v28 val_main_call0_v5 val_main_call0_v3 val_main_call0_v1 val_main_call0_v0 val_main_v27
  generalize val_main_v26 (F := Ideal) x0 x1 x2 x3 = h
  rw [zero_sub]
  pointwise [val_main_call0_v4, val_main_call0_v2, val_main_call0_cst, val_main_call0_cst_0]

/-- The reference's residual rows. -/
theorem ref_mid (b : Fin 8) (r : Fin 4096) (k : Fin 1024) :
    val_main_v34 (F := Ideal) x0 x1 x2 x3 x4 (ix3 b r k)
      = mid (fun k => x0 (ix3 b r k)) (fun k => x2 (ix1 k)) (fun k => x1 (ix3 b 1 k)) (fun k => x1 (ix3 b 0 k))
          (fun k => x1 (ix3 b 2 k)) (fun j f => x3 (ix2 j f)) (fun f k => x4 (ix2 f k)) k := by
  unfold mid
  simp only [← ref_proj, ← ref_act]
  unfold val_main_v34 val_main_v33 val_main_v31
  generalize val_main_v30 (F := Ideal) x0 x1 x2 x3 = h
  pointwise [val_main_v32, val_main_v25, val_main_v23, val_main_v22, val_main_v21, val_main_cst_3]

/-- The reference's result is the same function of the arguments. -/
theorem ref_eq : val_main_v34 (F := Ideal) x0 x1 x2 x3 x4 = Cert.FfnMidIdeal.RefValue.G x0 x1 x2 x3 x4 := by
  funext i
  obtain ⟨b, r, k, rfl⟩ : ∃ (b : Fin 8) (r : Fin 4096) (k : Fin 1024), i = ix3 b r k := ⟨i 0, i 1, i 2, eq_ix3 i⟩
  exact ref_mid x0 x1 x2 x3 x4 b r k

end Cert.FfnMidRefIdeal.RefValue

namespace Cert.Proof

/-- The feed-forward layer without the closing normalisation and its reference compute one array. -/
theorem algebraic_ffn_mid : Cert.algebraic_FfnMidIdeal_FfnMidRefIdeal := by
  intro m ρ m' ρ' _ hagree
  refine ⟨fun c => Cert.FfnMidIdeal.RefValue.res m c, ?_, ?_⟩
  · exact (θ_run Cert.FfnMidIdeal.defs _ _).mono
      (fun _ h c => ⟨(h c).1.trans (Cert.FfnMidIdeal.RefValue.final m c), (h c).2⟩)
      (Cert.FfnMidIdeal.Value.run_blocks (F := Ideal) m ρ)
  · refine (θ_run Cert.FfnMidRefIdeal.defs _ _).mono
      (fun _ h c => ⟨(h c).1.trans ?_, (h c).2⟩) (Cert.FfnMidRefIdeal.Value.run (F := Ideal) m' ρ')
    rw [Cert.FfnMidRefIdeal.Read.val_main_v34_eq, Cert.FfnMidRefIdeal.RefValue.ref_eq, (hagree c).1, (hagree c).2.1, (hagree c).2.2.1,
      (hagree c).2.2.2.1, (hagree c).2.2.2.2]

end Cert.Proof

end
-- ==== Proof.FfnCtx.lean ====
/-
  The feed-forward layer of the context stream: what the kernel leaves in its result array, what the reference
  computes, and that they are one function of the arguments.
-/
module

public import proofs.«01_k».proof.Defs
public import proofs.«01_k».proof.Proof.Ffn
public import proofs.«01_k».proof.Proof.Gen.FfnCtxIdeal.Frame
public import proofs.«01_k».proof.Proof.Gen.FfnCtxIdeal.Value
public import proofs.«01_k».proof.Proof.Gen.FfnCtxRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.FfnCtxIdeal.RefValue

open Cert.FfnCtxIdeal Cert.FfnCtxIdeal.Gen

open Cert.FfnIdeal.RefValue (rms hid act proj mid sum_chunks)

/-- The function of the argument arrays both programs compute. -/
def G (x : FVec Ideal S8x256x1024 .f32) (mod : FVec Ideal S1x3x1024 .f32) (g : FVec Ideal S1024 .f32)
    (wi : FVec Ideal S1024x5632 .bf16) (wo : FVec Ideal S2816x1024 .bf16) :
    FVec Ideal S8x256x1024 .f32 := fun i =>
  mid (fun k => x (ix3 (i 0) (i 1) k)) (fun k => g (ix1 k)) (fun k => mod (ix3 0 1 k)) (fun k => mod (ix3 0 0 k))
    (fun k => mod (ix3 0 2 k)) (fun j f => wi (ix2 j f)) (fun f k => wo (ix2 f k)) (i 2)

/-! ## The kernel's tile -/

/-- The normalised tile at a row and a column. -/
theorem pay3_apply (v0 : Vec Ideal S1x256x1024 .f32) (v2 : Vec Ideal S1x1024 .f32) (v9 v21 : Vec Ideal S1x1x1024 .f32)
    (r : Fin 256) (k : Fin 1024) :
    k0_pay3 v0 v2 v9 v21 (ix2 r k) = hid (fun j => v0 (ix3 0 r j)) (fun j => v2 (ix2 0 j)) (fun j => v9 (ix3 0 0 j))
      (fun j => v21 (ix3 0 0 j)) k := by
  unfold hid rms
  pointwise [k0_pay3, k0_pay2]

/-- The first two chunks of the hidden layer, projected back. -/
theorem pay7_apply (h : FVec Ideal S256x1024 .bf16) (u v w : FVec Ideal S256x1024 .f32)
    (o1 g2 u2 o2 : Vec Ideal S1024x1024 .bf16) (r : Fin 256) (k : Fin 1024) :
    k0_pay7 h u v w o1 g2 u2 o2 (ix2 r k)
      = (∑ f : Fin 1024, u (ix2 r f) * Ideal.div 1 (w (ix2 r f)) * v (ix2 r f) * o1 (ix2 f k))
        + ∑ f : Fin 1024, act (proj (fun j => h (ix2 r j)) fun j => g2 (ix2 j f)) (proj (fun j => h (ix2 r j)) fun j => u2 (ix2 j f))
            * o2 (ix2 f k) := by
  unfold act proj
  pointwise [k0_pay7]

/-- A projection of the tile's normalised rows by one chunk of a weight. -/
theorem pay4_apply (v0 : Vec Ideal S1x256x1024 .f32) (v2 : Vec Ideal S1x1024 .f32) (v9 v21 : Vec Ideal S1x1x1024 .f32)
    (w : Vec Ideal S1024x1024 .bf16) (r : Fin 256) (f : Fin 1024) :
    k0_pay4 v0 v2 v9 v21 w (ix2 r f) = proj (fun j => k0_pay3 v0 v2 v9 v21 (ix2 r j)) fun j => w (ix2 j f) := by
  unfold proj k0_pay4
  generalize k0_pay3 v0 v2 v9 v21 = h
  pointwise

/-- A projection of the tile's normalised rows by one chunk of the other weight. -/
theorem pay5_apply (v0 : Vec Ideal S1x256x1024 .f32) (v2 : Vec Ideal S1x1024 .f32) (v9 v21 : Vec Ideal S1x1x1024 .f32)
    (w : Vec Ideal S1024x1024 .bf16) (r : Fin 256) (f : Fin 1024) :
    k0_pay5 v0 v2 v9 v21 w (ix2 r f) = proj (fun j => k0_pay3 v0 v2 v9 v21 (ix2 r j)) fun j => w (ix2 j f) := by
  unfold proj k0_pay5
  generalize k0_pay3 v0 v2 v9 v21 = h
  pointwise

/-- The denominator of a chunk's gate. -/
theorem pay6_apply (v0 : Vec Ideal S1x256x1024 .f32) (v2 : Vec Ideal S1x1024 .f32) (v9 v21 : Vec Ideal S1x1x1024 .f32)
    (w : Vec Ideal S1024x1024 .bf16) (r : Fin 256) (f : Fin 1024) :
    k0_pay6 v0 v2 v9 v21 w (ix2 r f) = 1 + Ideal.exp (0 - k0_pay4 v0 v2 v9 v21 w (ix2 r f)) := by
  unfold k0_pay6
  generalize k0_pay4 v0 v2 v9 v21 w = h
  pointwise

/-- The last chunk's first projection. -/
theorem pay8_apply (h : FVec Ideal S256x1024 .bf16) (w : Vec Ideal S1024x768 .bf16) (r : Fin 256) (f : Fin 768) :
    k0_pay8 h w (ix2 r f) = proj (fun j => h (ix2 r j)) fun j => w (ix2 j f) := by
  unfold proj
  pointwise [k0_pay8]

/-- The last chunk's second projection. -/
theorem pay9_apply (h : FVec Ideal S256x1024 .bf16) (w : Vec Ideal S1024x768 .bf16) (r : Fin 256) (f : Fin 768) :
    k0_pay9 h w (ix2 r f) = proj (fun j => h (ix2 r j)) fun j => w (ix2 j f) := by
  unfold proj
  pointwise [k0_pay9]

/-- The last chunk's sigmoid. -/
theorem pay10_apply (h : FVec Ideal S256x1024 .bf16) (w : Vec Ideal S1024x768 .bf16) (r : Fin 256) (f : Fin 768) :
    k0_pay10 h w (ix2 r f) = Ideal.div 1 (1 + Ideal.exp (0 - proj (fun j => h (ix2 r j)) fun j => w (ix2 j f))) := by
  unfold proj
  pointwise [k0_pay10, k0_pay8]

/-- The stored tile at a row and a column. -/
theorem pay1_apply (x acc : FVec Ideal S256x1024 .f32) (ga up si : FVec Ideal S256x768 .f32) (o : Vec Ideal S768x1024 .bf16)
    (gt : Vec Ideal S1x1x1024 .f32) (a : Fin 1) (r : Fin 256) (k : Fin 1024) :
    k0_pay1 x acc ga up si o gt (ix3 a r k)
      = x (ix2 r k) + Ideal.ofBits FTy.f32 0x3F000000#32 * gt (ix3 0 0 k)
          * (acc (ix2 r k) + ∑ f : Fin 768, ga (ix2 r f) * si (ix2 r f) * up (ix2 r f) * o (ix2 f k)) := by
  pointwise [k0_pay1]

/-- The tile's rows without the batch axis. -/
theorem pay2_apply (v0 : Vec Ideal S1x256x1024 .f32) (r : Fin 256) (k : Fin 1024) :
    k0_pay2 v0 (ix2 r k) = v0 (ix3 0 r k) := by
  pointwise [k0_pay2]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- What one grid point leaves in the result's tile, read at a row and a column. -/
theorem out_apply (x0 : Vec Ideal S1x256x1024 .f32) (x1 : Vec Ideal S1x3x1024 .f32) (x2 : Vec Ideal S1x1024 .f32)
    (x3 : Vec Ideal S1024x5632 .bf16) (x4 : Vec Ideal S2816x1024 .bf16) (a : Fin 1) (r : Fin 256) (k : Fin 1024) :
    out0_5 x0 x1 x2 x3 x4 (ix3 a r k)
      = mid (fun k => x0 (ix3 0 r k)) (fun k => x2 (ix2 0 k)) (fun k => x1 (ix3 0 1 k)) (fun k => x1 (ix3 0 0 k))
          (fun k => x1 (ix3 0 2 k)) (fun j f => x3 (ix2 j f)) (fun f k => x4 (ix2 f k)) k := by
  unfold out0_5
  rw [View.canon_unit_zero hz3, pay1_apply]
  unfold mid
  rw [sum_chunks]
  simp only [pay7_apply, pay8_apply, pay9_apply, pay10_apply, pay6_apply, pay4_apply, pay5_apply, pay2_apply, k0_pay11, pay3_apply]
  unfold act
  pointwise
  simp only [← Nat.add_assoc, Nat.reduceAdd]

/-! ## From the tile to the array -/

variable (m : (ℓ : Loc nD τ sig) → Buf (Elt Ideal) ℓ) (ρ : Dev nD → PrngReg)

/-- The batch entry a grid point works on. -/
def tb (t : Fin cfg0.N) : Fin 8 := ⟨t.val, by have : cfg0.N = 8 := N_0; have := t.isLt; omega⟩
/-- Where each window stands at a grid point. -/
theorem idx_facts : ∀ t : Fin grid0.N,
    (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0 ∧ win0_5.index t 2 = 0) := by
  decide +kernel

/-- The gain as the kernel is handed it: the argument laid out as one row. -/
theorem V_main_v0 (c : Dev nD) : V m c main_v0
    = (shapeCast S1x1024 (m ((c : Thread nD τ).loc main_arg2) : Vec Ideal S1024 .f32) shapeCasts_S1024_S1x1024 : Vec Ideal S1x1024 .f32) := by
  unfold_abbrev_sides
  after_results
  rfl

/-- The residual's block, read in the array. -/
theorem iblk0_apply (c : Dev nD) (t : Fin cfg0.N) (a : Fin 1) (r : Fin 256) (k : Fin 1024) :
    (iblk m c 0 t : Vec Ideal S1x256x1024 .f32) (ix3 a r k) = m ((c : Thread nD τ).loc main_arg0) (ix3 (tb t) r k) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val; rw [hi.1]; omega
  | ⟨1, _⟩ => show win0_0.index t 1 * 256 + 1 * r.val = r.val; rw [hi.2.1]; omega
  | ⟨2, _⟩ => show win0_0.index t 2 * 1024 + 1 * k.val = k.val; rw [hi.2.2]; omega

/-- The modulation's block, read in the array. -/
theorem iblk1_apply (c : Dev nD) (t : Fin cfg0.N) (a : Fin 1) (r : Fin 3) (k : Fin 1024) :
    (iblk m c 1 t : Vec Ideal S1x3x1024 .f32) (ix3 a r k) = m ((c : Thread nD τ).loc main_arg1) (ix3 0 r k) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = 0; rw [hi.1]; omega
  | ⟨1, _⟩ => show win0_1.index t 1 * 3 + 1 * r.val = r.val; rw [hi.2.1]; omega
  | ⟨2, _⟩ => show win0_1.index t 2 * 1024 + 1 * k.val = k.val; rw [hi.2.2]; omega

/-- The gain row. -/
theorem iblk2_apply (c : Dev nD) (t : Fin cfg0.N) (r : Fin 1) (k : Fin 1024) :
    (iblk m c 2 t : Vec Ideal S1x1024 .f32) (ix2 r k) = (shapeCast S1x1024 (m ((c : Thread nD τ).loc main_arg2) : Vec Ideal S1024 .f32) shapeCasts_S1024_S1x1024 : Vec Ideal S1x1024 .f32) (ix2 r k) := by
  have hi := (idx_facts t).2.2.1
  unfold iblk
  rw [View.read_apply]
  show V m c main_v0 _ = _
  rw [V_main_v0]
  congr 1
  funext d
  apply Fin.ext
  match d with
  | ⟨0, _⟩ => show win0_2.index t 0 * 1 + 1 * r.val = r.val; rw [hi.1]; omega
  | ⟨1, _⟩ => show win0_2.index t 1 * 1024 + 1 * k.val = k.val; rw [hi.2]; omega

/-- The first weight. -/
theorem iblk3_apply (c : Dev nD) (t : Fin cfg0.N) (r : Fin 1024) (k : Fin 5632) :
    (iblk m c 3 t : Vec Ideal S1024x5632 .bf16) (ix2 r k) = m ((c : Thread nD τ).loc main_arg3) (ix2 r k) := by
  have hi := (idx_facts t).2.2.2.1
  unfold iblk
  rw [View.read_apply]
  show V m c main_arg3 _ = _
  rw [V_main_arg3]
  congr 1
  funext d
  apply Fin.ext
  match d with
  | ⟨0, _⟩ => show win0_3.index t 0 * 1024 + 1 * r.val = r.val; rw [hi.1]; omega
  | ⟨1, _⟩ => show win0_3.index t 1 * 5632 + 1 * k.val = k.val; rw [hi.2]; omega

/-- The second weight. -/
theorem iblk4_apply (c : Dev nD) (t : Fin cfg0.N) (r : Fin 2816) (k : Fin 1024) :
    (iblk m c 4 t : Vec Ideal S2816x1024 .bf16) (ix2 r k) = m ((c : Thread nD τ).loc main_arg4) (ix2 r k) := by
  have hi := (idx_facts t).2.2.2.2.1
  unfold iblk
  rw [View.read_apply]
  show V m c main_arg4 _ = _
  rw [V_main_arg4]
  congr 1
  funext d
  apply Fin.ext
  match d with
  | ⟨0, _⟩ => show win0_4.index t 0 * 2816 + 1 * r.val = r.val; rw [hi.1]; omega
  | ⟨1, _⟩ => show win0_4.index t 1 * 1024 + 1 * k.val = k.val; rw [hi.2]; omega

/-- A vector laid out as one row, read at a column. -/
theorem row_apply (v : Vec Ideal S1024 .f32) (k : Fin 1024) :
    (shapeCast S1x1024 v shapeCasts_S1024_S1x1024 : Vec Ideal S1x1024 .f32) (ix2 0 k) = v (ix1 k) := by
  pointwise

/-- The gain's block, read in the argument. -/
theorem iblk2_row (c : Dev nD) (t : Fin cfg0.N) (k : Fin 1024) :
    (iblk m c 2 t : Vec Ideal S1x1024 .f32) (ix2 0 k) = m ((c : Thread nD τ).loc main_arg2) (ix1 k) :=
  (iblk2_apply m c t 0 k).trans (row_apply _ k)

/-- The value the result array is shown to hold. -/
abbrev res (c : Dev nD) : FVec Ideal S8x256x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- What a grid point writes back is its block of the whole result. -/
theorem flushed_eq (c : Dev nD) (t : Fin cfg0.N) :
    (dats m 0 c).flushed 5 t = (win0_5.blk t).view.read (Elt Ideal) (res m c) := by
  rw [Value.flushed5]
  funext i
  obtain ⟨a, r, k, rfl⟩ : ∃ (a : Fin 1) (r : Fin 256) (k : Fin 1024), i = ix3 a r k := ⟨i 0, i 1, i 2, eq_ix3 i⟩
  have hi := (idx_facts t).2.2.2.2.2
  refine (out_apply _ _ _ _ _ a r k).trans ?_
  rw [View.read_apply]
  have e : (win0_5.blk t).view.emb (ix3 a r k) = ix3 (tb t) r k := by
    funext d
    apply Fin.ext
    match d with
    | ⟨0, _⟩ => show win0_5.index t 0 * 1 + 1 * a.val = t.val; rw [hi.1]; omega
    | ⟨1, _⟩ => show win0_5.index t 1 * 256 + 1 * r.val = r.val; rw [hi.2.1]; omega
    | ⟨2, _⟩ => show win0_5.index t 2 * 1024 + 1 * k.val = k.val; rw [hi.2.2]; omega
  rw [e]
  simp only [iblk0_apply, iblk1_apply, iblk2_row, iblk3_apply, iblk4_apply]
  rfl

/-- The result's blocks, by their rows. -/
theorem mem_blk (t : Fin cfg0.N) (i : S8x256x1024.Idx) :
    i ∈ ((cfg0.win 5).blk t).view.set
      ↔ (i 0 : Nat) = t.val ∧ 0 ≤ (i 1 : Nat) ∧ (i 1 : Nat) < 0 + 256 := by
  show i ∈ ((View.whole main_v1).slice (win0_5.rect t)).set ↔ _
  have hi := (idx_facts t).2.2.2.2.2
  have h2 : (i 2 : Nat) < 1024 := (i 2).isLt
  rw [View.set_slice_whole, Rect.mem_set_unit]
  refine ⟨fun h => ?_, fun h a => ?_⟩
  · have a0 : win0_5.index t 0 * 1 ≤ (i 0 : Nat) ∧ (i 0 : Nat) < win0_5.index t 0 * 1 + 1 := h 0
    have a1 : win0_5.index t 1 * 256 ≤ (i 1 : Nat) ∧ (i 1 : Nat) < win0_5.index t 1 * 256 + 256 := h 1
    rw [hi.1] at a0
    rw [hi.2.1] at a1
    omega
  · match a with
    | ⟨0, _⟩ => show win0_5.index t 0 * 1 ≤ (i 0 : Nat) ∧ (i 0 : Nat) < win0_5.index t 0 * 1 + 1; rw [hi.1]; omega
    | ⟨1, _⟩ => show win0_5.index t 1 * 256 ≤ (i 1 : Nat) ∧ (i 1 : Nat) < win0_5.index t 1 * 256 + 256; rw [hi.2.1]; omega
    | ⟨2, _⟩ => show win0_5.index t 2 * 1024 ≤ (i 2 : Nat) ∧ (i 2 : Nat) < win0_5.index t 2 * 1024 + 1024; rw [hi.2.2]; omega

/-- Every index of the result lies in the block of a grid point that writes it back. -/
theorem cover (i : S8x256x1024.Idx) :
    ∃ t : Fin cfg0.N, (cfg0.win 5).flush t = true ∧ i ∈ ((cfg0.win 5).blk t).view.set := by
  have h0 : (i 0 : Nat) < 8 := (i 0).isLt
  have h1 : (i 1 : Nat) < 256 := (i 1).isLt
  have hN : cfg0.N = 8 := N_0
  refine ⟨⟨(i 0).val, by omega⟩, flush0_5 _, ?_⟩
  rw [mem_blk]
  dsimp only
  omega

/-- The result array after the run. -/
theorem final (c : Dev nD) : (dats m 0 c).arrAt 5 cfg0.N = res m c :=
  Dat.arrAt_eq_of_cover (dats m 0 c) 5 (res m c) (fun t _ => flushed_eq m c t) cover

end Cert.FfnCtxIdeal.RefValue

/-! ## The reference -/

namespace Cert.FfnCtxRefIdeal.RefValue

open Cert.FfnCtxRefIdeal Cert.FfnCtxRefIdeal.Read
open Cert.FfnIdeal.RefValue (rms hid act proj mid)

variable (x0 : FVec Ideal S8x256x1024 .f32) (x1 : FVec Ideal S1x3x1024 .f32) (x2 : FVec Ideal S1024 .f32)
  (x3 : FVec Ideal S1024x5632 .bf16) (x4 : FVec Ideal S2816x1024 .bf16)

/-- The reference's hidden rows. -/
theorem ref_hid (b : Fin 8) (r : Fin 256) (k : Fin 1024) :
    val_main_v20 (F := Ideal) x0 x1 x2 (ix3 b r k)
      = hid (fun k => x0 (ix3 b r k)) (fun k => x2 (ix1 k)) (fun k => x1 (ix3 0 1 k)) (fun k => x1 (ix3 0 0 k)) k := by
  unfold hid rms
  rw [← mul_assoc]
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The reference's first projection. -/
theorem ref_proj (b : Fin 8) (r : Fin 256) (f : Fin 5632) :
    val_main_v26 (F := Ideal) x0 x1 x2 x3 (ix3 b r f)
      = proj (hid (fun k => x0 (ix3 b r k)) (fun k => x2 (ix1 k)) (fun k => x1 (ix3 0 1 k)) (fun k => x1 (ix3 0 0 k)))
          fun j => x3 (ix2 j f) := by
  unfold val_main_v26 proj
  simp only [← ref_hid]
  generalize val_main_v20 (F := Ideal) x0 x1 x2 = h
  pointwise [val_main_v24]

/-- The reference's gated hidden layer. -/
theorem ref_act (b : Fin 8) (r : Fin 256) (f : Fin 2816) :
    val_main_v30 (F := Ideal) x0 x1 x2 x3 (ix3 b r f)
      = act (val_main_v26 (F := Ideal) x0 x1 x2 x3 (ix3 b r ⟨f.val, by have := f.isLt; omega⟩))
          (val_main_v26 (F := Ideal) x0 x1 x2 x3 (ix3 b r ⟨2816 + f.val, by have := f.isLt; omega⟩)) := by
  unfold act val_main_v30 val_main_v29 val_main_v28 val_main_call0_v5 val_main_call0_v3 val_main_call0_v1 val_main_call0_v0 val_main_v27
  generalize val_main_v26 (F := Ideal) x0 x1 x2 x3 = h
  rw [zero_sub]
  pointwise [val_main_call0_v4, val_main_call0_v2, val_main_call0_cst, val_main_call0_cst_0]

/-- The reference's residual rows. -/
theorem ref_mid (b : Fin 8) (r : Fin 256) (k : Fin 1024) :
    val_main_v34 (F := Ideal) x0 x1 x2 x3 x4 (ix3 b r k)
      = mid (fun k => x0 (ix3 b r k)) (fun k => x2 (ix1 k)) (fun k => x1 (ix3 0 1 k)) (fun k => x1 (ix3 0 0 k))
          (fun k => x1 (ix3 0 2 k)) (fun j f => x3 (ix2 j f)) (fun f k => x4 (ix2 f k)) k := by
  unfold mid
  simp only [← ref_proj, ← ref_act]
  unfold val_main_v34 val_main_v33 val_main_v31
  generalize val_main_v30 (F := Ideal) x0 x1 x2 x3 = h
  pointwise [val_main_v32, val_main_v25, val_main_v23, val_main_v22, val_main_v21, val_main_cst_3]

/-- The reference's result is the same function of the arguments. -/
theorem ref_eq : val_main_v34 (F := Ideal) x0 x1 x2 x3 x4 = Cert.FfnCtxIdeal.RefValue.G x0 x1 x2 x3 x4 := by
  funext i
  obtain ⟨b, r, k, rfl⟩ : ∃ (b : Fin 8) (r : Fin 256) (k : Fin 1024), i = ix3 b r k := ⟨i 0, i 1, i 2, eq_ix3 i⟩
  exact ref_mid x0 x1 x2 x3 x4 b r k

end Cert.FfnCtxRefIdeal.RefValue

namespace Cert.Proof

/-- The feed-forward layer without the closing normalisation and its reference compute one array. -/
theorem algebraic_ffn_ctx : Cert.algebraic_FfnCtxIdeal_FfnCtxRefIdeal := by
  intro m ρ m' ρ' _ hagree
  refine ⟨fun c => Cert.FfnCtxIdeal.RefValue.res m c, ?_, ?_⟩
  · exact (θ_run Cert.FfnCtxIdeal.defs _ _).mono
      (fun _ h c => ⟨(h c).1.trans (Cert.FfnCtxIdeal.RefValue.final m c), (h c).2⟩)
      (Cert.FfnCtxIdeal.Value.run_blocks (F := Ideal) m ρ)
  · refine (θ_run Cert.FfnCtxRefIdeal.defs _ _).mono
      (fun _ h c => ⟨(h c).1.trans ?_, (h c).2⟩) (Cert.FfnCtxRefIdeal.Value.run (F := Ideal) m' ρ')
    rw [Cert.FfnCtxRefIdeal.Read.val_main_v34_eq, Cert.FfnCtxRefIdeal.RefValue.ref_eq, (hagree c).1, (hagree c).2.1, (hagree c).2.2.1,
      (hagree c).2.2.2.1, (hagree c).2.2.2.2]

end Cert.Proof

end
-- ==== Proof.ConvCtx.lean ====
/-
  The convolution mixer of the context stream: what the kernel leaves in its result array, what the reference
  computes, and that they are one function of the arguments.
-/
module

public import proofs.«01_k».proof.Defs
public import proofs.«01_k».proof.Proof.Ffn
public import proofs.«01_k».proof.Proof.Conv
public import proofs.«01_k».proof.Proof.Gen.ConvCtxIdeal.Frame
public import proofs.«01_k».proof.Proof.Gen.ConvCtxIdeal.Value
public import proofs.«01_k».proof.Proof.Gen.ConvCtxRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.ConvCtxIdeal.RefValue

open Cert.ConvCtxIdeal Cert.ConvCtxIdeal.Gen
open Cert.FfnIdeal.RefValue (rms hid proj)
open Cert.ConvIdeal.RefValue (prod conv)

/-- The convolution's input at a token. -/
def U (x : FVec Ideal S8x256x1024 .f32) (mod : FVec Ideal S1x3x1024 .f32) (g : FVec Ideal S1024 .f32)
    (wi : FVec Ideal S1024x3072 .bf16) (b : Fin 8) (r : Fin 256) : Fin 1024 → EReal :=
  prod (fun k => x (ix3 b r k)) (fun k => g (ix1 k)) (fun k => mod (ix3 0 1 k)) (fun k => mod (ix3 0 0 k)) fun j f => wi (ix2 j f)

/-- The convolution's input one token earlier, zero before the first. -/
def Uprev (x : FVec Ideal S8x256x1024 .f32) (mod : FVec Ideal S1x3x1024 .f32) (g : FVec Ideal S1024 .f32)
    (wi : FVec Ideal S1024x3072 .bf16) (b : Fin 8) (r : Fin 256) (f : Fin 1024) : EReal :=
  if h : 1 ≤ r.val then U x mod g wi b ⟨r.val - 1, by have := r.isLt; omega⟩ f else 0

/-- The convolution's input one token later, zero after the last. -/
def Unext (x : FVec Ideal S8x256x1024 .f32) (mod : FVec Ideal S1x3x1024 .f32) (g : FVec Ideal S1024 .f32)
    (wi : FVec Ideal S1024x3072 .bf16) (b : Fin 8) (r : Fin 256) (f : Fin 1024) : EReal :=
  if h : r.val + 1 < 256 then U x mod g wi b ⟨r.val + 1, h⟩ f else 0

/-- One element of the result. -/
def elt (x : FVec Ideal S8x256x1024 .f32) (mod : FVec Ideal S1x3x1024 .f32) (g : FVec Ideal S1024 .f32)
    (wi : FVec Ideal S1024x3072 .bf16) (cw : FVec Ideal S3x1024 .f32) (wo : FVec Ideal S1024x1024 .bf16) (b : Fin 8) (r : Fin 256)
    (k : Fin 1024) : EReal :=
  conv (fun k => x (ix3 b r k)) (fun k => mod (ix3 0 2 k))
    (fun f => proj (hid (fun k => x (ix3 b r k)) (fun k => g (ix1 k)) (fun k => mod (ix3 0 1 k)) (fun k => mod (ix3 0 0 k)))
      fun j => wi (ix2 j ⟨f.val, by have := f.isLt; omega⟩))
    (fun f => cw (ix2 0 f)) (fun f => cw (ix2 1 f)) (fun f => cw (ix2 2 f))
    (Uprev x mod g wi b r) (U x mod g wi b r) (Unext x mod g wi b r) (fun f k => wo (ix2 f k)) k

/-- The function of the argument arrays both programs compute. -/
def G (x : FVec Ideal S8x256x1024 .f32) (mod : FVec Ideal S1x3x1024 .f32) (g : FVec Ideal S1024 .f32)
    (wi : FVec Ideal S1024x3072 .bf16) (cw : FVec Ideal S3x1024 .f32) (wo : FVec Ideal S1024x1024 .bf16) :
    FVec Ideal S8x256x1024 .f32 := fun i => elt x mod g wi cw wo (i 0) (i 1) (i 2)

/-! ## The kernel's tile -/

/-- The test for the tile's first row. -/
theorem sel_first : ∀ r : Fin 256, IntOp.cmpi CmpIPredicate.eq (BitVec.ofNat 32 r.val) 0#32 = if r.val = 0 then 1#1 else 0#1 := by
  decide +kernel

/-- The test for the tile's last row. -/
theorem sel_last : ∀ r : Fin 256, IntOp.cmpi CmpIPredicate.eq (BitVec.ofNat 32 r.val) 255#32 = if r.val = 255 then 1#1 else 0#1 := by
  decide +kernel

/-- The test for a tile that has one before it. -/
theorem sel_some_before : ∀ j : Fin 1, Scalar.cmpi CmpIPredicate.sgt (BitVec.ofNat 32 j.val) 0#32 = if 0 < j.val then 1#1 else 0#1 := by
  decide +kernel

/-- The test for a tile that has one after it. -/
theorem sel_some_after : ∀ j : Fin 1, Scalar.cmpi CmpIPredicate.slt (BitVec.ofNat 32 j.val) 0#32 = if j.val < 0 then 1#1 else 0#1 := by
  decide +kernel

/-- A choice by a decided bit. -/
theorem select_ite (p : Prop) [Decidable p] (a b : EReal) : Scalar.select (if p then 1#1 else 0#1) a b = if p then a else b := by
  by_cases h : p <;> simp [h, Scalar.select]

/-- The tile's projection at a row and a column. -/
theorem pay4_apply (v0 : Vec Ideal S1x1024 .f32) (v2 : Vec Ideal S1x256x1024 .f32) (v9 v21 : Vec Ideal S1x1x1024 .f32)
    (v26 : Vec Ideal S1024x3072 .bf16) (r : Fin 256) (f : Fin 3072) :
    k0_pay4 v0 v2 v9 v21 v26 (ix2 r f)
      = proj (hid (fun j => v2 (ix3 0 r j)) (fun j => v0 (ix2 0 j)) (fun j => v9 (ix3 0 0 j)) (fun j => v21 (ix3 0 0 j)))
          fun j => v26 (ix2 j f) := by
  unfold proj hid rms
  pointwise [k0_pay4, k0_pay3, k0_pay2]

/-- The convolution's input at a row of the tile. -/
theorem pay5_apply (v0 : Vec Ideal S1x1024 .f32) (v2 : Vec Ideal S1x256x1024 .f32) (v9 v21 : Vec Ideal S1x1x1024 .f32)
    (v26 : Vec Ideal S1024x3072 .bf16) (r : Fin 256) (k : Fin 1024) :
    k0_pay5 v0 v2 v9 v21 v26 (ix2 r k)
      = prod (fun j => v2 (ix3 0 r j)) (fun j => v0 (ix2 0 j)) (fun j => v9 (ix3 0 0 j)) (fun j => v21 (ix3 0 0 j))
          (fun j f => v26 (ix2 j f)) k := by
  unfold prod
  rw [← pay4_apply, ← pay4_apply]
  unfold k0_pay5
  generalize k0_pay4 v0 v2 v9 v21 v26 = p
  pointwise

/-- The row before the tile. -/
theorem pay8_apply (j : Fin 1) (g : Vec Ideal S1x1024 .f32) (x : Vec Ideal S1x8x1024 .f32) (sc sh : Vec Ideal S1x1x1024 .f32)
    (x5 : Vec Ideal S1024x3072 .bf16) (k : Fin 1024) :
    k0_pay8 (BitVec.ofNat 32 j.val) (k0_pay2 g) (k0_pay6 x) (k0_pay7 x) sc sh (View.ld x5 r0_6) (ix2 0 k)
      = if 0 < j.val then prod (fun j => x (ix3 0 7 j)) (fun j => g (ix2 0 j)) (fun j => sc (ix3 0 0 j)) (fun j => sh (ix3 0 0 j))
          (fun j f => x5 (ix2 j f)) k else 0 := by
  rw [← select_ite, ← sel_some_before]
  unfold prod proj hid rms
  pointwise [k0_pay8, k0_pay2, k0_pay6, k0_pay7]
  simp only [← Nat.add_assoc, Nat.reduceAdd]

/-- The rows after the tile's rows. -/
theorem pay12_apply (j : Fin 1) (g : Vec Ideal S1x1024 .f32) (u : FVec Ideal S256x1024 .f32) (x : Vec Ideal S1x8x1024 .f32)
    (sc sh : Vec Ideal S1x1x1024 .f32) (x5 : Vec Ideal S1024x3072 .bf16) (r : Fin 256) (k : Fin 1024) :
    k0_pay12 (BitVec.ofNat 32 j.val) (k0_pay2 g) u (k0_pay9 x) (k0_pay10 x) (k0_pay11 sc) (Scalar.ofBits .f32 0x3F800000#32) sh
        (View.ld x5 r0_6) (ix2 r k)
      = if h : r.val = 255 then
          if j.val < 0 then prod (fun j => x (ix3 0 0 j)) (fun j => g (ix2 0 j)) (fun j => sc (ix3 0 0 j)) (fun j => sh (ix3 0 0 j))
            (fun j f => x5 (ix2 j f)) k else 0
        else u (ix2 ⟨r.val + 1, by have := r.isLt; omega⟩ k) := by
  have hr := r.isLt
  have e : k0_pay12 (BitVec.ofNat 32 j.val) (k0_pay2 g) u (k0_pay9 x) (k0_pay10 x) (k0_pay11 sc) (Scalar.ofBits .f32 0x3F800000#32) sh
        (View.ld x5 r0_6) (ix2 r k)
      = if r.val = 255 then
          if j.val < 0 then prod (fun j => x (ix3 0 0 j)) (fun j => g (ix2 0 j)) (fun j => sc (ix3 0 0 j)) (fun j => sh (ix3 0 0 j))
            (fun j f => x5 (ix2 j f)) k else 0
        else u (ix2 ⟨(r.val + 256 - 255) % 256, by omega⟩ k) := by
    rw [← select_ite, ← select_ite, ← sel_last, ← sel_some_after]
    unfold prod proj hid rms
    pointwise [k0_pay12, k0_pay2, k0_pay9, k0_pay10, k0_pay11]
    simp only [← Nat.add_assoc, Nat.reduceAdd]
  rw [e]
  by_cases h : r.val = 255
  · rw [if_pos h, dif_pos h]
  · rw [if_neg h, dif_neg h]
    exact congrArg u (congrArg (fun q => ix2 q k) (Fin.ext (by show (r.val + 256 - 255) % 256 = r.val + 1; omega)))

/-- The rows before the tile's rows, each times its weight. -/
theorem pay13_apply (u : FVec Ideal S256x1024 .f32) (p : FVec Ideal S1x1024 .f32) (w : Vec Ideal S1x1024 .f32) (r : Fin 256)
    (k : Fin 1024) :
    k0_pay13 u p w (ix2 r k)
      = w (ix2 0 k) * if h : r.val = 0 then p (ix2 0 k) else u (ix2 ⟨r.val - 1, by have := r.isLt; omega⟩ k) := by
  have hr := r.isLt
  have e : k0_pay13 u p w (ix2 r k)
      = w (ix2 0 k) * if r.val = 0 then p (ix2 0 k) else u (ix2 ⟨(r.val + 256 - 1) % 256, by omega⟩ k) := by
    rw [← select_ite, ← sel_first]
    pointwise [k0_pay13]
  rw [e]
  by_cases h : r.val = 0
  · rw [if_pos h, dif_pos h]
  · rw [if_neg h, dif_neg h]
    exact congrArg (w (ix2 0 k) * ·) (congrArg u (congrArg (fun q => ix2 q k)
      (Fin.ext (by show (r.val + 256 - 1) % 256 = r.val - 1; omega))))

/-- The tile's result at a row and a column. -/
theorem pay1_apply (x : FVec Ideal S256x1024 .f32) (bc : FVec Ideal S256x3072 .f32) (u un wp : FVec Ideal S256x1024 .f32)
    (c1 c2 : Vec Ideal S1x1024 .f32) (gt : Vec Ideal S1x1x1024 .f32) (wo : Vec Ideal S1024x1024 .bf16) (a : Fin 1) (r : Fin 256)
    (k : Fin 1024) :
    k0_pay1 x bc u un wp c1 c2 gt wo (ix3 a r k)
      = x (ix2 r k) + gt (ix3 0 0 k) * ∑ f : Fin 1024, bc (ix2 r ⟨f.val, by have := f.isLt; omega⟩)
          * (wp (ix2 r f) + c1 (ix2 0 f) * u (ix2 r f) + c2 (ix2 0 f) * un (ix2 r f)) * wo (ix2 f k) := by
  pointwise [k0_pay1]

/-- The tile's rows without the batch axis. -/
theorem pay3_apply (v : Vec Ideal S1x256x1024 .f32) (r : Fin 256) (k : Fin 1024) : k0_pay3 v (ix2 r k) = v (ix3 0 r k) := by
  pointwise [k0_pay3]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- The convolution's input of a block's row. -/
def blkU {n : Nat} (x : Fin n → Fin 1024 → EReal) (x3 : Vec Ideal S1x3x1024 .f32) (x4 : Vec Ideal S1x1024 .f32)
    (x5 : Vec Ideal S1024x3072 .bf16) (r : Fin n) : Fin 1024 → EReal :=
  prod (x r) (fun k => x4 (ix2 0 k)) (fun k => x3 (ix3 0 1 k)) (fun k => x3 (ix3 0 0 k)) fun j f => x5 (ix2 j f)

/-- What one grid point leaves in the result's tile, read at a row and a column. -/
theorem out_apply (i : grid0.Coords) (x0 : Vec Ideal S1x256x1024 .f32) (x1 x2 : Vec Ideal S1x8x1024 .f32) (x3 : Vec Ideal S1x3x1024 .f32)
    (x4 : Vec Ideal S1x1024 .f32) (x5 : Vec Ideal S1024x3072 .bf16) (x6 : Vec Ideal S3x1024 .f32) (x7 : Vec Ideal S1024x1024 .bf16)
    (a : Fin 1) (r : Fin 256) (k : Fin 1024) :
    out0_8 i x0 x1 x2 x3 x4 x5 x6 x7 (ix3 a r k)
      = conv (fun k => x0 (ix3 0 r k)) (fun k => x3 (ix3 0 2 k))
          (fun f => proj (hid (fun k => x0 (ix3 0 r k)) (fun k => x4 (ix2 0 k)) (fun k => x3 (ix3 0 1 k)) (fun k => x3 (ix3 0 0 k)))
            fun j => x5 (ix2 j ⟨f.val, by have := f.isLt; omega⟩))
          (fun f => x6 (ix2 0 f)) (fun f => x6 (ix2 1 f)) (fun f => x6 (ix2 2 f))
          (fun f => if h : r.val = 0 then (if 0 < (i 1).val then blkU (fun r k => x1 (ix3 0 r k)) x3 x4 x5 7 f else 0)
            else blkU (fun r k => x0 (ix3 0 r k)) x3 x4 x5 ⟨r.val - 1, by have := r.isLt; omega⟩ f)
          (blkU (fun r k => x0 (ix3 0 r k)) x3 x4 x5 r)
          (fun f => if h : r.val = 255 then (if (i 1).val < 0 then blkU (fun r k => x2 (ix3 0 r k)) x3 x4 x5 0 f else 0)
            else blkU (fun r k => x0 (ix3 0 r k)) x3 x4 x5 ⟨r.val + 1, by have := r.isLt; omega⟩ f)
          (fun f k => x7 (ix2 f k)) k := by
  unfold out0_8
  rw [View.canon_unit_zero hz3, pay1_apply]
  unfold conv blkU
  rw [View.ld_unit_zero hz3 (X := x0), View.ld_unit_zero hz3 (X := x1), View.ld_unit_zero hz3 (X := x2), View.ld_unit_zero hz2 (X := x4),
    View.ld_unit_zero hz2 (X := x7)]
  unfold k0_pay15 k0_pay14
  simp only [pay3_apply, pay4_apply, pay13_apply, pay12_apply (i 1), pay8_apply (i 1), pay5_apply]
  rw [View.ld_unit_zero hz3 (X := x0), View.ld_unit_zero hz2 (X := x4), View.ld_unit_zero hz2 (S := S1024x3072) (X := x5)]
  pointwise

/-! ## From the tile to the array -/

variable (m : (ℓ : Loc nD τ sig) → Buf (Elt Ideal) ℓ) (ρ : Dev nD → PrngReg)

/-- The batch entry a grid point works on. -/
def tb (t : Fin cfg0.N) : Fin 8 := ⟨t.val / 1, by have : cfg0.N = 8 := N_0; have := t.isLt; omega⟩
/-- The first row of the tile a grid point works on, plus a row of the tile. -/
def tr (t : Fin cfg0.N) (r : Fin 256) : Fin 256 := ⟨t.val % 1 * 256 + r.val, by have := r.isLt; omega⟩
/-- The rows the kernel is handed from before the tile. -/
def tp (t : Fin cfg0.N) (r : Fin 8) : Fin 256 := ⟨(t.val % 1 * 32 - 1) * 8 + r.val, by have := r.isLt; omega⟩
/-- The rows the kernel is handed from after the tile. -/
def tn (t : Fin cfg0.N) (r : Fin 8) : Fin 256 := ⟨min ((t.val % 1 + 1) * 32) 31 * 8 + r.val, by have := r.isLt; omega⟩

/-- Where each window stands at a grid point. -/
theorem idx_facts : ∀ t : Fin grid0.N,
    (win0_0.index t 0 = t.val / 1 ∧ win0_0.index t 1 = t.val % 1 ∧ win0_0.index t 2 = 0)
    ∧ (win0_1.index t 0 = t.val / 1 ∧ win0_1.index t 1 = t.val % 1 * 32 - 1 ∧ win0_1.index t 2 = 0)
    ∧ (win0_2.index t 0 = t.val / 1 ∧ win0_2.index t 1 = min ((t.val % 1 + 1) * 32) 31 ∧ win0_2.index t 2 = 0)
    ∧ (win0_3.index t 0 = 0 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val / 1 ∧ win0_8.index t 1 = t.val % 1 ∧ win0_8.index t 2 = 0) := by
  decide +kernel

/-- The tile a grid point works on. -/
theorem coord_tile : ∀ t : Fin grid0.N, (grid0.coords t 1).val = t.val % 1 := by
  decide +kernel

/-- The gain as the kernel is handed it: the argument laid out as one row. -/
theorem V_main_v0 (c : Dev nD) : V m c main_v0
    = (shapeCast S1x1024 (m ((c : Thread nD τ).loc main_arg2) : Vec Ideal S1024 .f32) shapeCasts_S1024_S1x1024 : Vec Ideal S1x1024 .f32) := by
  unfold_abbrev_sides
  after_results
  rfl

/-- The tile's block, read in the array. -/
theorem iblk0_apply (c : Dev nD) (t : Fin cfg0.N) (a : Fin 1) (r : Fin 256) (k : Fin 1024) :
    (iblk m c 0 t : Vec Ideal S1x256x1024 .f32) (ix3 a r k) = m ((c : Thread nD τ).loc main_arg0) (ix3 (tb t) (tr t r) k) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val / 1; rw [hi.1]; omega
  | ⟨1, _⟩ => show win0_0.index t 1 * 256 + 1 * r.val = t.val % 1 * 256 + r.val; rw [hi.2.1]; omega
  | ⟨2, _⟩ => show win0_0.index t 2 * 1024 + 1 * k.val = k.val; rw [hi.2.2]; omega

/-- The rows before, read in the array. -/
theorem iblk1_apply (c : Dev nD) (t : Fin cfg0.N) (a : Fin 1) (r : Fin 8) (k : Fin 1024) :
    (iblk m c 1 t : Vec Ideal S1x8x1024 .f32) (ix3 a r k) = m ((c : Thread nD τ).loc main_arg0) (ix3 (tb t) (tp t r) k) := by
  have hi := (idx_facts t).2.1
  unfold iblk
  rw [View.read_apply]
  show V m c main_arg0 _ = _
  rw [V_main_arg0]
  congr 1
  funext d
  apply Fin.ext
  match d with
  | ⟨0, _⟩ => show win0_1.index t 0 * 1 + 1 * a.val = t.val / 1; rw [hi.1]; omega
  | ⟨1, _⟩ => show win0_1.index t 1 * 8 + 1 * r.val = (t.val % 1 * 32 - 1) * 8 + r.val; rw [hi.2.1]; omega
  | ⟨2, _⟩ => show win0_1.index t 2 * 1024 + 1 * k.val = k.val; rw [hi.2.2]; omega

/-- The rows after, read in the array. -/
theorem iblk2_apply (c : Dev nD) (t : Fin cfg0.N) (a : Fin 1) (r : Fin 8) (k : Fin 1024) :
    (iblk m c 2 t : Vec Ideal S1x8x1024 .f32) (ix3 a r k) = m ((c : Thread nD τ).loc main_arg0) (ix3 (tb t) (tn t r) k) := by
  have hi := (idx_facts t).2.2.1
  unfold iblk
  rw [View.read_apply]
  show V m c main_arg0 _ = _
  rw [V_main_arg0]
  congr 1
  funext d
  apply Fin.ext
  match d with
  | ⟨0, _⟩ => show win0_2.index t 0 * 1 + 1 * a.val = t.val / 1; rw [hi.1]; omega
  | ⟨1, _⟩ => show win0_2.index t 1 * 8 + 1 * r.val = min ((t.val % 1 + 1) * 32) 31 * 8 + r.val; rw [hi.2.1]; omega
  | ⟨2, _⟩ => show win0_2.index t 2 * 1024 + 1 * k.val = k.val; rw [hi.2.2]; omega

/-- The modulation's block, read in the array. -/
theorem iblk3_apply (c : Dev nD) (t : Fin cfg0.N) (a : Fin 1) (r : Fin 3) (k : Fin 1024) :
    (iblk m c 3 t : Vec Ideal S1x3x1024 .f32) (ix3 a r k) = m ((c : Thread nD τ).loc main_arg1) (ix3 0 r k) := by
  have hi := (idx_facts t).2.2.2.1
  unfold iblk
  rw [View.read_apply]
  show V m c main_arg1 _ = _
  rw [V_main_arg1]
  congr 1
  funext d
  apply Fin.ext
  match d with
  | ⟨0, _⟩ => show win0_3.index t 0 * 1 + 1 * a.val = 0; rw [hi.1]; omega
  | ⟨1, _⟩ => show win0_3.index t 1 * 3 + 1 * r.val = r.val; rw [hi.2.1]; omega
  | ⟨2, _⟩ => show win0_3.index t 2 * 1024 + 1 * k.val = k.val; rw [hi.2.2]; omega

/-- The gain row. -/
theorem iblk4_apply (c : Dev nD) (t : Fin cfg0.N) (r : Fin 1) (k : Fin 1024) :
    (iblk m c 4 t : Vec Ideal S1x1024 .f32) (ix2 r k) = (shapeCast S1x1024 (m ((c : Thread nD τ).loc main_arg2) : Vec Ideal S1024 .f32) shapeCasts_S1024_S1x1024 : Vec Ideal S1x1024 .f32) (ix2 r k) := by
  have hi := (idx_facts t).2.2.2.2.1
  unfold iblk
  rw [View.read_apply]
  show V m c main_v0 _ = _
  rw [V_main_v0]
  congr 1
  funext d
  apply Fin.ext
  match d with
  | ⟨0, _⟩ => show win0_4.index t 0 * 1 + 1 * r.val = r.val; rw [hi.1]; omega
  | ⟨1, _⟩ => show win0_4.index t 1 * 1024 + 1 * k.val = k.val; rw [hi.2]; omega

/-- The first weight. -/
theorem iblk5_apply (c : Dev nD) (t : Fin cfg0.N) (r : Fin 1024) (k : Fin 3072) :
    (iblk m c 5 t : Vec Ideal S1024x3072 .bf16) (ix2 r k) = m ((c : Thread nD τ).loc main_arg3) (ix2 r k) := by
  have hi := (idx_facts t).2.2.2.2.2.1
  unfold iblk
  rw [View.read_apply]
  show V m c main_arg3 _ = _
  rw [V_main_arg3]
  congr 1
  funext d
  apply Fin.ext
  match d with
  | ⟨0, _⟩ => show win0_5.index t 0 * 1024 + 1 * r.val = r.val; rw [hi.1]; omega
  | ⟨1, _⟩ => show win0_5.index t 1 * 3072 + 1 * k.val = k.val; rw [hi.2]; omega

/-- The convolution's weights. -/
theorem iblk6_apply (c : Dev nD) (t : Fin cfg0.N) (r : Fin 3) (k : Fin 1024) :
    (iblk m c 6 t : Vec Ideal S3x1024 .f32) (ix2 r k) = m ((c : Thread nD τ).loc main_arg4) (ix2 r k) := by
  have hi := (idx_facts t).2.2.2.2.2.2.1
  unfold iblk
  rw [View.read_apply]
  show V m c main_arg4 _ = _
  rw [V_main_arg4]
  congr 1
  funext d
  apply Fin.ext
  match d with
  | ⟨0, _⟩ => show win0_6.index t 0 * 3 + 1 * r.val = r.val; rw [hi.1]; omega
  | ⟨1, _⟩ => show win0_6.index t 1 * 1024 + 1 * k.val = k.val; rw [hi.2]; omega

/-- The second weight. -/
theorem iblk7_apply (c : Dev nD) (t : Fin cfg0.N) (r : Fin 1024) (k : Fin 1024) :
    (iblk m c 7 t : Vec Ideal S1024x1024 .bf16) (ix2 r k) = m ((c : Thread nD τ).loc main_arg5) (ix2 r k) := by
  have hi := (idx_facts t).2.2.2.2.2.2.2.1
  unfold iblk
  rw [View.read_apply]
  show V m c main_arg5 _ = _
  rw [V_main_arg5]
  congr 1
  funext d
  apply Fin.ext
  match d with
  | ⟨0, _⟩ => show win0_7.index t 0 * 1024 + 1 * r.val = r.val; rw [hi.1]; omega
  | ⟨1, _⟩ => show win0_7.index t 1 * 1024 + 1 * k.val = k.val; rw [hi.2]; omega

/-- A vector laid out as one row, read at a column. -/
theorem row_apply (v : Vec Ideal S1024 .f32) (k : Fin 1024) :
    (shapeCast S1x1024 v shapeCasts_S1024_S1x1024 : Vec Ideal S1x1024 .f32) (ix2 0 k) = v (ix1 k) := by
  pointwise

/-- The gain's block, read in the argument. -/
theorem iblk4_row (c : Dev nD) (t : Fin cfg0.N) (k : Fin 1024) :
    (iblk m c 4 t : Vec Ideal S1x1024 .f32) (ix2 0 k) = m ((c : Thread nD τ).loc main_arg2) (ix1 k) :=
  (iblk4_apply m c t 0 k).trans (row_apply _ k)

/-- The convolution's input at a token, in a core's memory. -/
abbrev UM (c : Dev nD) : Fin 8 → Fin 256 → Fin 1024 → EReal :=
  U (m ((c : Thread nD τ).loc main_arg0)) (m ((c : Thread nD τ).loc main_arg1)) (m ((c : Thread nD τ).loc main_arg2)) (m ((c : Thread nD τ).loc main_arg3))

/-- The convolution's input of the tile's own rows. -/
theorem blkU0 (c : Dev nD) (t : Fin cfg0.N) (r : Fin 256) :
    blkU (fun r k => (iblk m c 0 t : Vec Ideal S1x256x1024 .f32) (ix3 0 r k)) (iblk m c 3 t) (iblk m c 4 t) (iblk m c 5 t) r
      = UM m c (tb t) (tr t r) := by
  unfold blkU UM U
  simp only [iblk0_apply, iblk3_apply, iblk4_row, iblk5_apply]

/-- The convolution's input of the eight rows before the tile. -/
theorem blkU1 (c : Dev nD) (t : Fin cfg0.N) (r : Fin 8) :
    blkU (fun r k => (iblk m c 1 t : Vec Ideal S1x8x1024 .f32) (ix3 0 r k)) (iblk m c 3 t) (iblk m c 4 t) (iblk m c 5 t) r
      = UM m c (tb t) (tp t r) := by
  unfold blkU UM U
  simp only [iblk1_apply, iblk3_apply, iblk4_row, iblk5_apply]

/-- The convolution's input of the eight rows after the tile. -/
theorem blkU2 (c : Dev nD) (t : Fin cfg0.N) (r : Fin 8) :
    blkU (fun r k => (iblk m c 2 t : Vec Ideal S1x8x1024 .f32) (ix3 0 r k)) (iblk m c 3 t) (iblk m c 4 t) (iblk m c 5 t) r
      = UM m c (tb t) (tn t r) := by
  unfold blkU UM U
  simp only [iblk2_apply, iblk3_apply, iblk4_row, iblk5_apply]

/-- The row before, whether it lies in the tile or in the rows before it. -/
theorem prev_eq (u : Fin 256 → EReal) (t : Fin cfg0.N) (r : Fin 256) :
    (if h : r.val = 0 then (if 0 < t.val % 1 then u (tp t 7) else 0) else u (tr t ⟨r.val - 1, by have := r.isLt; omega⟩))
      = if h : 1 ≤ (tr t r).val then u ⟨(tr t r).val - 1, by have := (tr t r).isLt; omega⟩ else 0 := by
  have hr := r.isLt
  have hv : (tr t r).val = t.val % 1 * 256 + r.val := rfl
  by_cases h : r.val = 0
  · rw [dif_pos h]
    by_cases hj : 0 < t.val % 1
    · rw [if_pos hj, dif_pos (by omega)]
      exact congrArg u (Fin.ext (by show (t.val % 1 * 32 - 1) * 8 + 7 = t.val % 1 * 256 + r.val - 1; omega))
    · rw [if_neg hj, dif_neg (by omega)]
  · rw [dif_neg h, dif_pos (by omega)]
    exact congrArg u (Fin.ext (by show t.val % 1 * 256 + (r.val - 1) = t.val % 1 * 256 + r.val - 1; omega))

/-- The row after, whether it lies in the tile or in the rows after it. -/
theorem next_eq (u : Fin 256 → EReal) (t : Fin cfg0.N) (r : Fin 256) :
    (if h : r.val = 255 then (if t.val % 1 < 0 then u (tn t 0) else 0) else u (tr t ⟨r.val + 1, by have := r.isLt; omega⟩))
      = if h : (tr t r).val + 1 < 256 then u ⟨(tr t r).val + 1, h⟩ else 0 := by
  have hr := r.isLt
  have hv : (tr t r).val = t.val % 1 * 256 + r.val := rfl
  by_cases h : r.val = 255
  · rw [dif_pos h]
    by_cases hj : t.val % 1 < 0
    · rw [if_pos hj, dif_pos (by omega)]
      exact congrArg u (Fin.ext (by show min ((t.val % 1 + 1) * 32) 31 * 8 + 0 = t.val % 1 * 256 + r.val + 1; omega))
    · rw [if_neg hj, dif_neg (by omega)]
  · rw [dif_neg h, dif_pos (by omega)]
    exact congrArg u (Fin.ext (by show t.val % 1 * 256 + (r.val + 1) = t.val % 1 * 256 + r.val + 1; omega))

/-- The value the result array is shown to hold. -/
abbrev res (c : Dev nD) : FVec Ideal S8x256x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point writes back is its block of the whole result. -/
theorem flushed_eq (c : Dev nD) (t : Fin cfg0.N) :
    (dats m 0 c).flushed 8 t = (win0_8.blk t).view.read (Elt Ideal) (res m c) := by
  rw [Value.flushed8]
  funext i
  obtain ⟨a, r, k, rfl⟩ : ∃ (a : Fin 1) (r : Fin 256) (k : Fin 1024), i = ix3 a r k := ⟨i 0, i 1, i 2, eq_ix3 i⟩
  have hi := (idx_facts t).2.2.2.2.2.2.2.2
  refine (out_apply _ _ _ _ _ _ _ _ _ a r k).trans ?_
  rw [View.read_apply]
  have e : (win0_8.blk t).view.emb (ix3 a r k) = ix3 (tb t) (tr t r) k := by
    funext d
    apply Fin.ext
    match d with
    | ⟨0, _⟩ => show win0_8.index t 0 * 1 + 1 * a.val = t.val / 1; rw [hi.1]; omega
    | ⟨1, _⟩ => show win0_8.index t 1 * 256 + 1 * r.val = t.val % 1 * 256 + r.val; rw [hi.2.1]; omega
    | ⟨2, _⟩ => show win0_8.index t 2 * 1024 + 1 * k.val = k.val; rw [hi.2.2]; omega
  rw [e]
  show _ = elt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tb t) (tr t r) k
  unfold elt Uprev Unext
  rw [coord_tile]
  simp only [blkU0, blkU1, blkU2, fun f => prev_eq (fun r => UM m c (tb t) r f) t r, fun f => next_eq (fun r => UM m c (tb t) r f) t r]
  simp only [iblk0_apply, iblk3_apply, iblk4_row, iblk5_apply, iblk6_apply, iblk7_apply]

/-- The result's blocks, by their rows. -/
theorem mem_blk (t : Fin cfg0.N) (i : S8x256x1024.Idx) :
    i ∈ ((cfg0.win 8).blk t).view.set
      ↔ (i 0 : Nat) = t.val / 1 ∧ t.val % 1 * 256 ≤ (i 1 : Nat) ∧ (i 1 : Nat) < t.val % 1 * 256 + 256 := by
  show i ∈ ((View.whole main_v1).slice (win0_8.rect t)).set ↔ _
  have hi := (idx_facts t).2.2.2.2.2.2.2.2
  have h2 : (i 2 : Nat) < 1024 := (i 2).isLt
  rw [View.set_slice_whole, Rect.mem_set_unit]
  refine ⟨fun h => ?_, fun h a => ?_⟩
  · have a0 : win0_8.index t 0 * 1 ≤ (i 0 : Nat) ∧ (i 0 : Nat) < win0_8.index t 0 * 1 + 1 := h 0
    have a1 : win0_8.index t 1 * 256 ≤ (i 1 : Nat) ∧ (i 1 : Nat) < win0_8.index t 1 * 256 + 256 := h 1
    rw [hi.1] at a0
    rw [hi.2.1] at a1
    omega
  · match a with
    | ⟨0, _⟩ => show win0_8.index t 0 * 1 ≤ (i 0 : Nat) ∧ (i 0 : Nat) < win0_8.index t 0 * 1 + 1; rw [hi.1]; omega
    | ⟨1, _⟩ => show win0_8.index t 1 * 256 ≤ (i 1 : Nat) ∧ (i 1 : Nat) < win0_8.index t 1 * 256 + 256; rw [hi.2.1]; omega
    | ⟨2, _⟩ => show win0_8.index t 2 * 1024 ≤ (i 2 : Nat) ∧ (i 2 : Nat) < win0_8.index t 2 * 1024 + 1024; rw [hi.2.2]; omega

/-- Every index of the result lies in the block of a grid point that writes it back. -/
theorem cover (i : S8x256x1024.Idx) :
    ∃ t : Fin cfg0.N, (cfg0.win 8).flush t = true ∧ i ∈ ((cfg0.win 8).blk t).view.set := by
  have h0 : (i 0 : Nat) < 8 := (i 0).isLt
  have h1 : (i 1 : Nat) < 256 := (i 1).isLt
  have hN : cfg0.N = 8 := N_0
  refine ⟨⟨(i 0).val * 1 + (i 1).val / 256, by omega⟩, flush0_8 _, ?_⟩
  rw [mem_blk]
  dsimp only
  omega

/-- The result array after the run. -/
theorem final (c : Dev nD) : (dats m 0 c).arrAt 8 cfg0.N = res m c :=
  Dat.arrAt_eq_of_cover (dats m 0 c) 8 (res m c) (fun t _ => flushed_eq m c t) cover

end Cert.ConvCtxIdeal.RefValue

/-! ## The reference -/

namespace Cert.ConvCtxRefIdeal.RefValue

open Cert.ConvCtxRefIdeal Cert.ConvCtxRefIdeal.Read
open Cert.FfnIdeal.RefValue (rms hid proj)
open Cert.ConvCtxIdeal.RefValue (U Uprev Unext elt)
open Cert.ConvIdeal.RefValue (prod conv)

variable (x0 : FVec Ideal S8x256x1024 .f32) (x1 : FVec Ideal S1x3x1024 .f32) (x2 : FVec Ideal S1024 .f32)
  (x3 : FVec Ideal S1024x3072 .bf16) (x4 : FVec Ideal S3x1024 .f32) (x5 : FVec Ideal S1024x1024 .bf16)

/-- The reference's hidden rows. -/
theorem ref_hid (b : Fin 8) (r : Fin 256) (k : Fin 1024) :
    val_main_v20 (F := Ideal) x0 x1 x2 (ix3 b r k)
      = hid (fun k => x0 (ix3 b r k)) (fun k => x2 (ix1 k)) (fun k => x1 (ix3 0 1 k)) (fun k => x1 (ix3 0 0 k)) k := by
  unfold hid rms
  rw [← mul_assoc]
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The reference's first projection. -/
theorem ref_proj (b : Fin 8) (r : Fin 256) (f : Fin 3072) :
    val_main_v23 (F := Ideal) x0 x1 x2 x3 (ix3 b r f)
      = proj (hid (fun k => x0 (ix3 b r k)) (fun k => x2 (ix1 k)) (fun k => x1 (ix3 0 1 k)) (fun k => x1 (ix3 0 0 k)))
          fun j => x3 (ix2 j f) := by
  unfold val_main_v23 proj
  simp only [← ref_hid]
  generalize val_main_v20 (F := Ideal) x0 x1 x2 = h
  pointwise [val_main_v21]

/-- The reference's convolution input. -/
theorem ref_u (b : Fin 8) (r : Fin 256) (k : Fin 1024) :
    val_main_v27 (F := Ideal) x0 x1 x2 x3 (ix3 b r k) = U x0 x1 x2 x3 b r k := by
  unfold U prod
  rw [← ref_proj, ← ref_proj]
  unfold val_main_v27 val_main_v26 val_main_v25
  generalize val_main_v23 (F := Ideal) x0 x1 x2 x3 = h
  pointwise

/-- The integer zero the reference pads with, as a number. -/
theorem pad_zero : (FloatOps.sitofp FTy.f32 0#32 : Ideal .f32) = (0 : EReal) := by
  show ((((0#32 : BitVec 32).toInt : ℤ) : ℝ) : EReal) = 0
  simp

/-- The reference's convolution, from its input. -/
theorem ref_conv (b : Fin 8) (r : Fin 256) (k : Fin 1024) :
    val_main_v48 (F := Ideal) x0 x1 x2 x3 x4 (ix3 b r k)
      = x4 (ix2 0 k) * Uprev x0 x1 x2 x3 b r k + x4 (ix2 1 k) * U x0 x1 x2 x3 b r k + x4 (ix2 2 k) * Unext x0 x1 x2 x3 b r k := by
  have hr := r.isLt
  have e : val_main_v48 (F := Ideal) x0 x1 x2 x3 x4 (ix3 b r k)
      = x4 (ix2 0 k) * (if h : 1 ≤ r.val ∧ r.val - 1 < 256 then val_main_v27 (F := Ideal) x0 x1 x2 x3 (ix3 b ⟨r.val - 1, h.2⟩ k)
            else (FloatOps.sitofp FTy.f32 0#32 : Ideal .f32))
          + x4 (ix2 1 k) * val_main_v27 (F := Ideal) x0 x1 x2 x3 (ix3 b r k)
          + x4 (ix2 2 k) * (if h : 1 ≤ 2 + r.val ∧ 2 + r.val - 1 < 256 then val_main_v27 (F := Ideal) x0 x1 x2 x3 (ix3 b ⟨2 + r.val - 1, h.2⟩ k)
            else (FloatOps.sitofp FTy.f32 0#32 : Ideal .f32)) := by
    unfold val_main_v48 val_main_v47 val_main_v46 val_main_v45 val_main_v44 val_main_v43 val_main_v42 val_main_v41 val_main_v40
      val_main_v39 val_main_v38 val_main_v37 val_main_v36 val_main_v35 val_main_v34 val_main_v33 val_main_v32 val_main_v31
      val_main_v30 val_main_v29 val_main_v28
    generalize val_main_v27 (F := Ideal) x0 x1 x2 x3 = u
    pointwise [val_main_call0_v0, val_main_c]
  rw [e, pad_zero]
  simp only [ref_u]
  have e1 : (if h : 1 ≤ r.val ∧ r.val - 1 < 256 then U x0 x1 x2 x3 b ⟨r.val - 1, h.2⟩ k else 0) = Uprev x0 x1 x2 x3 b r k := by
    unfold Uprev
    by_cases h : 1 ≤ r.val
    · rw [dif_pos h, dif_pos ⟨h, by omega⟩]
    · rw [dif_neg h, dif_neg (by omega)]
  have e2 : (if h : 1 ≤ 2 + r.val ∧ 2 + r.val - 1 < 256 then U x0 x1 x2 x3 b ⟨2 + r.val - 1, h.2⟩ k else 0) = Unext x0 x1 x2 x3 b r k := by
    unfold Unext
    by_cases h : r.val + 1 < 256
    · rw [dif_pos h, dif_pos ⟨by omega, by omega⟩]
      exact congrArg (fun q => U x0 x1 x2 x3 b q k) (Fin.ext (by show 2 + r.val - 1 = r.val + 1; omega))
    · rw [dif_neg h, dif_neg (by omega)]
  rw [e1, e2]

/-- The reference's result is the same function of the arguments. -/
theorem ref_eq : val_main_v54 (F := Ideal) x0 x1 x2 x3 x4 x5 = Cert.ConvCtxIdeal.RefValue.G x0 x1 x2 x3 x4 x5 := by
  funext i
  obtain ⟨b, r, k, rfl⟩ : ∃ (b : Fin 8) (r : Fin 256) (k : Fin 1024), i = ix3 b r k := ⟨i 0, i 1, i 2, eq_ix3 i⟩
  show _ = elt x0 x1 x2 x3 x4 x5 b r k
  unfold elt conv
  simp only [← ref_proj, ← ref_conv]
  unfold val_main_v54 val_main_v53 val_main_v50 val_main_v49 val_main_v24
  generalize val_main_v48 (F := Ideal) x0 x1 x2 x3 x4 = h
  generalize val_main_v23 (F := Ideal) x0 x1 x2 x3 = p
  pointwise [val_main_v52, val_main_v51, val_main_v22]

end Cert.ConvCtxRefIdeal.RefValue

namespace Cert.Proof

/-- The convolution mixer of the context stream and its reference compute one array. -/
theorem algebraic_conv_ctx : Cert.algebraic_ConvCtxIdeal_ConvCtxRefIdeal := by
  intro m ρ m' ρ' _ hagree
  refine ⟨fun c => Cert.ConvCtxIdeal.RefValue.res m c, ?_, ?_⟩
  · exact (θ_run Cert.ConvCtxIdeal.defs _ _).mono
      (fun _ h c => ⟨(h c).1.trans (Cert.ConvCtxIdeal.RefValue.final m c), (h c).2⟩)
      (Cert.ConvCtxIdeal.Value.run_blocks (F := Ideal) m ρ)
  · refine (θ_run Cert.ConvCtxRefIdeal.defs _ _).mono
      (fun _ h c => ⟨(h c).1.trans ?_, (h c).2⟩) (Cert.ConvCtxRefIdeal.Value.run (F := Ideal) m' ρ')
    rw [Cert.ConvCtxRefIdeal.Read.val_main_v54_eq, Cert.ConvCtxRefIdeal.RefValue.ref_eq, (hagree c).1, (hagree c).2.1, (hagree c).2.2.1,
      (hagree c).2.2.2.1, (hagree c).2.2.2.2.1, (hagree c).2.2.2.2.2]

end Cert.Proof

end
-- ==== Proof.OprojCtx.lean ====
/-
  The output projection of the context stream: what the kernel leaves in its result array, what the reference computes,
  and that they are one function of the arguments.
-/
module

public import proofs.«01_k».proof.Defs
public import proofs.«01_k».proof.Proof.Gen.OprojCtx.Frame
public import proofs.«01_k».proof.Proof.Gen.OprojCtxIdeal.Frame
public import proofs.«01_k».proof.Proof.Gen.OprojCtxIdeal.Value
public import proofs.«01_k».proof.Proof.Gen.OprojCtxRefIdeal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.OprojCtxIdeal.RefValue

open Cert.OprojCtxIdeal Cert.OprojCtxIdeal.Gen

variable (m : (ℓ : Loc nD τ sig) → Buf (Elt Ideal) ℓ) (ρ : Dev nD → PrngReg)

/-- One token's projection with its gate and residual: the function both programs compute. -/
def G (x : FVec Ideal S8x256x1024 .f32) (o : FVec Ideal S8x256x1024 .bf16) (mod : FVec Ideal S1x3x1024 .f32)
    (w : FVec Ideal S1024x1024 .bf16) : FVec Ideal S8x256x1024 .f32 := fun i =>
  x i + mod (ix3 0 2 (i 2)) * ∑ k : Fin 1024, o (ix3 (i 0) (i 1) k) * w (ix2 k (i 2))

/-- The batch entry a grid point works on. -/
def tb (t : Fin cfg0.N) : Fin 8 := ⟨t.val, by have : cfg0.N = 8 := N_0; have := t.isLt; omega⟩
/-- Where each window stands at a grid point. -/
theorem idx_facts : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0)
    ∧ (win0_4.index t 0 = t.val ∧ win0_4.index t 1 = 0 ∧ win0_4.index t 2 = 0) := by
  decide +kernel

/-- The residual's block, read in the array. -/
theorem iblk0_apply (c : Dev nD) (t : Fin cfg0.N) (a : Fin 1) (r : Fin 256) (k : Fin 1024) :
    (iblk m c 0 t : Vec Ideal S1x256x1024 .f32) (ix3 a r k) = m ((c : Thread nD τ).loc main_arg0) (ix3 (tb t) r k) := by
  have hi := (idx_facts t).1
  unfold iblk
  rw [View.read_apply]
  show V m c main_arg0 _ = m (c.tc.loc main_arg0) _
  unfold V
  congr 1
  funext d
  apply Fin.ext
  match d with
  | ⟨0, _⟩ => show win0_0.index t 0 * 1 + 1 * a.val = t.val; rw [hi.1]; omega
  | ⟨1, _⟩ => show win0_0.index t 1 * 256 + 1 * r.val = r.val; rw [hi.2.1]; omega
  | ⟨2, _⟩ => show win0_0.index t 2 * 1024 + 1 * k.val = k.val; rw [hi.2.2]; omega

/-- The attention output's block, read in the array. -/
theorem iblk1_apply (c : Dev nD) (t : Fin cfg0.N) (a : Fin 1) (r : Fin 256) (k : Fin 1024) :
    (iblk m c 1 t : Vec Ideal S1x256x1024 .bf16) (ix3 a r k) = m ((c : Thread nD τ).loc main_arg1) (ix3 (tb t) r k) := by
  have hi := (idx_facts t).2.1
  unfold iblk
  rw [View.read_apply]
  show V m c main_arg1 _ = m (c.tc.loc main_arg1) _
  unfold V
  congr 1
  funext d
  apply Fin.ext
  match d with
  | ⟨0, _⟩ => show win0_1.index t 0 * 1 + 1 * a.val = t.val; rw [hi.1]; omega
  | ⟨1, _⟩ => show win0_1.index t 1 * 256 + 1 * r.val = r.val; rw [hi.2.1]; omega
  | ⟨2, _⟩ => show win0_1.index t 2 * 1024 + 1 * k.val = k.val; rw [hi.2.2]; omega

/-- The modulation block, read in the array. -/
theorem iblk2_apply (c : Dev nD) (t : Fin cfg0.N) (a : Fin 1) (r : Fin 3) (k : Fin 1024) :
    (iblk m c 2 t : Vec Ideal S1x3x1024 .f32) (ix3 a r k) = m ((c : Thread nD τ).loc main_arg2) (ix3 0 r k) := by
  have hi := (idx_facts t).2.2.1
  unfold iblk
  rw [View.read_apply]
  show V m c main_arg2 _ = m (c.tc.loc main_arg2) _
  unfold V
  congr 1
  funext d
  apply Fin.ext
  match d with
  | ⟨0, _⟩ => show win0_2.index t 0 * 1 + 1 * a.val = 0; rw [hi.1]; omega
  | ⟨1, _⟩ => show win0_2.index t 1 * 3 + 1 * r.val = r.val; rw [hi.2.1]; omega
  | ⟨2, _⟩ => show win0_2.index t 2 * 1024 + 1 * k.val = k.val; rw [hi.2.2]; omega

/-- The weight's block is the weight. -/
theorem iblk3_apply (c : Dev nD) (t : Fin cfg0.N) (r : Fin 1024) (k : Fin 1024) :
    (iblk m c 3 t : Vec Ideal S1024x1024 .bf16) (ix2 r k) = m ((c : Thread nD τ).loc main_arg3) (ix2 r k) := by
  have hi := (idx_facts t).2.2.2.1
  unfold iblk
  rw [View.read_apply]
  show V m c main_arg3 _ = m (c.tc.loc main_arg3) _
  unfold V
  congr 1
  funext d
  apply Fin.ext
  match d with
  | ⟨0, _⟩ => show win0_3.index t 0 * 1024 + 1 * r.val = r.val; rw [hi.1]; omega
  | ⟨1, _⟩ => show win0_3.index t 1 * 1024 + 1 * k.val = k.val; rw [hi.2]; omega

/-- The stored tile, read at a row and a column. -/
theorem pay_apply (x : Vec Ideal S1x256x1024 .f32) (g : Vec Ideal S1x1x1024 .f32) (o : Vec Ideal S1x256x1024 .bf16)
    (w : Vec Ideal S1024x1024 .bf16) (a : Fin 1) (r : Fin 256) (k : Fin 1024) :
    k0_pay1 x g o w (ix3 a r k) = x (ix3 0 r k) + g (ix3 0 0 k) * ∑ j : Fin 1024, o (ix3 0 r j) * w (ix2 j k) := by
  pointwise [k0_pay1]

/-- Offsets that are all zero, on two axes. -/
theorem hz2 : (![0, 0] : Fin 2 → Nat) = fun _ => 0 := funext fun a => by fin_cases a <;> rfl
/-- Offsets that are all zero, on three axes. -/
theorem hz3 : (![0, 0, 0] : Fin 3 → Nat) = fun _ => 0 := funext fun a => by fin_cases a <;> rfl

/-- What one grid point leaves in the result's tile, read at a row and a column. -/
theorem out_apply (x0 : Vec Ideal S1x256x1024 .f32) (x1 : Vec Ideal S1x256x1024 .bf16) (x2 : Vec Ideal S1x3x1024 .f32)
    (x3 : Vec Ideal S1024x1024 .bf16) (a : Fin 1) (r : Fin 256) (k : Fin 1024) :
    out0_4 x0 x1 x2 x3 (ix3 a r k) = x0 (ix3 0 r k) + x2 (ix3 0 2 k) * ∑ j : Fin 1024, x1 (ix3 0 r j) * x3 (ix2 j k) := by
  unfold out0_4
  rw [View.canon_unit_zero hz3, View.ld_unit_zero hz3, View.ld_unit_zero hz3, View.ld_unit_zero hz2, pay_apply]
  pointwise

/-- The value the result array is shown to hold. -/
abbrev res (c : Dev nD) : FVec Ideal S8x256x1024 .f32 :=
  G (m ((c : Thread nD τ).loc main_arg0)) (m ((c : Thread nD τ).loc main_arg1)) (m ((c : Thread nD τ).loc main_arg2))
    (m ((c : Thread nD τ).loc main_arg3))

/-- What a grid point writes back is its block of the whole result. -/
theorem flushed_eq (c : Dev nD) (t : Fin cfg0.N) :
    (dats m 0 c).flushed 4 t = (win0_4.blk t).view.read (Elt Ideal) (res m c) := by
  rw [Value.flushed4]
  funext i
  obtain ⟨a, r, k, rfl⟩ : ∃ (a : Fin 1) (r : Fin 256) (k : Fin 1024), i = ix3 a r k := ⟨i 0, i 1, i 2, eq_ix3 i⟩
  have hi := (idx_facts t).2.2.2.2
  refine (out_apply _ _ _ _ a r k).trans ?_
  rw [View.read_apply]
  have e : (win0_4.blk t).view.emb (ix3 a r k) = ix3 (tb t) r k := by
    funext d
    apply Fin.ext
    match d with
    | ⟨0, _⟩ => show win0_4.index t 0 * 1 + 1 * a.val = t.val; rw [hi.1]; omega
    | ⟨1, _⟩ => show win0_4.index t 1 * 256 + 1 * r.val = r.val; rw [hi.2.1]; omega
    | ⟨2, _⟩ => show win0_4.index t 2 * 1024 + 1 * k.val = k.val; rw [hi.2.2]; omega
  rw [e]
  simp only [iblk0_apply, iblk1_apply, iblk2_apply, iblk3_apply]
  rfl

/-- The result's blocks, by their rows. -/
theorem mem_blk (t : Fin cfg0.N) (i : S8x256x1024.Idx) :
    i ∈ ((cfg0.win 4).blk t).view.set
      ↔ (i 0 : Nat) = t.val ∧ 0 ≤ (i 1 : Nat) ∧ (i 1 : Nat) < 0 + 256 := by
  show i ∈ ((View.whole main_v0).slice (win0_4.rect t)).set ↔ _
  have hi := (idx_facts t).2.2.2.2
  have h2 : (i 2 : Nat) < 1024 := (i 2).isLt
  rw [View.set_slice_whole, Rect.mem_set_unit]
  refine ⟨fun h => ?_, fun h a => ?_⟩
  · have a0 : win0_4.index t 0 * 1 ≤ (i 0 : Nat) ∧ (i 0 : Nat) < win0_4.index t 0 * 1 + 1 := h 0
    have a1 : win0_4.index t 1 * 256 ≤ (i 1 : Nat) ∧ (i 1 : Nat) < win0_4.index t 1 * 256 + 256 := h 1
    rw [hi.1] at a0
    rw [hi.2.1] at a1
    omega
  · match a with
    | ⟨0, _⟩ => show win0_4.index t 0 * 1 ≤ (i 0 : Nat) ∧ (i 0 : Nat) < win0_4.index t 0 * 1 + 1; rw [hi.1]; omega
    | ⟨1, _⟩ => show win0_4.index t 1 * 256 ≤ (i 1 : Nat) ∧ (i 1 : Nat) < win0_4.index t 1 * 256 + 256; rw [hi.2.1]; omega
    | ⟨2, _⟩ => show win0_4.index t 2 * 1024 ≤ (i 2 : Nat) ∧ (i 2 : Nat) < win0_4.index t 2 * 1024 + 1024; rw [hi.2.2]; omega

/-- Every index of the result lies in the block of a grid point that writes it back. -/
theorem cover (i : S8x256x1024.Idx) :
    ∃ t : Fin cfg0.N, (cfg0.win 4).flush t = true ∧ i ∈ ((cfg0.win 4).blk t).view.set := by
  have h0 : (i 0 : Nat) < 8 := (i 0).isLt
  have h1 : (i 1 : Nat) < 256 := (i 1).isLt
  have hN : cfg0.N = 8 := N_0
  refine ⟨⟨(i 0).val, by omega⟩, flush0_4 _, ?_⟩
  rw [mem_blk]
  dsimp only
  omega

/-- The result array after the run. -/
theorem final (c : Dev nD) : (dats m 0 c).arrAt 4 cfg0.N = res m c :=
  Dat.arrAt_eq_of_cover (dats m 0 c) 4 (res m c) (fun t _ => flushed_eq m c t) cover

end Cert.OprojCtxIdeal.RefValue

namespace Cert.OprojCtxRefIdeal.RefValue

open Cert.OprojCtxRefIdeal Cert.OprojCtxRefIdeal.Read

/-- The reference's result is the same function of the arguments. -/
theorem ref_eq (x : FVec Ideal S8x256x1024 .f32) (o : FVec Ideal S8x256x1024 .bf16) (mod : FVec Ideal S1x3x1024 .f32)
    (w : FVec Ideal S1024x1024 .bf16) : val_main_v6 (F := Ideal) x o mod w = Cert.OprojCtxIdeal.RefValue.G x o mod w := by
  funext i
  obtain ⟨b, r, k, rfl⟩ : ∃ (b : Fin 8) (r : Fin 256) (k : Fin 1024), i = ix3 b r k := ⟨i 0, i 1, i 2, eq_ix3 i⟩
  show _ = x (ix3 b r k) + mod (ix3 0 2 k) * ∑ j : Fin 1024, o (ix3 b r j) * w (ix2 j k)
  pointwise [val_main_v6, val_main_v5, val_main_v4, val_main_v3, val_main_v2, val_main_v1, val_main_v0]

end Cert.OprojCtxRefIdeal.RefValue

namespace Cert.Proof

/-- The output projection of the context stream and its reference compute one array. -/
theorem algebraic_oproj_ctx : Cert.algebraic_OprojCtxIdeal_OprojCtxRefIdeal := by
  intro m ρ m' ρ' _ hagree
  refine ⟨fun c => Cert.OprojCtxIdeal.RefValue.res m c, ?_, ?_⟩
  · exact (θ_run Cert.OprojCtxIdeal.defs _ _).mono
      (fun _ h c => ⟨(h c).1.trans (Cert.OprojCtxIdeal.RefValue.final m c), (h c).2⟩)
      (Cert.OprojCtxIdeal.Value.run_blocks (F := Ideal) m ρ)
  · refine (θ_run Cert.OprojCtxRefIdeal.defs _ _).mono
      (fun _ h c => ⟨(h c).1.trans ?_, (h c).2⟩) (Cert.OprojCtxRefIdeal.Value.run (F := Ideal) m' ρ')
    rw [Cert.OprojCtxRefIdeal.Read.val_main_v6_eq, Cert.OprojCtxRefIdeal.RefValue.ref_eq, (hagree c).1, (hagree c).2.1, (hagree c).2.2.1,
      (hagree c).2.2.2]

end Cert.Proof

end
-- ==== Proof.AttnCtx.lean ====
/-
  The attention core of the context stream: what the kernel leaves in its result array, what the reference computes, and
  that they are one function of the arguments wherever the queries and the keys are finite.
-/
module

public import proofs.«01_k».proof.Defs
public import proofs.«01_k».proof.Proof.Attn
public import proofs.«01_k».proof.Proof.Gen.AttnCtxIdeal.Frame
public import proofs.«01_k».proof.Proof.Gen.AttnCtxIdeal.Value
public import proofs.«01_k».proof.Proof.Gen.AttnCtxRefIdeal.Read
public import proofs.«01_k».proof.Proof.Gen.Pre_finite_ctx
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.AttnCtxIdeal.RefValue

open Cert.AttnCtxIdeal Cert.AttnCtxIdeal.Gen

open Cert.AttnIdeal.RefValue (ql kl dl stack)

/-! ## One query -/

/-- The mean of the values `v` weighted by `2 ^ (s - max s)`, divided once by the sum of the weights. -/
def core (s v : Fin 256 → EReal) : EReal :=
  Ideal.div (∑ j, Ideal.exp2 (s j - Finset.univ.fold max (Ideal.ofBits FTy.f32 0xFF800000#32) s) * v j)
    (∑ j, Ideal.exp2 (s j - Finset.univ.fold max (Ideal.ofBits FTy.f32 0xFF800000#32) s))

/-- The scores of one query against every key. -/
def score (q : FVec Ideal S8x256x1024 .bf16) (k : FVec Ideal S8x256x256 .bf16) (b : Fin 8) (r : Fin 256) (l : Fin 1024)
    (j : Fin 256) : EReal := ∑ c : Fin 128, q (ix3 b r (ql l c)) * k (ix3 b j (kl l c))

/-- The function of the argument arrays both programs compute. -/
def G (q : FVec Ideal S8x256x1024 .bf16) (k v : FVec Ideal S8x256x256 .bf16) : FVec Ideal S8x256x1024 .bf16 := fun i =>
  core (score q k (i 0) (i 1) (i 2)) fun j => v (ix3 (i 0) j (kl (i 2) (dl (i 2))))

/-! ## The kernel's tile -/

/-- The stacked result at a row and a column. -/
theorem pay4_apply (v0 v2 v4 v6 : Vec Ideal S1x128x128 .bf16) (v9 v20 : Vec Ideal S1x256x128 .bf16) (R : Fin 512) (d : Fin 128) :
    k0_pay4 v0 v2 v4 v6 v9 v20 (ix2 R d)
      = core (fun j => ∑ c : Fin 128, stack v0 v2 v4 v6 R c * v9 (ix3 0 j c)) fun j => v20 (ix3 0 j d) := by
  unfold core stack
  pointwise [k0_pay4]
  rfl

/-- The first head stored: the first 128 rows of the four heads stacked. -/
theorem pay5_apply (v0 v2 v4 v6 : Vec Ideal S1x128x128 .bf16) (v9 v20 : Vec Ideal S1x256x128 .bf16) (a : Fin 1) (r d : Fin 128) :
    k0_pay5 v0 v2 v4 v6 v9 v20 (ix3 a r d) = k0_pay4 v0 v2 v4 v6 v9 v20 (ix2 ⟨r.val, by have := r.isLt; omega⟩ d) := by
  unfold k0_pay5
  generalize k0_pay4 v0 v2 v4 v6 v9 v20 = p
  pointwise

/-- The second head stored: the next 128 rows of the four heads stacked. -/
theorem pay16_apply (v0 v2 v4 v6 : Vec Ideal S1x128x128 .bf16) (v9 v20 : Vec Ideal S1x256x128 .bf16) (a : Fin 1) (r d : Fin 128) :
    k0_pay1 (k0_pay6 v0 v2 v4 v6 v9 v20) (ix3 a r d)
      = k0_pay4 v0 v2 v4 v6 v9 v20 (ix2 ⟨128 + r.val, by have := r.isLt; omega⟩ d) := by
  unfold k0_pay6
  generalize k0_pay4 v0 v2 v4 v6 v9 v20 = p
  pointwise [k0_pay1]

/-- The third head stored: the third 128 rows of the four heads stacked. -/
theorem pay2_apply (p : FVec Ideal S512x128 .f32) (a : Fin 1) (r d : Fin 128) :
    k0_pay2 p (ix3 a r d) = p (ix2 ⟨256 + r.val, by have := r.isLt; omega⟩ d) := by
  pointwise [k0_pay2]

/-- The fourth head stored: the last 128 rows of the four heads stacked. -/
theorem pay3_apply (p : FVec Ideal S512x128 .f32) (a : Fin 1) (r d : Fin 128) :
    k0_pay3 p (ix3 a r d) = p (ix2 ⟨384 + r.val, by have := r.isLt; omega⟩ d) := by
  pointwise [k0_pay3]

/-- Offsets that are all zero, on three axes. -/
theorem hz3 : (![0, 0, 0] : Fin 3 → Nat) = fun _ => 0 := funext fun a => by fin_cases a <;> rfl

/-- One query of a block. -/
def blkG (x0 : Vec Ideal S1x128x512 .bf16) (x1 x2 : Vec Ideal S1x256x128 .bf16) (r : Fin 128) (l : Fin 512) : EReal :=
  core (fun j => ∑ c : Fin 128, x0 (ix3 0 r ⟨l.val / 128 * 128 + c.val, by have := l.isLt; have := c.isLt; omega⟩) * x1 (ix3 0 j c))
    fun j => x2 (ix3 0 j ⟨l.val % 128, by omega⟩)

/-- The stacked heads at a row of head `h` are the columns of that head. -/
theorem stack_ld (x0 : Vec Ideal S1x128x512 .bf16) (h : Nat) (hh : h < 4) (r d c : Fin 128) (R : Fin 512) (l : Fin 512)
    (hR : R.val = h * 128 + r.val) (hl : l.val = h * 128 + d.val) :
    stack (View.ld x0 r0_0) (View.ld x0 r0_1) (View.ld x0 r0_2) (View.ld x0 r0_3) R c
      = x0 (ix3 0 r ⟨l.val / 128 * 128 + c.val, by have := l.isLt; have := c.isLt; omega⟩) := by
  obtain ⟨R, hR'⟩ := R
  obtain ⟨l, hl'⟩ := l
  have hr := r.isLt
  have hd := d.isLt
  have hc := c.isLt
  dsimp only at hR hl
  subst hR hl
  unfold stack
  dsimp only
  have e : (h * 128 + d.val) / 128 * 128 = h * 128 := by omega
  simp only [e]
  interval_cases h
  · rw [dif_pos (by omega)]
    pointwise
    all_goals (congr 1; idx_ext <;> omega)
  · rw [dif_neg (by omega), dif_pos (by omega)]
    pointwise
    all_goals (congr 1; idx_ext <;> omega)
  · rw [dif_neg (by omega), dif_neg (by omega), dif_pos (by omega)]
    pointwise
    all_goals (congr 1; idx_ext <;> omega)
  · rw [dif_neg (by omega), dif_neg (by omega), dif_neg (by omega)]
    pointwise
    all_goals (congr 1; idx_ext <;> omega)

/-- A row of head `h` of the stacked result is a query of the block. -/
theorem head_apply (x0 : Vec Ideal S1x128x512 .bf16) (x1 x2 : Vec Ideal S1x256x128 .bf16) (h : Nat) (hh : h < 4) (r d : Fin 128)
    (R : Fin 512) (l : Fin 512) (hR : R.val = h * 128 + r.val) (hl : l.val = h * 128 + d.val) :
    k0_pay4 (View.ld x0 r0_0) (View.ld x0 r0_1) (View.ld x0 r0_2) (View.ld x0 r0_3) (View.ld x1 r0_4) (View.ld x2 r0_4) (ix2 R d)
      = blkG x0 x1 x2 r l := by
  rw [pay4_apply, View.ld_unit_zero hz3, View.ld_unit_zero hz3]
  unfold blkG
  have e : (⟨l.val % 128, by omega⟩ : Fin 128) = d := Fin.ext (by have := d.isLt; show l.val % 128 = d.val; omega)
  simp only [stack_ld x0 h hh r d _ R l hR hl, e]

/-- What one grid point leaves in the result's tile, read at a row and a column. -/
theorem out_apply (x0 : Vec Ideal S1x128x512 .bf16) (x1 x2 : Vec Ideal S1x256x128 .bf16) (a : Fin 1) (r : Fin 128) (l : Fin 512) :
    out0_3 x0 x1 x2 (ix3 a r l) = blkG x0 x1 x2 r l := by
  unfold out0_3
  refine View.canon_apply_of_pieces (Val := Elt Ideal) (e := .bf16) (S := S1x128x512) (fun y => blkG x0 x1 x2 (y 1) (y 2)) _ ?_ (ix3 a r l) ?_
  · simp only [List.mem_cons, List.not_mem_nil, or_false]
    rintro p (rfl | rfl | rfl | rfl) x
    all_goals
      obtain ⟨a, r, d, rfl⟩ : ∃ (a : Fin 1) (r d : Fin 128), x = ix3 a r d := ⟨x 0, x 1, x 2, eq_ix3 x⟩
      have hd := d.isLt
      dsimp only
    · refine (pay3_apply _ a r d).trans ((head_apply x0 x1 x2 3 (by omega) r d ⟨384 + r.val, by have := r.isLt; omega⟩ ⟨384 + d.val, by omega⟩ rfl rfl).trans ?_)
      congr 1
      · exact Fin.ext (show r.val = 0 + 1 * r.val by omega)
      · exact Fin.ext (show 384 + d.val = 384 + 1 * d.val by omega)
    · refine (pay2_apply _ a r d).trans ((head_apply x0 x1 x2 2 (by omega) r d ⟨256 + r.val, by have := r.isLt; omega⟩ ⟨256 + d.val, by omega⟩ rfl rfl).trans ?_)
      congr 1
      · exact Fin.ext (show r.val = 0 + 1 * r.val by omega)
      · exact Fin.ext (show 256 + d.val = 256 + 1 * d.val by omega)
    · refine (pay16_apply _ _ _ _ _ _ a r d).trans ((head_apply x0 x1 x2 1 (by omega) r d ⟨128 + r.val, by have := r.isLt; omega⟩ ⟨128 + d.val, by omega⟩ (by simp) (by simp)).trans ?_)
      congr 1
      · exact Fin.ext (show r.val = 0 + 1 * r.val by omega)
      · exact Fin.ext (show 128 + d.val = 128 + 1 * d.val by omega)
    · refine (pay5_apply _ _ _ _ _ _ a r d).trans ((head_apply x0 x1 x2 0 (by omega) r d ⟨r.val, by have := r.isLt; omega⟩ ⟨d.val, by omega⟩ (by simp) (by simp)).trans ?_)
      congr 1
      · exact Fin.ext (show r.val = 0 + 1 * r.val by omega)
      · exact Fin.ext (show d.val = 0 + 1 * d.val by omega)
  · have hl := l.isLt
    have hr := r.isLt
    have ha := a.isLt
    simp only [List.mem_cons, List.not_mem_nil, or_false, exists_eq_or_imp, exists_eq_left]
    rw [Rect.mem_set_unit, Rect.mem_set_unit, Rect.mem_set_unit, Rect.mem_set_unit]
    have key : ∀ o : Nat, o ≤ l.val → l.val < o + 128 → ∀ b : Fin 3, (![0, 0, o] : Fin 3 → Nat) b ≤ ((ix3 a r l : S1x128x512.Idx) b).val
        ∧ ((ix3 a r l : S1x128x512.Idx) b).val < (![0, 0, o] : Fin 3 → Nat) b + S1x128x128.size b := by
      intro o h1 h2 b
      match b with
      | ⟨0, _⟩ => exact ⟨Nat.zero_le _, by show a.val < 0 + 1; omega⟩
      | ⟨1, _⟩ => exact ⟨Nat.zero_le _, by show r.val < 0 + 128; omega⟩
      | ⟨2, _⟩ => exact ⟨h1, h2⟩
    rcases Nat.lt_or_ge l.val 128 with h | h
    · exact Or.inr (Or.inr (Or.inr (key 0 (by omega) (by omega))))
    rcases Nat.lt_or_ge l.val 256 with h' | h'
    · exact Or.inr (Or.inr (Or.inl (key 128 (by omega) (by omega))))
    rcases Nat.lt_or_ge l.val 384 with h'' | h''
    · exact Or.inr (Or.inl (key 256 (by omega) (by omega)))
    · exact Or.inl (key 384 (by omega) (by omega))

/-! ## From the tile to the array -/

variable (m : (ℓ : Loc nD τ sig) → Buf (Elt Ideal) ℓ) (ρ : Dev nD → PrngReg)

/-- The batch entry a grid point works on. -/
def tb (t : Fin cfg0.N) : Fin 8 := ⟨t.val / 4, by have : cfg0.N = 32 := N_0; have := t.isLt; omega⟩
/-- The first row of the tile a grid point works on, plus a row of the tile. -/
def tr (t : Fin cfg0.N) (r : Fin 128) : Fin 256 := ⟨t.val % 2 * 128 + r.val, by have := r.isLt; omega⟩
/-- The query column of a grid point's group. -/
def tl (t : Fin cfg0.N) (l : Fin 512) : Fin 1024 := ⟨t.val / 2 % 2 * 512 + l.val, by have := l.isLt; omega⟩
/-- The key column of a grid point's group. -/
def tk (t : Fin cfg0.N) (d : Fin 128) : Fin 256 := ⟨t.val / 2 % 2 * 128 + d.val, by have := d.isLt; omega⟩

/-- Where each window stands at a grid point. -/
theorem idx_facts : ∀ t : Fin grid0.N,
    (win0_0.index t 0 = t.val / 4 ∧ win0_0.index t 1 = t.val % 2 ∧ win0_0.index t 2 = t.val / 2 % 2)
    ∧ (win0_1.index t 0 = t.val / 4 ∧ win0_1.index t 1 = 0 ∧ win0_1.index t 2 = t.val / 2 % 2)
    ∧ (win0_2.index t 0 = t.val / 4 ∧ win0_2.index t 1 = 0 ∧ win0_2.index t 2 = t.val / 2 % 2)
    ∧ (win0_3.index t 0 = t.val / 4 ∧ win0_3.index t 1 = t.val % 2 ∧ win0_3.index t 2 = t.val / 2 % 2) := by
  decide +kernel

/-- The queries' block, read in the array. -/
theorem iblk0_apply (c : Dev nD) (t : Fin cfg0.N) (a : Fin 1) (r : Fin 128) (k : Fin 512) :
    (iblk m c 0 t : Vec Ideal S1x128x512 .bf16) (ix3 a r k) = m ((c : Thread nD τ).loc main_arg0) (ix3 (tb t) (tr t r) (tl t k)) := by
  have hi := (idx_facts t).1
  unfold iblk
  rw [View.read_apply]
  show V m c main_arg0 _ = _
  rw [V_main_arg0]
  congr 1
  funext d
  apply Fin.ext
  match d with
  | ⟨0, _⟩ => show win0_0.index t 0 * 1 + 1 * a.val = t.val / 4; rw [hi.1]; omega
  | ⟨1, _⟩ => show win0_0.index t 1 * 128 + 1 * r.val = t.val % 2 * 128 + r.val; rw [hi.2.1]; omega
  | ⟨2, _⟩ => show win0_0.index t 2 * 512 + 1 * k.val = t.val / 2 % 2 * 512 + k.val; rw [hi.2.2]; omega

/-- The keys' block, read in the array. -/
theorem iblk1_apply (c : Dev nD) (t : Fin cfg0.N) (a : Fin 1) (r : Fin 256) (k : Fin 128) :
    (iblk m c 1 t : Vec Ideal S1x256x128 .bf16) (ix3 a r k) = m ((c : Thread nD τ).loc main_arg1) (ix3 (tb t) r (tk t k)) := by
  have hi := (idx_facts t).2.1
  unfold iblk
  rw [View.read_apply]
  show V m c main_arg1 _ = _
  rw [V_main_arg1]
  congr 1
  funext d
  apply Fin.ext
  match d with
  | ⟨0, _⟩ => show win0_1.index t 0 * 1 + 1 * a.val = t.val / 4; rw [hi.1]; omega
  | ⟨1, _⟩ => show win0_1.index t 1 * 256 + 1 * r.val = r.val; rw [hi.2.1]; omega
  | ⟨2, _⟩ => show win0_1.index t 2 * 128 + 1 * k.val = t.val / 2 % 2 * 128 + k.val; rw [hi.2.2]; omega

/-- The values' block, read in the array. -/
theorem iblk2_apply (c : Dev nD) (t : Fin cfg0.N) (a : Fin 1) (r : Fin 256) (k : Fin 128) :
    (iblk m c 2 t : Vec Ideal S1x256x128 .bf16) (ix3 a r k) = m ((c : Thread nD τ).loc main_arg2) (ix3 (tb t) r (tk t k)) := by
  have hi := (idx_facts t).2.2.1
  unfold iblk
  rw [View.read_apply]
  show V m c main_arg2 _ = _
  rw [V_main_arg2]
  congr 1
  funext d
  apply Fin.ext
  match d with
  | ⟨0, _⟩ => show win0_2.index t 0 * 1 + 1 * a.val = t.val / 4; rw [hi.1]; omega
  | ⟨1, _⟩ => show win0_2.index t 1 * 256 + 1 * r.val = r.val; rw [hi.2.1]; omega
  | ⟨2, _⟩ => show win0_2.index t 2 * 128 + 1 * k.val = t.val / 2 % 2 * 128 + k.val; rw [hi.2.2]; omega

/-- The value the result array is shown to hold. -/
abbrev res (c : Dev nD) : FVec Ideal S8x256x1024 .bf16 :=
  G (m ((c : Thread nD τ).loc main_arg0)) (m ((c : Thread nD τ).loc main_arg1)) (m ((c : Thread nD τ).loc main_arg2))

/-- A column of the block's head is a column of the head in the array. -/
theorem ql_tl (t : Fin cfg0.N) (l : Fin 512) (c : Fin 128) :
    ql (tl t l) c = tl t ⟨l.val / 128 * 128 + c.val, by have := l.isLt; have := c.isLt; omega⟩ :=
  Fin.ext (by show (t.val / 2 % 2 * 512 + l.val) / 128 * 128 + c.val = t.val / 2 % 2 * 512 + (l.val / 128 * 128 + c.val); omega)

/-- The keys' column a column of the block looks at. -/
theorem kl_tl (t : Fin cfg0.N) (l : Fin 512) (c : Fin 128) : kl (tl t l) c = tk t c :=
  Fin.ext (by have := l.isLt; show (t.val / 2 % 2 * 512 + l.val) / 512 * 128 + c.val = t.val / 2 % 2 * 128 + c.val; omega)

/-- A column's place in its head, in the block and in the array. -/
theorem dl_tl (t : Fin cfg0.N) (l : Fin 512) : dl (tl t l) = ⟨l.val % 128, by omega⟩ :=
  Fin.ext (by show (t.val / 2 % 2 * 512 + l.val) % 128 = l.val % 128; omega)

/-- What a grid point writes back is its block of the whole result. -/
theorem flushed_eq (c : Dev nD) (t : Fin cfg0.N) :
    (dats m 0 c).flushed 3 t = (win0_3.blk t).view.read (Elt Ideal) (res m c) := by
  rw [Value.flushed3]
  funext i
  obtain ⟨a, r, k, rfl⟩ : ∃ (a : Fin 1) (r : Fin 128) (k : Fin 512), i = ix3 a r k := ⟨i 0, i 1, i 2, eq_ix3 i⟩
  have hi := (idx_facts t).2.2.2
  refine (out_apply _ _ _ a r k).trans ?_
  rw [View.read_apply]
  have e : (win0_3.blk t).view.emb (ix3 a r k) = ix3 (tb t) (tr t r) (tl t k) := by
    funext d
    apply Fin.ext
    match d with
    | ⟨0, _⟩ => show win0_3.index t 0 * 1 + 1 * a.val = t.val / 4; rw [hi.1]; omega
    | ⟨1, _⟩ => show win0_3.index t 1 * 128 + 1 * r.val = t.val % 2 * 128 + r.val; rw [hi.2.1]; omega
    | ⟨2, _⟩ => show win0_3.index t 2 * 512 + 1 * k.val = t.val / 2 % 2 * 512 + k.val; rw [hi.2.2]; omega
  rw [e]
  show _ = G (m ((c : Thread nD τ).loc main_arg0)) (m ((c : Thread nD τ).loc main_arg1)) (m ((c : Thread nD τ).loc main_arg2))
    (ix3 (tb t) (tr t r) (tl t k))
  unfold blkG
  show _ = core (score (m ((c : Thread nD τ).loc main_arg0)) (m ((c : Thread nD τ).loc main_arg1)) (tb t) (tr t r) (tl t k))
    fun j => m ((c : Thread nD τ).loc main_arg2) (ix3 (tb t) j (kl (tl t k) (dl (tl t k))))
  simp only [iblk0_apply, iblk1_apply, iblk2_apply, ← ql_tl, ← kl_tl t k]
  rw [dl_tl]
  rfl

/-- The result's blocks, by their rows and columns. -/
theorem mem_blk (t : Fin cfg0.N) (i : S8x256x1024.Idx) :
    i ∈ ((cfg0.win 3).blk t).view.set
      ↔ (i 0 : Nat) = t.val / 4 ∧ (t.val % 2 * 128 ≤ (i 1 : Nat) ∧ (i 1 : Nat) < t.val % 2 * 128 + 128)
        ∧ (t.val / 2 % 2 * 512 ≤ (i 2 : Nat) ∧ (i 2 : Nat) < t.val / 2 % 2 * 512 + 512) := by
  show i ∈ ((View.whole main_v0).slice (win0_3.rect t)).set ↔ _
  have hi := (idx_facts t).2.2.2
  rw [View.set_slice_whole, Rect.mem_set_unit]
  refine ⟨fun h => ?_, fun h a => ?_⟩
  · have a0 : win0_3.index t 0 * 1 ≤ (i 0 : Nat) ∧ (i 0 : Nat) < win0_3.index t 0 * 1 + 1 := h 0
    have a1 : win0_3.index t 1 * 128 ≤ (i 1 : Nat) ∧ (i 1 : Nat) < win0_3.index t 1 * 128 + 128 := h 1
    have a2 : win0_3.index t 2 * 512 ≤ (i 2 : Nat) ∧ (i 2 : Nat) < win0_3.index t 2 * 512 + 512 := h 2
    rw [hi.1] at a0
    rw [hi.2.1] at a1
    rw [hi.2.2] at a2
    exact ⟨by omega, a1, a2⟩
  · match a with
    | ⟨0, _⟩ => show win0_3.index t 0 * 1 ≤ (i 0 : Nat) ∧ (i 0 : Nat) < win0_3.index t 0 * 1 + 1; rw [hi.1]; omega
    | ⟨1, _⟩ => show win0_3.index t 1 * 128 ≤ (i 1 : Nat) ∧ (i 1 : Nat) < win0_3.index t 1 * 128 + 128; rw [hi.2.1]; omega
    | ⟨2, _⟩ => show win0_3.index t 2 * 512 ≤ (i 2 : Nat) ∧ (i 2 : Nat) < win0_3.index t 2 * 512 + 512; rw [hi.2.2]; omega

/-- Every index of the result lies in the block of a grid point that writes it back. -/
theorem cover (i : S8x256x1024.Idx) :
    ∃ t : Fin cfg0.N, (cfg0.win 3).flush t = true ∧ i ∈ ((cfg0.win 3).blk t).view.set := by
  have h0 : (i 0 : Nat) < 8 := (i 0).isLt
  have h1 : (i 1 : Nat) < 256 := (i 1).isLt
  have h2 : (i 2 : Nat) < 1024 := (i 2).isLt
  have hN : cfg0.N = 32 := N_0
  refine ⟨⟨(i 0).val * 4 + (i 2).val / 512 * 2 + (i 1).val / 128, by omega⟩, flush0_3 _, ?_⟩
  rw [mem_blk]
  dsimp only
  omega

/-- The result array after the run. -/
theorem final (c : Dev nD) : (dats m 0 c).arrAt 3 cfg0.N = res m c :=
  Dat.arrAt_eq_of_cover (dats m 0 c) 3 (res m c) (fun t _ => flushed_eq m c t) cover

end Cert.AttnCtxIdeal.RefValue

/-! ## The reference -/

namespace Cert.AttnCtxRefIdeal.RefValue

open Cert.AttnCtxRefIdeal Cert.AttnCtxRefIdeal.Read Cert.AttnCtxRefIdeal.Gen Cert.AttnCtxIdeal.RefValue
open Cert.AttnIdeal.RefValue (ql kl dl)
open Cert.AttnRefIdeal.RefValue (ofBits_two ofBits_bot)

variable (x0 : FVec Ideal S8x256x1024 .bf16) (x1 x2 : FVec Ideal S8x256x256 .bf16)

/-- The result as a sum of weighted values. -/
theorem ref_out (b : Fin 8) (r : Fin 256) (l : Fin 1024) :
    val_main_v25 (F := Ideal) x0 x1 x2 (ix3 b r l)
      = ∑ j : Fin 256, val_main_v21 (F := Ideal) x0 x1
          (ix5 b ⟨l.val / 512, by have := l.isLt; omega⟩ ⟨l.val / 128 % 4, by omega⟩ r j) * x2 (ix3 b j (kl l (dl l))) := by
  unfold val_main_v25 val_main_v24 val_main_v23 val_main_v22
  generalize val_main_v21 (F := Ideal) x0 x1 = p
  unfold kl dl
  simp only [mul_comm (p _)]
  pointwise [val_main_v5, val_main_v4]

/-- The reference's scaled scores. -/
theorem ref_score (b : Fin 8) (r : Fin 256) (l : Fin 1024) (j : Fin 256) :
    val_main_v10 (F := Ideal) x0 x1 (ix5 b ⟨l.val / 512, by have := l.isLt; omega⟩ ⟨l.val / 128 % 4, by omega⟩ r j)
      = score x0 x1 b r l j * ((Real.log 2 : ℝ) : EReal) := by
  have e : Ideal.log (Ideal.ofBits .f32 0x40000000#32) = ((Real.log 2 : ℝ) : EReal) := by
    rw [ofBits_two, Ideal.log_coe, if_neg (by norm_num)]
  have hq : ∀ c : Fin 128, ql l c = ⟨l.val / 512 * 512 + l.val / 128 % 4 * 128 + c.val, by
      have := l.isLt; have := c.isLt; omega⟩ := fun c => Fin.ext (by
    show l.val / 128 * 128 + c.val = l.val / 512 * 512 + l.val / 128 % 4 * 128 + c.val; omega)
  unfold score
  simp only [hq, mul_comm (x0 _)]
  rw [← e]
  unfold kl
  pointwise [val_main_v10, val_main_v9, val_main_v8, val_main_v7, val_main_v6, val_main_v3, val_main_v2, val_main_v1, val_main_v0,
    val_main_cst]

/-- A maximum over the keys. -/
theorem max_apply (p : FVec Ideal S8x2x4x256x256 .f32) (z : FVec Ideal S_ .f32) (b : Fin 8) (g : Fin 2) (h : Fin 4) (r : Fin 256) :
    Host.reduce (FloatOps.maximumf (F := Ideal) (φ := .f32)) p z reducesTo_S8x2x4x256x256_S8x2x4x256_d4 h_S_ (ix4 b g h r)
      = Finset.univ.fold max (z (Shape.Idx.first h_S_)) fun j : Fin 256 => p (ix5 b g h r j) := by
  rw [Host.reduce_eq_fold_single _ p z reducesTo_S8x2x4x256x256_S8x2x4x256_d4 (by decide) h_S_]
  refine Finset.fold_congr fun j _ => ?_
  exact congrArg p (funext fun a => Fin.ext (by match a with | ⟨0, _⟩ => rfl | ⟨1, _⟩ => rfl | ⟨2, _⟩ => rfl | ⟨3, _⟩ => rfl | ⟨4, _⟩ => rfl))

/-- The row maximum the reference subtracts. -/
theorem ref_max (b : Fin 8) (g : Fin 2) (h : Fin 4) (r : Fin 256) :
    val_main_v13 (F := Ideal) x0 x1 (ix4 b g h r)
      = Finset.univ.fold max ⊥ fun j : Fin 256 => val_main_v10 (F := Ideal) x0 x1 (ix5 b g h r j) := by
  rw [val_main_v13_apply, val_main_v12_apply, val_main_cst_1_apply]
  unfold val_main_v11
  rw [max_apply, val_main_cst_0_apply]
  show max (Ideal.ofBits .f32 0xFF800000#32) (Finset.univ.fold max (Ideal.ofBits .f32 0xFF800000#32) _) = _
  rw [ofBits_bot]
  exact max_eq_right bot_le

/-- The reference's unnormalised weights. -/
theorem ref_exp (b : Fin 8) (g : Fin 2) (h : Fin 4) (r : Fin 256) (j : Fin 256) :
    val_main_v17 (F := Ideal) x0 x1 (ix5 b g h r j)
      = Ideal.exp (val_main_v10 (F := Ideal) x0 x1 (ix5 b g h r j)
          - Finset.univ.fold max ⊥ fun j : Fin 256 => val_main_v10 (F := Ideal) x0 x1 (ix5 b g h r j)) := by
  rw [val_main_v17_apply, val_main_v16_apply, val_main_v15_apply, val_main_v14_apply, ← ref_max]
  have e : idx_main_v14 (idx_main_v15 (ix5 b g h r j)) = ix4 b g h r := by
    funext a; match a with | ⟨0, _⟩ => rfl | ⟨1, _⟩ => rfl | ⟨2, _⟩ => rfl | ⟨3, _⟩ => rfl
  rw [e]
  rfl

/-- The reference's weights. -/
theorem ref_weight (b : Fin 8) (g : Fin 2) (h : Fin 4) (r : Fin 256) (j : Fin 256) :
    val_main_v21 (F := Ideal) x0 x1 (ix5 b g h r j)
      = Ideal.div (val_main_v17 (F := Ideal) x0 x1 (ix5 b g h r j)) (∑ j : Fin 256, val_main_v17 (F := Ideal) x0 x1 (ix5 b g h r j)) := by
  rw [val_main_v21_apply, val_main_v20_apply, val_main_v19_apply, val_main_v18_apply, val_main_cst_2_apply]
  have e : ∀ j', idx_main_v18 (idx_main_v19 (idx_main_v20 (ix5 b g h r j))) j' = ix5 b g h r j' := fun j' => by
    funext a; match a with | ⟨0, _⟩ => rfl | ⟨1, _⟩ => rfl | ⟨2, _⟩ => rfl | ⟨3, _⟩ => rfl | ⟨4, _⟩ => rfl
  simp only [e]
  show Ideal.div _ (Ideal.ofBits .f32 0x00000000#32 + _) = _
  rw [Ideal.ofBits_zero_f32, zero_add]

/-- Where every query and every key is a real the reference's result is the kernel's. -/
theorem ref_eq (hq : ∀ i, ∃ r : ℝ, x0 i = (r : EReal)) (hk : ∀ i, ∃ r : ℝ, x1 i = (r : EReal)) :
    val_main_v25 (F := Ideal) x0 x1 x2 = Cert.AttnCtxIdeal.RefValue.G x0 x1 x2 := by
  funext i
  obtain ⟨b, r, l, rfl⟩ : ∃ (b : Fin 8) (r : Fin 256) (l : Fin 1024), i = ix3 b r l := ⟨i 0, i 1, i 2, eq_ix3 i⟩
  show _ = core (score x0 x1 b r l) fun j => x2 (ix3 b j (kl l (dl l)))
  unfold core
  rw [ofBits_bot, Cert.Softmax.mean_eq (by norm_num) (score x0 x1 b r l) _ fun j => Cert.Softmax.exists_real_sum_mul _ _ (fun _ => hq _) fun _ => hk _]
  rw [ref_out]
  simp only [ref_weight, ref_exp, ref_score]

end Cert.AttnCtxRefIdeal.RefValue

namespace Cert.Proof

/-- The precondition says every query and every key is a real. -/
theorem real_of_finite_ctx (q : FVec Ideal Cert.Pre_finite_ctx.S8x256x1024 .bf16) (k v : FVec Ideal Cert.Pre_finite_ctx.S8x256x256 .bf16)
    (h1 : (Cert.Pre_finite_ctx.fn (F := Ideal) q k v).1 = fun _ => 1#1) (h2 : (Cert.Pre_finite_ctx.fn (F := Ideal) q k v).2 = fun _ => 1#1) :
    (∀ i, ∃ r : ℝ, q i = (r : EReal)) ∧ ∀ i, ∃ r : ℝ, k i = (r : EReal) :=
  ⟨fun i => exists_real_of_lt_top _ (congrFun h1 i), fun i => exists_real_of_lt_top _ (congrFun h2 i)⟩

/-- The attention core of the context stream and its reference compute one array of finite queries and keys. -/
theorem algebraic_attn_ctx : Cert.algebraic_AttnCtxIdeal_AttnCtxRefIdeal_pre_finite_ctx := by
  intro m ρ m' ρ' hpre hagree
  refine ⟨fun c => Cert.AttnCtxIdeal.RefValue.res m c, ?_, ?_⟩
  · exact (θ_run Cert.AttnCtxIdeal.defs _ _).mono
      (fun _ h c => ⟨(h c).1.trans (Cert.AttnCtxIdeal.RefValue.final m c), (h c).2⟩)
      (Cert.AttnCtxIdeal.Value.run_blocks (F := Ideal) m ρ)
  · refine (θ_run Cert.AttnCtxRefIdeal.defs _ _).mono
      (fun _ h c => ⟨(h c).1.trans ?_, (h c).2⟩) (Cert.AttnCtxRefIdeal.Value.run (F := Ideal) m' ρ')
    have hr := real_of_finite_ctx _ _ _ (hpre c).1 (hpre c).2
    rw [Cert.AttnCtxRefIdeal.Read.val_main_v25_eq, (hagree c).1, (hagree c).2.1, (hagree c).2.2, Cert.AttnCtxRefIdeal.RefValue.ref_eq _ _ _ hr.1 hr.2]

end Cert.Proof

end
-- ==== Proof.lean ====
/-
  The certificate: every claim, from the generated frames and the value proofs of the kernels.
-/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Read
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Read
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Read
public import proofs.«01_k».proof.Proof.Gen.Oproj.Frame
public import proofs.«01_k».proof.Proof.Gen.OprojIdeal.Frame
public import proofs.«01_k».proof.Proof.Gen.OprojIdeal.Value
public import proofs.«01_k».proof.Proof.Gen.OprojRefIdeal.Read
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Read
public import proofs.«01_k».proof.Proof.Gen.FfnMid.Frame
public import proofs.«01_k».proof.Proof.Gen.FfnMidIdeal.Frame
public import proofs.«01_k».proof.Proof.Gen.FfnMidIdeal.Value
public import proofs.«01_k».proof.Proof.Gen.FfnMidRefIdeal.Read
public import proofs.«01_k».proof.Proof.Gen.FfnCtx.Frame
public import proofs.«01_k».proof.Proof.Gen.FfnCtxIdeal.Frame
public import proofs.«01_k».proof.Proof.Gen.FfnCtxIdeal.Value
public import proofs.«01_k».proof.Proof.Gen.FfnCtxRefIdeal.Read
public import proofs.«01_k».proof.Proof.Gen.ConvCtx.Frame
public import proofs.«01_k».proof.Proof.Gen.ConvCtxIdeal.Frame
public import proofs.«01_k».proof.Proof.Gen.ConvCtxIdeal.Value
public import proofs.«01_k».proof.Proof.Gen.ConvCtxRefIdeal.Read
public import proofs.«01_k».proof.Proof.Gen.QkvCtx.Frame
public import proofs.«01_k».proof.Proof.Gen.QkvCtxIdeal.Frame
public import proofs.«01_k».proof.Proof.Gen.QkvCtxIdeal.Value
public import proofs.«01_k».proof.Proof.Gen.QkvCtxRefIdeal.Read
public import proofs.«01_k».proof.Proof.Gen.OprojCtx.Frame
public import proofs.«01_k».proof.Proof.Gen.OprojCtxIdeal.Frame
public import proofs.«01_k».proof.Proof.Gen.OprojCtxIdeal.Value
public import proofs.«01_k».proof.Proof.Gen.OprojCtxRefIdeal.Read
public import proofs.«01_k».proof.Proof.Gen.AttnCtx.Frame
public import proofs.«01_k».proof.Proof.Gen.AttnCtxIdeal.Frame
public import proofs.«01_k».proof.Proof.Gen.AttnCtxIdeal.Value
public import proofs.«01_k».proof.Proof.Gen.AttnCtxRefIdeal.Read
public import proofs.«01_k».proof.Proof.Gen.Pre_finite
public import proofs.«01_k».proof.Proof.Gen.Pre_finite_ctx
public import proofs.«01_k».proof.Proof.Attn
public import proofs.«01_k».proof.Proof.Ffn
public import proofs.«01_k».proof.Proof.Conv
public import proofs.«01_k».proof.Proof.Qkv
public import proofs.«01_k».proof.Proof.Oproj
public import proofs.«01_k».proof.Proof.Ada
public import proofs.«01_k».proof.Proof.FfnMid
public import proofs.«01_k».proof.Proof.FfnCtx
public import proofs.«01_k».proof.Proof.ConvCtx
public import proofs.«01_k».proof.Proof.QkvCtx
public import proofs.«01_k».proof.Proof.OprojCtx
public import proofs.«01_k».proof.Proof.AttnCtx
public import Idealize.ShloMosaic.Adequacy
public import Idealize.ShloMosaic.Init
public import Idealize.ShloMosaic.Lib.Quiescent

@[expose] public section

noncomputable section

namespace Cert.Proof

open Idealize.ShloMosaic Idealize.SL.Sem

/-- The attention core's reference runs, leaves its arguments unchanged and ends quiescent. -/
theorem frame_attn_ref : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The feed-forward layer's reference runs, leaves its arguments unchanged and ends quiescent. -/
theorem frame_ffn_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The convolution mixer's reference runs, leaves its arguments unchanged and ends quiescent. -/
theorem frame_conv_ref : Cert.quiescent_ConvRefIdeal := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

/-- The query, key and value projection's reference runs, leaves its arguments unchanged and ends quiescent. -/
theorem frame_qkv_ref : Cert.quiescent_QkvRefIdeal := fun m ρ _ =>
  (θ_run Cert.QkvRefIdeal.defs _ _).mono (fun r h => ⟨fun c => (h c).2.2.2, Idealize.ShloMosaic.sem_eq_zero_of_no_sems (by decide) r.2⟩)
    (Cert.QkvRefIdeal.Value.run (F := Ideal) m ρ)

/-- The output projection's reference runs, leaves its arguments unchanged and ends quiescent. -/
theorem frame_oproj_ref : Cert.quiescent_OprojRefIdeal := fun m ρ _ =>
  (θ_run Cert.OprojRefIdeal.defs _ _).mono (fun r h => ⟨fun c => (h c).2, Idealize.ShloMosaic.sem_eq_zero_of_no_sems (by decide) r.2⟩)
    (Cert.OprojRefIdeal.Value.run (F := Ideal) m ρ)

/-- The modulation table's reference runs, leaves its arguments unchanged and ends quiescent. -/
theorem frame_ada_ref : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run (F := Ideal) m ρ)

/-- The inner feed-forward layer's reference runs, leaves its arguments unchanged and ends quiescent. -/
theorem frame_ffnmid_ref : Cert.quiescent_FfnMidRefIdeal := fun m ρ _ =>
  (θ_run Cert.FfnMidRefIdeal.defs _ _).mono (fun r h => ⟨fun c => (h c).2, Idealize.ShloMosaic.sem_eq_zero_of_no_sems (by decide) r.2⟩)
    (Cert.FfnMidRefIdeal.Value.run (F := Ideal) m ρ)

/-- The context feed-forward layer's reference runs, leaves its arguments unchanged and ends quiescent. -/
theorem frame_ffnctx_ref : Cert.quiescent_FfnCtxRefIdeal := fun m ρ _ =>
  (θ_run Cert.FfnCtxRefIdeal.defs _ _).mono (fun r h => ⟨fun c => (h c).2, Idealize.ShloMosaic.sem_eq_zero_of_no_sems (by decide) r.2⟩)
    (Cert.FfnCtxRefIdeal.Value.run (F := Ideal) m ρ)

/-- The context convolution mixer's reference runs, leaves its arguments unchanged and ends quiescent. -/
theorem frame_convctx_ref : Cert.quiescent_ConvCtxRefIdeal := fun m ρ _ =>
  (θ_run Cert.ConvCtxRefIdeal.defs _ _).mono (fun r h => ⟨fun c => (h c).2, Idealize.ShloMosaic.sem_eq_zero_of_no_sems (by decide) r.2⟩)
    (Cert.ConvCtxRefIdeal.Value.run (F := Ideal) m ρ)

/-- The context projection's reference runs, leaves its arguments unchanged and ends quiescent. -/
theorem frame_qkvctx_ref : Cert.quiescent_QkvCtxRefIdeal := fun m ρ _ =>
  (θ_run Cert.QkvCtxRefIdeal.defs _ _).mono (fun r h => ⟨fun c => (h c).2.2.2, Idealize.ShloMosaic.sem_eq_zero_of_no_sems (by decide) r.2⟩)
    (Cert.QkvCtxRefIdeal.Value.run (F := Ideal) m ρ)

/-- The context output projection's reference runs, leaves its arguments unchanged and ends quiescent. -/
theorem frame_oprojctx_ref : Cert.quiescent_OprojCtxRefIdeal := fun m ρ _ =>
  (θ_run Cert.OprojCtxRefIdeal.defs _ _).mono (fun r h => ⟨fun c => (h c).2, Idealize.ShloMosaic.sem_eq_zero_of_no_sems (by decide) r.2⟩)
    (Cert.OprojCtxRefIdeal.Value.run (F := Ideal) m ρ)

/-- The context attention's reference runs, leaves its arguments unchanged and ends quiescent. -/
theorem frame_attnctx_ref : Cert.quiescent_AttnCtxRefIdeal := fun m ρ _ =>
  (θ_run Cert.AttnCtxRefIdeal.defs _ _).mono (fun r h => ⟨fun c => (h c).2, Idealize.ShloMosaic.sem_eq_zero_of_no_sems (by decide) r.2⟩)
    (Cert.AttnCtxRefIdeal.Value.run (F := Ideal) m ρ)

/-- Every claim of the certificate. -/
theorem claim : Cert.Claim := by
  refine ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.Attn.Gen.frame m ρ,
    fun m ρ _ => Cert.AttnIdeal.Gen.frame m ρ,
    fun m ρ _ => Cert.AttnIdeal.Gen.frame m ρ,
    frame_attn_ref,
    fun m ρ _ => frame_attn_ref m ρ trivial,
    fun m ρ _ => Cert.Ffn.Gen.frame m ρ,
    fun m ρ _ => Cert.FfnIdeal.Gen.frame m ρ,
    frame_ffn_ref,
    fun m ρ _ => Cert.Conv.Gen.frame m ρ,
    fun m ρ _ => Cert.ConvIdeal.Gen.frame m ρ,
    frame_conv_ref,
    fun m ρ _ => Cert.Qkv.Gen.frame m ρ,
    fun m ρ _ => Cert.QkvIdeal.Gen.frame m ρ,
    frame_qkv_ref,
    fun m ρ _ => Cert.Oproj.Gen.frame m ρ,
    fun m ρ _ => Cert.OprojIdeal.Gen.frame m ρ,
    frame_oproj_ref,
    fun m ρ _ => Cert.Ada.Gen.frame m ρ,
    fun m ρ _ => Cert.AdaIdeal.Gen.frame m ρ,
    frame_ada_ref,
    fun m ρ _ => Cert.FfnMid.Gen.frame m ρ,
    fun m ρ _ => Cert.FfnMidIdeal.Gen.frame m ρ,
    frame_ffnmid_ref,
    fun m ρ _ => Cert.FfnCtx.Gen.frame m ρ,
    fun m ρ _ => Cert.FfnCtxIdeal.Gen.frame m ρ,
    frame_ffnctx_ref,
    fun m ρ _ => Cert.ConvCtx.Gen.frame m ρ,
    fun m ρ _ => Cert.ConvCtxIdeal.Gen.frame m ρ,
    frame_convctx_ref,
    fun m ρ _ => Cert.QkvCtx.Gen.frame m ρ,
    fun m ρ _ => Cert.QkvCtxIdeal.Gen.frame m ρ,
    frame_qkvctx_ref,
    fun m ρ _ => Cert.OprojCtx.Gen.frame m ρ,
    fun m ρ _ => Cert.OprojCtxIdeal.Gen.frame m ρ,
    frame_oprojctx_ref,
    fun m ρ _ => Cert.AttnCtx.Gen.frame m ρ,
    fun m ρ _ => Cert.AttnCtxIdeal.Gen.frame m ρ,
    fun m ρ _ => Cert.AttnCtxIdeal.Gen.frame m ρ,
    frame_attnctx_ref,
    fun m ρ _ => frame_attnctx_ref m ρ trivial,
    trivial,
    algebraic_attn,
    trivial,
    algebraic_ffn,
    trivial,
    algebraic_conv,
    trivial,
    algebraic_qkv,
    trivial,
    algebraic_oproj,
    trivial,
    algebraic_ada,
    trivial,
    algebraic_ffn_mid,
    trivial,
    algebraic_ffn_ctx,
    trivial,
    algebraic_conv_ctx,
    trivial,
    algebraic_qkv_ctx,
    trivial,
    algebraic_oproj_ctx,
    trivial,
    algebraic_attn_ctx⟩

end Cert.Proof

end
